-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S6x256x1024 : Shape := ⟨3, ![6, 256, 1024]⟩
abbrev S6 : Shape := ⟨1, ![6]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S6x256x1024, .f32⟩
  | .local _ .vmem, ⟨1, _⟩ => ⟨S6x256x1024, .bf16⟩
  | .local _ .vmem, ⟨2, _⟩ => ⟨S6x256x1024, .bf16⟩
  | .local _ .vmem, ⟨3, _⟩ => ⟨S6x256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v13 : BitVec 32 := Scalar.muli v2 c8_i32_5
  let v14 : BitVec 32 := Scalar.addi c0_i32 v13
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v15 : BitVec 32 := Scalar.muli v9 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.muli v8 c1_i32_7
  let v18 : BitVec 32 := Scalar.addi v16 v17
  v18.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v19 : BitVec 32 := Scalar.muli v10 c8_i32_9
  let v20 : BitVec 32 := Scalar.addi c0_i32_10 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_off1 (d0 : Dev nD) (c0_i32_14 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v11 : BitVec 32 := Scalar.muli v2 c16384_i32
  let v25 : BitVec 32 := Scalar.addi v11 c0_i32_14
  let c0_i32_19 : BitVec 32 := 0#32
  ![v25.toNat, 0]
def k0_dev3 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v73 : BitVec 32 := Scalar.muli v2 c8_i32_58
  let v74 : BitVec 32 := Scalar.addi c0_i32_59 v73
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_60 : BitVec 32 := 4#32
  let v75 : BitVec 32 := Scalar.muli v9 c4_i32_60
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v77 : BitVec 32 := Scalar.muli v8 c1_i32_61
  let v78 : BitVec 32 := Scalar.addi v76 v77
  v78.toNat
def k0_dev4 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v99 : BitVec 32 := Scalar.muli v2 c8_i32_81
  let v100 : BitVec 32 := Scalar.addi c0_i32_82 v99
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_83 : BitVec 32 := 4#32
  let v101 : BitVec 32 := Scalar.muli v9 c4_i32_83
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v103 : BitVec 32 := Scalar.muli v8 c1_i32_84
  let v104 : BitVec 32 := Scalar.addi v102 v103
  v104.toNat
def k0_dev5 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v135 : BitVec 32 := Scalar.muli v2 c8_i32_111
  let v136 : BitVec 32 := Scalar.addi c0_i32_112 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_113 : BitVec 32 := 4#32
  let v137 : BitVec 32 := Scalar.muli v9 c4_i32_113
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v139 : BitVec 32 := Scalar.muli v8 c1_i32_114
  let v140 : BitVec 32 := Scalar.addi v138 v139
  v140.toNat
def k0_dev6 (d0 : Dev nD) : Nat :=
  let c0_i32_131 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_130 : BitVec 32 := 8#32
  let v154 : BitVec 32 := Scalar.muli v10 c8_i32_130
  let v155 : BitVec 32 := Scalar.addi c0_i32_131 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v156 : BitVec 32 := Scalar.muli v5 c4_i32_132
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v158 : BitVec 32 := Scalar.muli v8 c1_i32_133
  let v159 : BitVec 32 := Scalar.addi v157 v158
  v159.toNat
def k0_dev7 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v179 : BitVec 32 := Scalar.muli v2 c8_i32_152
  let v180 : BitVec 32 := Scalar.addi c0_i32_153 v179
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_154 : BitVec 32 := 4#32
  let v181 : BitVec 32 := Scalar.muli v9 c4_i32_154
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v183 : BitVec 32 := Scalar.muli v8 c1_i32_155
  let v184 : BitVec 32 := Scalar.addi v182 v183
  v184.toNat
def k0_dev8 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v215 : BitVec 32 := Scalar.muli v2 c8_i32_182
  let v216 : BitVec 32 := Scalar.addi c0_i32_183 v215
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_184 : BitVec 32 := 4#32
  let v217 : BitVec 32 := Scalar.muli v9 c4_i32_184
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v219 : BitVec 32 := Scalar.muli v8 c1_i32_185
  let v220 : BitVec 32 := Scalar.addi v218 v219
  v220.toNat
def k0_dev9 (d0 : Dev nD) : Nat :=
  let c0_i32_202 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_201 : BitVec 32 := 8#32
  let v234 : BitVec 32 := Scalar.muli v10 c8_i32_201
  let v235 : BitVec 32 := Scalar.addi c0_i32_202 v234
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v236 : BitVec 32 := Scalar.muli v5 c4_i32_203
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v238 : BitVec 32 := Scalar.muli v8 c1_i32_204
  let v239 : BitVec 32 := Scalar.addi v237 v238
  v239.toNat
def k0_dev10 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v271 : BitVec 32 := Scalar.muli v2 c8_i32_234
  let v272 : BitVec 32 := Scalar.addi c0_i32_235 v271
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_236 : BitVec 32 := 4#32
  let v273 : BitVec 32 := Scalar.muli v9 c4_i32_236
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v275 : BitVec 32 := Scalar.muli v8 c1_i32_237
  let v276 : BitVec 32 := Scalar.addi v274 v275
  v276.toNat
def k0_dev11 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v307 : BitVec 32 := Scalar.muli v2 c8_i32_264
  let v308 : BitVec 32 := Scalar.addi c0_i32_265 v307
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_266 : BitVec 32 := 4#32
  let v309 : BitVec 32 := Scalar.muli v9 c4_i32_266
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v311 : BitVec 32 := Scalar.muli v8 c1_i32_267
  let v312 : BitVec 32 := Scalar.addi v310 v311
  v312.toNat
def k0_dev12 (d0 : Dev nD) : Nat :=
  let c0_i32_284 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_283 : BitVec 32 := 8#32
  let v326 : BitVec 32 := Scalar.muli v10 c8_i32_283
  let v327 : BitVec 32 := Scalar.addi c0_i32_284 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v328 : BitVec 32 := Scalar.muli v5 c4_i32_285
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v330 : BitVec 32 := Scalar.muli v8 c1_i32_286
  let v331 : BitVec 32 := Scalar.addi v329 v330
  v331.toNat
def k0_dev13 (d0 : Dev nD) : Nat :=
  let c0_i32_317 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_316 : BitVec 32 := 8#32
  let v363 : BitVec 32 := Scalar.muli v2 c8_i32_316
  let v364 : BitVec 32 := Scalar.addi c0_i32_317 v363
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_318 : BitVec 32 := 4#32
  let v365 : BitVec 32 := Scalar.muli v9 c4_i32_318
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v367 : BitVec 32 := Scalar.muli v8 c1_i32_319
  let v368 : BitVec 32 := Scalar.addi v366 v367
  v368.toNat
def k0_dev14 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_346 : BitVec 32 := 8#32
  let v399 : BitVec 32 := Scalar.muli v2 c8_i32_346
  let v400 : BitVec 32 := Scalar.addi c0_i32_347 v399
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_348 : BitVec 32 := 4#32
  let v401 : BitVec 32 := Scalar.muli v9 c4_i32_348
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v403 : BitVec 32 := Scalar.muli v8 c1_i32_349
  let v404 : BitVec 32 := Scalar.addi v402 v403
  v404.toNat
def k0_dev15 (d0 : Dev nD) : Nat :=
  let c0_i32_366 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_365 : BitVec 32 := 8#32
  let v418 : BitVec 32 := Scalar.muli v10 c8_i32_365
  let v419 : BitVec 32 := Scalar.addi c0_i32_366 v418
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_367 : BitVec 32 := 4#32
  let v420 : BitVec 32 := Scalar.muli v5 c4_i32_367
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v422 : BitVec 32 := Scalar.muli v8 c1_i32_368
  let v423 : BitVec 32 := Scalar.addi v421 v422
  v423.toNat
def k0_dev16 (d0 : Dev nD) : Nat :=
  let c0_i32_399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_398 : BitVec 32 := 8#32
  let v455 : BitVec 32 := Scalar.muli v2 c8_i32_398
  let v456 : BitVec 32 := Scalar.addi c0_i32_399 v455
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_400 : BitVec 32 := 4#32
  let v457 : BitVec 32 := Scalar.muli v9 c4_i32_400
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_401 : BitVec 32 := 1#32
  let v459 : BitVec 32 := Scalar.muli v8 c1_i32_401
  let v460 : BitVec 32 := Scalar.addi v458 v459
  v460.toNat
def k0_dev17 (d0 : Dev nD) : Nat :=
  let c0_i32_429 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_428 : BitVec 32 := 8#32
  let v491 : BitVec 32 := Scalar.muli v2 c8_i32_428
  let v492 : BitVec 32 := Scalar.addi c0_i32_429 v491
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_430 : BitVec 32 := 4#32
  let v493 : BitVec 32 := Scalar.muli v9 c4_i32_430
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_431 : BitVec 32 := 1#32
  let v495 : BitVec 32 := Scalar.muli v8 c1_i32_431
  let v496 : BitVec 32 := Scalar.addi v494 v495
  v496.toNat
def k0_dev18 (d0 : Dev nD) : Nat :=
  let c0_i32_448 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_447 : BitVec 32 := 8#32
  let v510 : BitVec 32 := Scalar.muli v10 c8_i32_447
  let v511 : BitVec 32 := Scalar.addi c0_i32_448 v510
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_449 : BitVec 32 := 4#32
  let v512 : BitVec 32 := Scalar.muli v5 c4_i32_449
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v514 : BitVec 32 := Scalar.muli v8 c1_i32_450
  let v515 : BitVec 32 := Scalar.addi v513 v514
  v515.toNat
def k0_dev19 (d0 : Dev nD) : Nat :=
  let c0_i32_493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_492 : BitVec 32 := 8#32
  let v553 : BitVec 32 := Scalar.muli v2 c8_i32_492
  let v554 : BitVec 32 := Scalar.addi c0_i32_493 v553
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_494 : BitVec 32 := 4#32
  let v555 : BitVec 32 := Scalar.muli v9 c4_i32_494
  let v556 : BitVec 32 := Scalar.addi v554 v555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v557 : BitVec 32 := Scalar.muli v8 c1_i32_495
  let v558 : BitVec 32 := Scalar.addi v556 v557
  v558.toNat
def k0_dev20 (d0 : Dev nD) : Nat :=
  let c0_i32_523 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_522 : BitVec 32 := 8#32
  let v589 : BitVec 32 := Scalar.muli v2 c8_i32_522
  let v590 : BitVec 32 := Scalar.addi c0_i32_523 v589
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_524 : BitVec 32 := 4#32
  let v591 : BitVec 32 := Scalar.muli v9 c4_i32_524
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v593 : BitVec 32 := Scalar.muli v8 c1_i32_525
  let v594 : BitVec 32 := Scalar.addi v592 v593
  v594.toNat
def k0_dev21 (d0 : Dev nD) : Nat :=
  let c0_i32_542 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_541 : BitVec 32 := 8#32
  let v608 : BitVec 32 := Scalar.muli v10 c8_i32_541
  let v609 : BitVec 32 := Scalar.addi c0_i32_542 v608
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_543 : BitVec 32 := 4#32
  let v610 : BitVec 32 := Scalar.muli v5 c4_i32_543
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v612 : BitVec 32 := Scalar.muli v8 c1_i32_544
  let v613 : BitVec 32 := Scalar.addi v611 v612
  v613.toNat
def k0_dev22 (d0 : Dev nD) : Nat :=
  let c0_i32_587 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_586 : BitVec 32 := 8#32
  let v651 : BitVec 32 := Scalar.muli v2 c8_i32_586
  let v652 : BitVec 32 := Scalar.addi c0_i32_587 v651
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_588 : BitVec 32 := 4#32
  let v653 : BitVec 32 := Scalar.muli v9 c4_i32_588
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_589 : BitVec 32 := 1#32
  let v655 : BitVec 32 := Scalar.muli v8 c1_i32_589
  let v656 : BitVec 32 := Scalar.addi v654 v655
  v656.toNat
def k0_dev23 (d0 : Dev nD) : Nat :=
  let c0_i32_631 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_630 : BitVec 32 := 8#32
  let v699 : BitVec 32 := Scalar.muli v2 c8_i32_630
  let v700 : BitVec 32 := Scalar.addi c0_i32_631 v699
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_632 : BitVec 32 := 4#32
  let v701 : BitVec 32 := Scalar.muli v9 c4_i32_632
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_633 : BitVec 32 := 1#32
  let v703 : BitVec 32 := Scalar.muli v8 c1_i32_633
  let v704 : BitVec 32 := Scalar.addi v702 v703
  v704.toNat
def k0_dev24 (d0 : Dev nD) : Nat :=
  let c0_i32_650 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_649 : BitVec 32 := 8#32
  let v718 : BitVec 32 := Scalar.muli v10 c8_i32_649
  let v719 : BitVec 32 := Scalar.addi c0_i32_650 v718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_651 : BitVec 32 := 4#32
  let v720 : BitVec 32 := Scalar.muli v5 c4_i32_651
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_652 : BitVec 32 := 1#32
  let v722 : BitVec 32 := Scalar.muli v8 c1_i32_652
  let v723 : BitVec 32 := Scalar.addi v721 v722
  v723.toNat
def k0_dev25 (d0 : Dev nD) : Nat :=
  let c0_i32_695 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_694 : BitVec 32 := 8#32
  let v761 : BitVec 32 := Scalar.muli v2 c8_i32_694
  let v762 : BitVec 32 := Scalar.addi c0_i32_695 v761
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_696 : BitVec 32 := 4#32
  let v763 : BitVec 32 := Scalar.muli v9 c4_i32_696
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_697 : BitVec 32 := 1#32
  let v765 : BitVec 32 := Scalar.muli v8 c1_i32_697
  let v766 : BitVec 32 := Scalar.addi v764 v765
  v766.toNat
def k0_dev26 (d0 : Dev nD) : Nat :=
  let c0_i32_739 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_738 : BitVec 32 := 8#32
  let v809 : BitVec 32 := Scalar.muli v2 c8_i32_738
  let v810 : BitVec 32 := Scalar.addi c0_i32_739 v809
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_740 : BitVec 32 := 4#32
  let v811 : BitVec 32 := Scalar.muli v9 c4_i32_740
  let v812 : BitVec 32 := Scalar.addi v810 v811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_741 : BitVec 32 := 1#32
  let v813 : BitVec 32 := Scalar.muli v8 c1_i32_741
  let v814 : BitVec 32 := Scalar.addi v812 v813
  v814.toNat
def k0_dev27 (d0 : Dev nD) : Nat :=
  let c0_i32_758 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_757 : BitVec 32 := 8#32
  let v828 : BitVec 32 := Scalar.muli v10 c8_i32_757
  let v829 : BitVec 32 := Scalar.addi c0_i32_758 v828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_759 : BitVec 32 := 4#32
  let v830 : BitVec 32 := Scalar.muli v5 c4_i32_759
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_760 : BitVec 32 := 1#32
  let v832 : BitVec 32 := Scalar.muli v8 c1_i32_760
  let v833 : BitVec 32 := Scalar.addi v831 v832
  v833.toNat
def k0_dev28 (d0 : Dev nD) : Nat :=
  let c0_i32_803 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_802 : BitVec 32 := 8#32
  let v871 : BitVec 32 := Scalar.muli v2 c8_i32_802
  let v872 : BitVec 32 := Scalar.addi c0_i32_803 v871
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_804 : BitVec 32 := 4#32
  let v873 : BitVec 32 := Scalar.muli v9 c4_i32_804
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_805 : BitVec 32 := 1#32
  let v875 : BitVec 32 := Scalar.muli v8 c1_i32_805
  let v876 : BitVec 32 := Scalar.addi v874 v875
  v876.toNat
def k0_dev29 (d0 : Dev nD) : Nat :=
  let c0_i32_847 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_846 : BitVec 32 := 8#32
  let v919 : BitVec 32 := Scalar.muli v2 c8_i32_846
  let v920 : BitVec 32 := Scalar.addi c0_i32_847 v919
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_848 : BitVec 32 := 4#32
  let v921 : BitVec 32 := Scalar.muli v9 c4_i32_848
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v923 : BitVec 32 := Scalar.muli v8 c1_i32_849
  let v924 : BitVec 32 := Scalar.addi v922 v923
  v924.toNat
def k0_dev30 (d0 : Dev nD) : Nat :=
  let c0_i32_866 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_865 : BitVec 32 := 8#32
  let v938 : BitVec 32 := Scalar.muli v10 c8_i32_865
  let v939 : BitVec 32 := Scalar.addi c0_i32_866 v938
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v940 : BitVec 32 := Scalar.muli v5 c4_i32_867
  let v941 : BitVec 32 := Scalar.addi v939 v940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_868 : BitVec 32 := 1#32
  let v942 : BitVec 32 := Scalar.muli v8 c1_i32_868
  let v943 : BitVec 32 := Scalar.addi v941 v942
  v943.toNat
def k0_dev31 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_910 : BitVec 32 := 8#32
  let v981 : BitVec 32 := Scalar.muli v2 c8_i32_910
  let v982 : BitVec 32 := Scalar.addi c0_i32_911 v981
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_912 : BitVec 32 := 4#32
  let v983 : BitVec 32 := Scalar.muli v9 c4_i32_912
  let v984 : BitVec 32 := Scalar.addi v982 v983
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v985 : BitVec 32 := Scalar.muli v8 c1_i32_913
  let v986 : BitVec 32 := Scalar.addi v984 v985
  v986.toNat
def k0_dev32 (d0 : Dev nD) : Nat :=
  let c0_i32_955 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_954 : BitVec 32 := 8#32
  let v1029 : BitVec 32 := Scalar.muli v2 c8_i32_954
  let v1030 : BitVec 32 := Scalar.addi c0_i32_955 v1029
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_956 : BitVec 32 := 4#32
  let v1031 : BitVec 32 := Scalar.muli v9 c4_i32_956
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v1033 : BitVec 32 := Scalar.muli v8 c1_i32_957
  let v1034 : BitVec 32 := Scalar.addi v1032 v1033
  v1034.toNat
def k0_dev33 (d0 : Dev nD) : Nat :=
  let c0_i32_974 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_973 : BitVec 32 := 8#32
  let v1048 : BitVec 32 := Scalar.muli v10 c8_i32_973
  let v1049 : BitVec 32 := Scalar.addi c0_i32_974 v1048
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_975 : BitVec 32 := 4#32
  let v1050 : BitVec 32 := Scalar.muli v5 c4_i32_975
  let v1051 : BitVec 32 := Scalar.addi v1049 v1050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_976 : BitVec 32 := 1#32
  let v1052 : BitVec 32 := Scalar.muli v8 c1_i32_976
  let v1053 : BitVec 32 := Scalar.addi v1051 v1052
  v1053.toNat
def k0_dev34 (d0 : Dev nD) : Nat :=
  let c0_i32_1019 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1018 : BitVec 32 := 8#32
  let v1091 : BitVec 32 := Scalar.muli v2 c8_i32_1018
  let v1092 : BitVec 32 := Scalar.addi c0_i32_1019 v1091
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1020 : BitVec 32 := 4#32
  let v1093 : BitVec 32 := Scalar.muli v9 c4_i32_1020
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1021 : BitVec 32 := 1#32
  let v1095 : BitVec 32 := Scalar.muli v8 c1_i32_1021
  let v1096 : BitVec 32 := Scalar.addi v1094 v1095
  v1096.toNat
def k0_dev35 (d0 : Dev nD) : Nat :=
  let c0_i32_1063 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1062 : BitVec 32 := 8#32
  let v1139 : BitVec 32 := Scalar.muli v2 c8_i32_1062
  let v1140 : BitVec 32 := Scalar.addi c0_i32_1063 v1139
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1064 : BitVec 32 := 4#32
  let v1141 : BitVec 32 := Scalar.muli v9 c4_i32_1064
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1143 : BitVec 32 := Scalar.muli v8 c1_i32_1065
  let v1144 : BitVec 32 := Scalar.addi v1142 v1143
  v1144.toNat
def k0_dev36 (d0 : Dev nD) : Nat :=
  let c0_i32_1082 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1081 : BitVec 32 := 8#32
  let v1158 : BitVec 32 := Scalar.muli v10 c8_i32_1081
  let v1159 : BitVec 32 := Scalar.addi c0_i32_1082 v1158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1083 : BitVec 32 := 4#32
  let v1160 : BitVec 32 := Scalar.muli v5 c4_i32_1083
  let v1161 : BitVec 32 := Scalar.addi v1159 v1160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1162 : BitVec 32 := Scalar.muli v8 c1_i32_1084
  let v1163 : BitVec 32 := Scalar.addi v1161 v1162
  v1163.toNat
def k0_dev37 (d0 : Dev nD) : Nat :=
  let c0_i32_1127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1126 : BitVec 32 := 8#32
  let v1201 : BitVec 32 := Scalar.muli v2 c8_i32_1126
  let v1202 : BitVec 32 := Scalar.addi c0_i32_1127 v1201
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1128 : BitVec 32 := 4#32
  let v1203 : BitVec 32 := Scalar.muli v9 c4_i32_1128
  let v1204 : BitVec 32 := Scalar.addi v1202 v1203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1129 : BitVec 32 := 1#32
  let v1205 : BitVec 32 := Scalar.muli v8 c1_i32_1129
  let v1206 : BitVec 32 := Scalar.addi v1204 v1205
  v1206.toNat
def k0_dev38 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1170 : BitVec 32 := 8#32
  let v1249 : BitVec 32 := Scalar.muli v2 c8_i32_1170
  let v1250 : BitVec 32 := Scalar.addi c0_i32_1171 v1249
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1172 : BitVec 32 := 4#32
  let v1251 : BitVec 32 := Scalar.muli v9 c4_i32_1172
  let v1252 : BitVec 32 := Scalar.addi v1250 v1251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1253 : BitVec 32 := Scalar.muli v8 c1_i32_1173
  let v1254 : BitVec 32 := Scalar.addi v1252 v1253
  v1254.toNat
def k0_dev39 (d0 : Dev nD) : Nat :=
  let c0_i32_1190 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1189 : BitVec 32 := 8#32
  let v1268 : BitVec 32 := Scalar.muli v10 c8_i32_1189
  let v1269 : BitVec 32 := Scalar.addi c0_i32_1190 v1268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1191 : BitVec 32 := 4#32
  let v1270 : BitVec 32 := Scalar.muli v5 c4_i32_1191
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1192 : BitVec 32 := 1#32
  let v1272 : BitVec 32 := Scalar.muli v8 c1_i32_1192
  let v1273 : BitVec 32 := Scalar.addi v1271 v1272
  v1273.toNat
def k0_dev40 (d0 : Dev nD) : Nat :=
  let c0_i32_1235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1234 : BitVec 32 := 8#32
  let v1311 : BitVec 32 := Scalar.muli v2 c8_i32_1234
  let v1312 : BitVec 32 := Scalar.addi c0_i32_1235 v1311
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1236 : BitVec 32 := 4#32
  let v1313 : BitVec 32 := Scalar.muli v9 c4_i32_1236
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1237 : BitVec 32 := 1#32
  let v1315 : BitVec 32 := Scalar.muli v8 c1_i32_1237
  let v1316 : BitVec 32 := Scalar.addi v1314 v1315
  v1316.toNat
def k0_dev41 (d0 : Dev nD) : Nat :=
  let c0_i32_1279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1278 : BitVec 32 := 8#32
  let v1359 : BitVec 32 := Scalar.muli v2 c8_i32_1278
  let v1360 : BitVec 32 := Scalar.addi c0_i32_1279 v1359
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1280 : BitVec 32 := 4#32
  let v1361 : BitVec 32 := Scalar.muli v9 c4_i32_1280
  let v1362 : BitVec 32 := Scalar.addi v1360 v1361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1281 : BitVec 32 := 1#32
  let v1363 : BitVec 32 := Scalar.muli v8 c1_i32_1281
  let v1364 : BitVec 32 := Scalar.addi v1362 v1363
  v1364.toNat
def k0_dev42 (d0 : Dev nD) : Nat :=
  let c0_i32_1298 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1297 : BitVec 32 := 8#32
  let v1378 : BitVec 32 := Scalar.muli v10 c8_i32_1297
  let v1379 : BitVec 32 := Scalar.addi c0_i32_1298 v1378
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1299 : BitVec 32 := 4#32
  let v1380 : BitVec 32 := Scalar.muli v5 c4_i32_1299
  let v1381 : BitVec 32 := Scalar.addi v1379 v1380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1300 : BitVec 32 := 1#32
  let v1382 : BitVec 32 := Scalar.muli v8 c1_i32_1300
  let v1383 : BitVec 32 := Scalar.addi v1381 v1382
  v1383.toNat
def k0_dev43 (d0 : Dev nD) : Nat :=
  let c0_i32_1343 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1342 : BitVec 32 := 8#32
  let v1421 : BitVec 32 := Scalar.muli v2 c8_i32_1342
  let v1422 : BitVec 32 := Scalar.addi c0_i32_1343 v1421
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1344 : BitVec 32 := 4#32
  let v1423 : BitVec 32 := Scalar.muli v9 c4_i32_1344
  let v1424 : BitVec 32 := Scalar.addi v1422 v1423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1425 : BitVec 32 := Scalar.muli v8 c1_i32_1345
  let v1426 : BitVec 32 := Scalar.addi v1424 v1425
  v1426.toNat
def k0_dev44 (d0 : Dev nD) : Nat :=
  let c0_i32_1387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1386 : BitVec 32 := 8#32
  let v1469 : BitVec 32 := Scalar.muli v2 c8_i32_1386
  let v1470 : BitVec 32 := Scalar.addi c0_i32_1387 v1469
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1388 : BitVec 32 := 4#32
  let v1471 : BitVec 32 := Scalar.muli v9 c4_i32_1388
  let v1472 : BitVec 32 := Scalar.addi v1470 v1471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1389 : BitVec 32 := 1#32
  let v1473 : BitVec 32 := Scalar.muli v8 c1_i32_1389
  let v1474 : BitVec 32 := Scalar.addi v1472 v1473
  v1474.toNat
def k0_dev45 (d0 : Dev nD) : Nat :=
  let c0_i32_1406 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1405 : BitVec 32 := 8#32
  let v1488 : BitVec 32 := Scalar.muli v10 c8_i32_1405
  let v1489 : BitVec 32 := Scalar.addi c0_i32_1406 v1488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1407 : BitVec 32 := 4#32
  let v1490 : BitVec 32 := Scalar.muli v5 c4_i32_1407
  let v1491 : BitVec 32 := Scalar.addi v1489 v1490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1408 : BitVec 32 := 1#32
  let v1492 : BitVec 32 := Scalar.muli v8 c1_i32_1408
  let v1493 : BitVec 32 := Scalar.addi v1491 v1492
  v1493.toNat
def k0_dev46 (d0 : Dev nD) : Nat :=
  let c0_i32_1451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1450 : BitVec 32 := 8#32
  let v1531 : BitVec 32 := Scalar.muli v2 c8_i32_1450
  let v1532 : BitVec 32 := Scalar.addi c0_i32_1451 v1531
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1452 : BitVec 32 := 4#32
  let v1533 : BitVec 32 := Scalar.muli v9 c4_i32_1452
  let v1534 : BitVec 32 := Scalar.addi v1532 v1533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1453 : BitVec 32 := 1#32
  let v1535 : BitVec 32 := Scalar.muli v8 c1_i32_1453
  let v1536 : BitVec 32 := Scalar.addi v1534 v1535
  v1536.toNat
def k0_dev47 (d0 : Dev nD) : Nat :=
  let c0_i32_1495 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1494 : BitVec 32 := 8#32
  let v1579 : BitVec 32 := Scalar.muli v2 c8_i32_1494
  let v1580 : BitVec 32 := Scalar.addi c0_i32_1495 v1579
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1496 : BitVec 32 := 4#32
  let v1581 : BitVec 32 := Scalar.muli v9 c4_i32_1496
  let v1582 : BitVec 32 := Scalar.addi v1580 v1581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1497 : BitVec 32 := 1#32
  let v1583 : BitVec 32 := Scalar.muli v8 c1_i32_1497
  let v1584 : BitVec 32 := Scalar.addi v1582 v1583
  v1584.toNat
def k0_dev48 (d0 : Dev nD) : Nat :=
  let c0_i32_1514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1513 : BitVec 32 := 8#32
  let v1598 : BitVec 32 := Scalar.muli v10 c8_i32_1513
  let v1599 : BitVec 32 := Scalar.addi c0_i32_1514 v1598
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1515 : BitVec 32 := 4#32
  let v1600 : BitVec 32 := Scalar.muli v5 c4_i32_1515
  let v1601 : BitVec 32 := Scalar.addi v1599 v1600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1516 : BitVec 32 := 1#32
  let v1602 : BitVec 32 := Scalar.muli v8 c1_i32_1516
  let v1603 : BitVec 32 := Scalar.addi v1601 v1602
  v1603.toNat
def k0_dev49 (d0 : Dev nD) : Nat :=
  let c0_i32_1559 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1558 : BitVec 32 := 8#32
  let v1641 : BitVec 32 := Scalar.muli v2 c8_i32_1558
  let v1642 : BitVec 32 := Scalar.addi c0_i32_1559 v1641
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1560 : BitVec 32 := 4#32
  let v1643 : BitVec 32 := Scalar.muli v9 c4_i32_1560
  let v1644 : BitVec 32 := Scalar.addi v1642 v1643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1561 : BitVec 32 := 1#32
  let v1645 : BitVec 32 := Scalar.muli v8 c1_i32_1561
  let v1646 : BitVec 32 := Scalar.addi v1644 v1645
  v1646.toNat
def k0_dev50 (d0 : Dev nD) : Nat :=
  let c0_i32_1603 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1602 : BitVec 32 := 8#32
  let v1689 : BitVec 32 := Scalar.muli v2 c8_i32_1602
  let v1690 : BitVec 32 := Scalar.addi c0_i32_1603 v1689
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1604 : BitVec 32 := 4#32
  let v1691 : BitVec 32 := Scalar.muli v9 c4_i32_1604
  let v1692 : BitVec 32 := Scalar.addi v1690 v1691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1605 : BitVec 32 := 1#32
  let v1693 : BitVec 32 := Scalar.muli v8 c1_i32_1605
  let v1694 : BitVec 32 := Scalar.addi v1692 v1693
  v1694.toNat
def k0_dev51 (d0 : Dev nD) : Nat :=
  let c0_i32_1622 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1621 : BitVec 32 := 8#32
  let v1708 : BitVec 32 := Scalar.muli v10 c8_i32_1621
  let v1709 : BitVec 32 := Scalar.addi c0_i32_1622 v1708
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1623 : BitVec 32 := 4#32
  let v1710 : BitVec 32 := Scalar.muli v5 c4_i32_1623
  let v1711 : BitVec 32 := Scalar.addi v1709 v1710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1624 : BitVec 32 := 1#32
  let v1712 : BitVec 32 := Scalar.muli v8 c1_i32_1624
  let v1713 : BitVec 32 := Scalar.addi v1711 v1712
  v1713.toNat
def k0_dev52 (d0 : Dev nD) : Nat :=
  let c0_i32_1667 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1666 : BitVec 32 := 8#32
  let v1751 : BitVec 32 := Scalar.muli v2 c8_i32_1666
  let v1752 : BitVec 32 := Scalar.addi c0_i32_1667 v1751
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1668 : BitVec 32 := 4#32
  let v1753 : BitVec 32 := Scalar.muli v9 c4_i32_1668
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1669 : BitVec 32 := 1#32
  let v1755 : BitVec 32 := Scalar.muli v8 c1_i32_1669
  let v1756 : BitVec 32 := Scalar.addi v1754 v1755
  v1756.toNat
def k0_dev53 (d0 : Dev nD) : Nat :=
  let c0_i32_1711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1710 : BitVec 32 := 8#32
  let v1799 : BitVec 32 := Scalar.muli v2 c8_i32_1710
  let v1800 : BitVec 32 := Scalar.addi c0_i32_1711 v1799
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1712 : BitVec 32 := 4#32
  let v1801 : BitVec 32 := Scalar.muli v9 c4_i32_1712
  let v1802 : BitVec 32 := Scalar.addi v1800 v1801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1713 : BitVec 32 := 1#32
  let v1803 : BitVec 32 := Scalar.muli v8 c1_i32_1713
  let v1804 : BitVec 32 := Scalar.addi v1802 v1803
  v1804.toNat
def k0_dev54 (d0 : Dev nD) : Nat :=
  let c0_i32_1730 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1729 : BitVec 32 := 8#32
  let v1818 : BitVec 32 := Scalar.muli v10 c8_i32_1729
  let v1819 : BitVec 32 := Scalar.addi c0_i32_1730 v1818
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1731 : BitVec 32 := 4#32
  let v1820 : BitVec 32 := Scalar.muli v5 c4_i32_1731
  let v1821 : BitVec 32 := Scalar.addi v1819 v1820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1822 : BitVec 32 := Scalar.muli v8 c1_i32_1732
  let v1823 : BitVec 32 := Scalar.addi v1821 v1822
  v1823.toNat
def k0_dev55 (d0 : Dev nD) : Nat :=
  let c0_i32_1775 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1774 : BitVec 32 := 8#32
  let v1861 : BitVec 32 := Scalar.muli v2 c8_i32_1774
  let v1862 : BitVec 32 := Scalar.addi c0_i32_1775 v1861
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1776 : BitVec 32 := 4#32
  let v1863 : BitVec 32 := Scalar.muli v9 c4_i32_1776
  let v1864 : BitVec 32 := Scalar.addi v1862 v1863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1777 : BitVec 32 := 1#32
  let v1865 : BitVec 32 := Scalar.muli v8 c1_i32_1777
  let v1866 : BitVec 32 := Scalar.addi v1864 v1865
  v1866.toNat
def k0_dev56 (d0 : Dev nD) : Nat :=
  let c0_i32_1819 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1818 : BitVec 32 := 8#32
  let v1909 : BitVec 32 := Scalar.muli v2 c8_i32_1818
  let v1910 : BitVec 32 := Scalar.addi c0_i32_1819 v1909
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1820 : BitVec 32 := 4#32
  let v1911 : BitVec 32 := Scalar.muli v9 c4_i32_1820
  let v1912 : BitVec 32 := Scalar.addi v1910 v1911
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1821 : BitVec 32 := 1#32
  let v1913 : BitVec 32 := Scalar.muli v8 c1_i32_1821
  let v1914 : BitVec 32 := Scalar.addi v1912 v1913
  v1914.toNat
def k0_dev57 (d0 : Dev nD) : Nat :=
  let c0_i32_1838 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1837 : BitVec 32 := 8#32
  let v1928 : BitVec 32 := Scalar.muli v10 c8_i32_1837
  let v1929 : BitVec 32 := Scalar.addi c0_i32_1838 v1928
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1839 : BitVec 32 := 4#32
  let v1930 : BitVec 32 := Scalar.muli v5 c4_i32_1839
  let v1931 : BitVec 32 := Scalar.addi v1929 v1930
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1840 : BitVec 32 := 1#32
  let v1932 : BitVec 32 := Scalar.muli v8 c1_i32_1840
  let v1933 : BitVec 32 := Scalar.addi v1931 v1932
  v1933.toNat
def k0_dev58 (d0 : Dev nD) : Nat :=
  let c0_i32_1883 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1882 : BitVec 32 := 8#32
  let v1971 : BitVec 32 := Scalar.muli v2 c8_i32_1882
  let v1972 : BitVec 32 := Scalar.addi c0_i32_1883 v1971
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1884 : BitVec 32 := 4#32
  let v1973 : BitVec 32 := Scalar.muli v9 c4_i32_1884
  let v1974 : BitVec 32 := Scalar.addi v1972 v1973
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1885 : BitVec 32 := 1#32
  let v1975 : BitVec 32 := Scalar.muli v8 c1_i32_1885
  let v1976 : BitVec 32 := Scalar.addi v1974 v1975
  v1976.toNat
def k0_dev59 (d0 : Dev nD) : Nat :=
  let c0_i32_1927 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1926 : BitVec 32 := 8#32
  let v2019 : BitVec 32 := Scalar.muli v2 c8_i32_1926
  let v2020 : BitVec 32 := Scalar.addi c0_i32_1927 v2019
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1928 : BitVec 32 := 4#32
  let v2021 : BitVec 32 := Scalar.muli v9 c4_i32_1928
  let v2022 : BitVec 32 := Scalar.addi v2020 v2021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1929 : BitVec 32 := 1#32
  let v2023 : BitVec 32 := Scalar.muli v8 c1_i32_1929
  let v2024 : BitVec 32 := Scalar.addi v2022 v2023
  v2024.toNat
def k0_dev60 (d0 : Dev nD) : Nat :=
  let c0_i32_1946 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1945 : BitVec 32 := 8#32
  let v2038 : BitVec 32 := Scalar.muli v10 c8_i32_1945
  let v2039 : BitVec 32 := Scalar.addi c0_i32_1946 v2038
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1947 : BitVec 32 := 4#32
  let v2040 : BitVec 32 := Scalar.muli v5 c4_i32_1947
  let v2041 : BitVec 32 := Scalar.addi v2039 v2040
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1948 : BitVec 32 := 1#32
  let v2042 : BitVec 32 := Scalar.muli v8 c1_i32_1948
  let v2043 : BitVec 32 := Scalar.addi v2041 v2042
  v2043.toNat
def k0_dev61 (d0 : Dev nD) : Nat :=
  let c0_i32_1991 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1990 : BitVec 32 := 8#32
  let v2081 : BitVec 32 := Scalar.muli v2 c8_i32_1990
  let v2082 : BitVec 32 := Scalar.addi c0_i32_1991 v2081
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_1992 : BitVec 32 := 4#32
  let v2083 : BitVec 32 := Scalar.muli v9 c4_i32_1992
  let v2084 : BitVec 32 := Scalar.addi v2082 v2083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1993 : BitVec 32 := 1#32
  let v2085 : BitVec 32 := Scalar.muli v8 c1_i32_1993
  let v2086 : BitVec 32 := Scalar.addi v2084 v2085
  v2086.toNat
def k0_dev62 (d0 : Dev nD) : Nat :=
  let c0_i32_2035 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2034 : BitVec 32 := 8#32
  let v2129 : BitVec 32 := Scalar.muli v2 c8_i32_2034
  let v2130 : BitVec 32 := Scalar.addi c0_i32_2035 v2129
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2036 : BitVec 32 := 4#32
  let v2131 : BitVec 32 := Scalar.muli v9 c4_i32_2036
  let v2132 : BitVec 32 := Scalar.addi v2130 v2131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2037 : BitVec 32 := 1#32
  let v2133 : BitVec 32 := Scalar.muli v8 c1_i32_2037
  let v2134 : BitVec 32 := Scalar.addi v2132 v2133
  v2134.toNat
def k0_dev63 (d0 : Dev nD) : Nat :=
  let c0_i32_2054 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2053 : BitVec 32 := 8#32
  let v2148 : BitVec 32 := Scalar.muli v10 c8_i32_2053
  let v2149 : BitVec 32 := Scalar.addi c0_i32_2054 v2148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2055 : BitVec 32 := 4#32
  let v2150 : BitVec 32 := Scalar.muli v5 c4_i32_2055
  let v2151 : BitVec 32 := Scalar.addi v2149 v2150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2056 : BitVec 32 := 1#32
  let v2152 : BitVec 32 := Scalar.muli v8 c1_i32_2056
  let v2153 : BitVec 32 := Scalar.addi v2151 v2152
  v2153.toNat
def k0_dev64 (d0 : Dev nD) : Nat :=
  let c0_i32_2099 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2098 : BitVec 32 := 8#32
  let v2191 : BitVec 32 := Scalar.muli v2 c8_i32_2098
  let v2192 : BitVec 32 := Scalar.addi c0_i32_2099 v2191
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2100 : BitVec 32 := 4#32
  let v2193 : BitVec 32 := Scalar.muli v9 c4_i32_2100
  let v2194 : BitVec 32 := Scalar.addi v2192 v2193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2101 : BitVec 32 := 1#32
  let v2195 : BitVec 32 := Scalar.muli v8 c1_i32_2101
  let v2196 : BitVec 32 := Scalar.addi v2194 v2195
  v2196.toNat
def k0_dev65 (d0 : Dev nD) : Nat :=
  let c0_i32_2143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2142 : BitVec 32 := 8#32
  let v2239 : BitVec 32 := Scalar.muli v2 c8_i32_2142
  let v2240 : BitVec 32 := Scalar.addi c0_i32_2143 v2239
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2144 : BitVec 32 := 4#32
  let v2241 : BitVec 32 := Scalar.muli v9 c4_i32_2144
  let v2242 : BitVec 32 := Scalar.addi v2240 v2241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2145 : BitVec 32 := 1#32
  let v2243 : BitVec 32 := Scalar.muli v8 c1_i32_2145
  let v2244 : BitVec 32 := Scalar.addi v2242 v2243
  v2244.toNat
def k0_dev66 (d0 : Dev nD) : Nat :=
  let c0_i32_2162 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2161 : BitVec 32 := 8#32
  let v2258 : BitVec 32 := Scalar.muli v10 c8_i32_2161
  let v2259 : BitVec 32 := Scalar.addi c0_i32_2162 v2258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2163 : BitVec 32 := 4#32
  let v2260 : BitVec 32 := Scalar.muli v5 c4_i32_2163
  let v2261 : BitVec 32 := Scalar.addi v2259 v2260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2164 : BitVec 32 := 1#32
  let v2262 : BitVec 32 := Scalar.muli v8 c1_i32_2164
  let v2263 : BitVec 32 := Scalar.addi v2261 v2262
  v2263.toNat
def k0_dev67 (d0 : Dev nD) : Nat :=
  let c0_i32_2207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2206 : BitVec 32 := 8#32
  let v2301 : BitVec 32 := Scalar.muli v2 c8_i32_2206
  let v2302 : BitVec 32 := Scalar.addi c0_i32_2207 v2301
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2208 : BitVec 32 := 4#32
  let v2303 : BitVec 32 := Scalar.muli v9 c4_i32_2208
  let v2304 : BitVec 32 := Scalar.addi v2302 v2303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2209 : BitVec 32 := 1#32
  let v2305 : BitVec 32 := Scalar.muli v8 c1_i32_2209
  let v2306 : BitVec 32 := Scalar.addi v2304 v2305
  v2306.toNat
def k0_dev68 (d0 : Dev nD) : Nat :=
  let c0_i32_2251 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2250 : BitVec 32 := 8#32
  let v2349 : BitVec 32 := Scalar.muli v2 c8_i32_2250
  let v2350 : BitVec 32 := Scalar.addi c0_i32_2251 v2349
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2252 : BitVec 32 := 4#32
  let v2351 : BitVec 32 := Scalar.muli v9 c4_i32_2252
  let v2352 : BitVec 32 := Scalar.addi v2350 v2351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2253 : BitVec 32 := 1#32
  let v2353 : BitVec 32 := Scalar.muli v8 c1_i32_2253
  let v2354 : BitVec 32 := Scalar.addi v2352 v2353
  v2354.toNat
def k0_dev69 (d0 : Dev nD) : Nat :=
  let c0_i32_2270 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2269 : BitVec 32 := 8#32
  let v2368 : BitVec 32 := Scalar.muli v10 c8_i32_2269
  let v2369 : BitVec 32 := Scalar.addi c0_i32_2270 v2368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2271 : BitVec 32 := 4#32
  let v2370 : BitVec 32 := Scalar.muli v5 c4_i32_2271
  let v2371 : BitVec 32 := Scalar.addi v2369 v2370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2272 : BitVec 32 := 1#32
  let v2372 : BitVec 32 := Scalar.muli v8 c1_i32_2272
  let v2373 : BitVec 32 := Scalar.addi v2371 v2372
  v2373.toNat
def k0_dev70 (d0 : Dev nD) : Nat :=
  let c0_i32_2315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2314 : BitVec 32 := 8#32
  let v2411 : BitVec 32 := Scalar.muli v2 c8_i32_2314
  let v2412 : BitVec 32 := Scalar.addi c0_i32_2315 v2411
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2316 : BitVec 32 := 4#32
  let v2413 : BitVec 32 := Scalar.muli v9 c4_i32_2316
  let v2414 : BitVec 32 := Scalar.addi v2412 v2413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2317 : BitVec 32 := 1#32
  let v2415 : BitVec 32 := Scalar.muli v8 c1_i32_2317
  let v2416 : BitVec 32 := Scalar.addi v2414 v2415
  v2416.toNat
def k0_dev71 (d0 : Dev nD) : Nat :=
  let c0_i32_2359 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2358 : BitVec 32 := 8#32
  let v2459 : BitVec 32 := Scalar.muli v2 c8_i32_2358
  let v2460 : BitVec 32 := Scalar.addi c0_i32_2359 v2459
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2360 : BitVec 32 := 4#32
  let v2461 : BitVec 32 := Scalar.muli v9 c4_i32_2360
  let v2462 : BitVec 32 := Scalar.addi v2460 v2461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2361 : BitVec 32 := 1#32
  let v2463 : BitVec 32 := Scalar.muli v8 c1_i32_2361
  let v2464 : BitVec 32 := Scalar.addi v2462 v2463
  v2464.toNat
def k0_dev72 (d0 : Dev nD) : Nat :=
  let c0_i32_2378 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2377 : BitVec 32 := 8#32
  let v2478 : BitVec 32 := Scalar.muli v10 c8_i32_2377
  let v2479 : BitVec 32 := Scalar.addi c0_i32_2378 v2478
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2379 : BitVec 32 := 4#32
  let v2480 : BitVec 32 := Scalar.muli v5 c4_i32_2379
  let v2481 : BitVec 32 := Scalar.addi v2479 v2480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2380 : BitVec 32 := 1#32
  let v2482 : BitVec 32 := Scalar.muli v8 c1_i32_2380
  let v2483 : BitVec 32 := Scalar.addi v2481 v2482
  v2483.toNat
def k0_dev73 (d0 : Dev nD) : Nat :=
  let c0_i32_2423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2422 : BitVec 32 := 8#32
  let v2521 : BitVec 32 := Scalar.muli v2 c8_i32_2422
  let v2522 : BitVec 32 := Scalar.addi c0_i32_2423 v2521
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2424 : BitVec 32 := 4#32
  let v2523 : BitVec 32 := Scalar.muli v9 c4_i32_2424
  let v2524 : BitVec 32 := Scalar.addi v2522 v2523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2425 : BitVec 32 := 1#32
  let v2525 : BitVec 32 := Scalar.muli v8 c1_i32_2425
  let v2526 : BitVec 32 := Scalar.addi v2524 v2525
  v2526.toNat
def k0_dev74 (d0 : Dev nD) : Nat :=
  let c0_i32_2467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2466 : BitVec 32 := 8#32
  let v2569 : BitVec 32 := Scalar.muli v2 c8_i32_2466
  let v2570 : BitVec 32 := Scalar.addi c0_i32_2467 v2569
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2468 : BitVec 32 := 4#32
  let v2571 : BitVec 32 := Scalar.muli v9 c4_i32_2468
  let v2572 : BitVec 32 := Scalar.addi v2570 v2571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2469 : BitVec 32 := 1#32
  let v2573 : BitVec 32 := Scalar.muli v8 c1_i32_2469
  let v2574 : BitVec 32 := Scalar.addi v2572 v2573
  v2574.toNat
def k0_dev75 (d0 : Dev nD) : Nat :=
  let c0_i32_2486 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2485 : BitVec 32 := 8#32
  let v2588 : BitVec 32 := Scalar.muli v10 c8_i32_2485
  let v2589 : BitVec 32 := Scalar.addi c0_i32_2486 v2588
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2487 : BitVec 32 := 4#32
  let v2590 : BitVec 32 := Scalar.muli v5 c4_i32_2487
  let v2591 : BitVec 32 := Scalar.addi v2589 v2590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2488 : BitVec 32 := 1#32
  let v2592 : BitVec 32 := Scalar.muli v8 c1_i32_2488
  let v2593 : BitVec 32 := Scalar.addi v2591 v2592
  v2593.toNat
def k0_dev76 (d0 : Dev nD) : Nat :=
  let c0_i32_2531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2530 : BitVec 32 := 8#32
  let v2631 : BitVec 32 := Scalar.muli v2 c8_i32_2530
  let v2632 : BitVec 32 := Scalar.addi c0_i32_2531 v2631
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2532 : BitVec 32 := 4#32
  let v2633 : BitVec 32 := Scalar.muli v9 c4_i32_2532
  let v2634 : BitVec 32 := Scalar.addi v2632 v2633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2533 : BitVec 32 := 1#32
  let v2635 : BitVec 32 := Scalar.muli v8 c1_i32_2533
  let v2636 : BitVec 32 := Scalar.addi v2634 v2635
  v2636.toNat
def k0_dev77 (d0 : Dev nD) : Nat :=
  let c0_i32_2575 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2574 : BitVec 32 := 8#32
  let v2679 : BitVec 32 := Scalar.muli v2 c8_i32_2574
  let v2680 : BitVec 32 := Scalar.addi c0_i32_2575 v2679
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2576 : BitVec 32 := 4#32
  let v2681 : BitVec 32 := Scalar.muli v9 c4_i32_2576
  let v2682 : BitVec 32 := Scalar.addi v2680 v2681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2577 : BitVec 32 := 1#32
  let v2683 : BitVec 32 := Scalar.muli v8 c1_i32_2577
  let v2684 : BitVec 32 := Scalar.addi v2682 v2683
  v2684.toNat
def k0_dev78 (d0 : Dev nD) : Nat :=
  let c0_i32_2594 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2593 : BitVec 32 := 8#32
  let v2698 : BitVec 32 := Scalar.muli v10 c8_i32_2593
  let v2699 : BitVec 32 := Scalar.addi c0_i32_2594 v2698
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2595 : BitVec 32 := 4#32
  let v2700 : BitVec 32 := Scalar.muli v5 c4_i32_2595
  let v2701 : BitVec 32 := Scalar.addi v2699 v2700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2596 : BitVec 32 := 1#32
  let v2702 : BitVec 32 := Scalar.muli v8 c1_i32_2596
  let v2703 : BitVec 32 := Scalar.addi v2701 v2702
  v2703.toNat
def k0_dev79 (d0 : Dev nD) : Nat :=
  let c0_i32_2639 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2638 : BitVec 32 := 8#32
  let v2741 : BitVec 32 := Scalar.muli v2 c8_i32_2638
  let v2742 : BitVec 32 := Scalar.addi c0_i32_2639 v2741
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2640 : BitVec 32 := 4#32
  let v2743 : BitVec 32 := Scalar.muli v9 c4_i32_2640
  let v2744 : BitVec 32 := Scalar.addi v2742 v2743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2641 : BitVec 32 := 1#32
  let v2745 : BitVec 32 := Scalar.muli v8 c1_i32_2641
  let v2746 : BitVec 32 := Scalar.addi v2744 v2745
  v2746.toNat
def k0_dev80 (d0 : Dev nD) : Nat :=
  let c0_i32_2683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2682 : BitVec 32 := 8#32
  let v2789 : BitVec 32 := Scalar.muli v2 c8_i32_2682
  let v2790 : BitVec 32 := Scalar.addi c0_i32_2683 v2789
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2684 : BitVec 32 := 4#32
  let v2791 : BitVec 32 := Scalar.muli v9 c4_i32_2684
  let v2792 : BitVec 32 := Scalar.addi v2790 v2791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2685 : BitVec 32 := 1#32
  let v2793 : BitVec 32 := Scalar.muli v8 c1_i32_2685
  let v2794 : BitVec 32 := Scalar.addi v2792 v2793
  v2794.toNat
def k0_dev81 (d0 : Dev nD) : Nat :=
  let c0_i32_2702 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2701 : BitVec 32 := 8#32
  let v2808 : BitVec 32 := Scalar.muli v10 c8_i32_2701
  let v2809 : BitVec 32 := Scalar.addi c0_i32_2702 v2808
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2703 : BitVec 32 := 4#32
  let v2810 : BitVec 32 := Scalar.muli v5 c4_i32_2703
  let v2811 : BitVec 32 := Scalar.addi v2809 v2810
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2704 : BitVec 32 := 1#32
  let v2812 : BitVec 32 := Scalar.muli v8 c1_i32_2704
  let v2813 : BitVec 32 := Scalar.addi v2811 v2812
  v2813.toNat
def k0_dev82 (d0 : Dev nD) : Nat :=
  let c0_i32_2747 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2746 : BitVec 32 := 8#32
  let v2851 : BitVec 32 := Scalar.muli v2 c8_i32_2746
  let v2852 : BitVec 32 := Scalar.addi c0_i32_2747 v2851
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2748 : BitVec 32 := 4#32
  let v2853 : BitVec 32 := Scalar.muli v9 c4_i32_2748
  let v2854 : BitVec 32 := Scalar.addi v2852 v2853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2749 : BitVec 32 := 1#32
  let v2855 : BitVec 32 := Scalar.muli v8 c1_i32_2749
  let v2856 : BitVec 32 := Scalar.addi v2854 v2855
  v2856.toNat
def k0_dev83 (d0 : Dev nD) : Nat :=
  let c0_i32_2791 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2790 : BitVec 32 := 8#32
  let v2899 : BitVec 32 := Scalar.muli v2 c8_i32_2790
  let v2900 : BitVec 32 := Scalar.addi c0_i32_2791 v2899
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2792 : BitVec 32 := 4#32
  let v2901 : BitVec 32 := Scalar.muli v9 c4_i32_2792
  let v2902 : BitVec 32 := Scalar.addi v2900 v2901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2793 : BitVec 32 := 1#32
  let v2903 : BitVec 32 := Scalar.muli v8 c1_i32_2793
  let v2904 : BitVec 32 := Scalar.addi v2902 v2903
  v2904.toNat
def k0_dev84 (d0 : Dev nD) : Nat :=
  let c0_i32_2810 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2809 : BitVec 32 := 8#32
  let v2918 : BitVec 32 := Scalar.muli v10 c8_i32_2809
  let v2919 : BitVec 32 := Scalar.addi c0_i32_2810 v2918
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2811 : BitVec 32 := 4#32
  let v2920 : BitVec 32 := Scalar.muli v5 c4_i32_2811
  let v2921 : BitVec 32 := Scalar.addi v2919 v2920
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2812 : BitVec 32 := 1#32
  let v2922 : BitVec 32 := Scalar.muli v8 c1_i32_2812
  let v2923 : BitVec 32 := Scalar.addi v2921 v2922
  v2923.toNat
def k0_dev85 (d0 : Dev nD) : Nat :=
  let c0_i32_2855 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2854 : BitVec 32 := 8#32
  let v2961 : BitVec 32 := Scalar.muli v2 c8_i32_2854
  let v2962 : BitVec 32 := Scalar.addi c0_i32_2855 v2961
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2856 : BitVec 32 := 4#32
  let v2963 : BitVec 32 := Scalar.muli v9 c4_i32_2856
  let v2964 : BitVec 32 := Scalar.addi v2962 v2963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2857 : BitVec 32 := 1#32
  let v2965 : BitVec 32 := Scalar.muli v8 c1_i32_2857
  let v2966 : BitVec 32 := Scalar.addi v2964 v2965
  v2966.toNat
def k0_dev86 (d0 : Dev nD) : Nat :=
  let c0_i32_2899 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2898 : BitVec 32 := 8#32
  let v3009 : BitVec 32 := Scalar.muli v2 c8_i32_2898
  let v3010 : BitVec 32 := Scalar.addi c0_i32_2899 v3009
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2900 : BitVec 32 := 4#32
  let v3011 : BitVec 32 := Scalar.muli v9 c4_i32_2900
  let v3012 : BitVec 32 := Scalar.addi v3010 v3011
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2901 : BitVec 32 := 1#32
  let v3013 : BitVec 32 := Scalar.muli v8 c1_i32_2901
  let v3014 : BitVec 32 := Scalar.addi v3012 v3013
  v3014.toNat
def k0_dev87 (d0 : Dev nD) : Nat :=
  let c0_i32_2918 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_2917 : BitVec 32 := 8#32
  let v3028 : BitVec 32 := Scalar.muli v10 c8_i32_2917
  let v3029 : BitVec 32 := Scalar.addi c0_i32_2918 v3028
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2919 : BitVec 32 := 4#32
  let v3030 : BitVec 32 := Scalar.muli v5 c4_i32_2919
  let v3031 : BitVec 32 := Scalar.addi v3029 v3030
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2920 : BitVec 32 := 1#32
  let v3032 : BitVec 32 := Scalar.muli v8 c1_i32_2920
  let v3033 : BitVec 32 := Scalar.addi v3031 v3032
  v3033.toNat
def k0_dev88 (d0 : Dev nD) : Nat :=
  let c0_i32_2963 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2962 : BitVec 32 := 8#32
  let v3071 : BitVec 32 := Scalar.muli v2 c8_i32_2962
  let v3072 : BitVec 32 := Scalar.addi c0_i32_2963 v3071
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_2964 : BitVec 32 := 4#32
  let v3073 : BitVec 32 := Scalar.muli v9 c4_i32_2964
  let v3074 : BitVec 32 := Scalar.addi v3072 v3073
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2965 : BitVec 32 := 1#32
  let v3075 : BitVec 32 := Scalar.muli v8 c1_i32_2965
  let v3076 : BitVec 32 := Scalar.addi v3074 v3075
  v3076.toNat
def k0_dev89 (d0 : Dev nD) : Nat :=
  let c0_i32_3007 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3006 : BitVec 32 := 8#32
  let v3119 : BitVec 32 := Scalar.muli v2 c8_i32_3006
  let v3120 : BitVec 32 := Scalar.addi c0_i32_3007 v3119
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3008 : BitVec 32 := 4#32
  let v3121 : BitVec 32 := Scalar.muli v9 c4_i32_3008
  let v3122 : BitVec 32 := Scalar.addi v3120 v3121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3009 : BitVec 32 := 1#32
  let v3123 : BitVec 32 := Scalar.muli v8 c1_i32_3009
  let v3124 : BitVec 32 := Scalar.addi v3122 v3123
  v3124.toNat
def k0_dev90 (d0 : Dev nD) : Nat :=
  let c0_i32_3026 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3025 : BitVec 32 := 8#32
  let v3138 : BitVec 32 := Scalar.muli v10 c8_i32_3025
  let v3139 : BitVec 32 := Scalar.addi c0_i32_3026 v3138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3027 : BitVec 32 := 4#32
  let v3140 : BitVec 32 := Scalar.muli v5 c4_i32_3027
  let v3141 : BitVec 32 := Scalar.addi v3139 v3140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3028 : BitVec 32 := 1#32
  let v3142 : BitVec 32 := Scalar.muli v8 c1_i32_3028
  let v3143 : BitVec 32 := Scalar.addi v3141 v3142
  v3143.toNat
def k0_dev91 (d0 : Dev nD) : Nat :=
  let c0_i32_3071 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3070 : BitVec 32 := 8#32
  let v3181 : BitVec 32 := Scalar.muli v2 c8_i32_3070
  let v3182 : BitVec 32 := Scalar.addi c0_i32_3071 v3181
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3072 : BitVec 32 := 4#32
  let v3183 : BitVec 32 := Scalar.muli v9 c4_i32_3072
  let v3184 : BitVec 32 := Scalar.addi v3182 v3183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3073 : BitVec 32 := 1#32
  let v3185 : BitVec 32 := Scalar.muli v8 c1_i32_3073
  let v3186 : BitVec 32 := Scalar.addi v3184 v3185
  v3186.toNat
def k0_dev92 (d0 : Dev nD) : Nat :=
  let c0_i32_3115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3114 : BitVec 32 := 8#32
  let v3229 : BitVec 32 := Scalar.muli v2 c8_i32_3114
  let v3230 : BitVec 32 := Scalar.addi c0_i32_3115 v3229
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3116 : BitVec 32 := 4#32
  let v3231 : BitVec 32 := Scalar.muli v9 c4_i32_3116
  let v3232 : BitVec 32 := Scalar.addi v3230 v3231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3117 : BitVec 32 := 1#32
  let v3233 : BitVec 32 := Scalar.muli v8 c1_i32_3117
  let v3234 : BitVec 32 := Scalar.addi v3232 v3233
  v3234.toNat
def k0_dev93 (d0 : Dev nD) : Nat :=
  let c0_i32_3134 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3133 : BitVec 32 := 8#32
  let v3248 : BitVec 32 := Scalar.muli v10 c8_i32_3133
  let v3249 : BitVec 32 := Scalar.addi c0_i32_3134 v3248
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3135 : BitVec 32 := 4#32
  let v3250 : BitVec 32 := Scalar.muli v5 c4_i32_3135
  let v3251 : BitVec 32 := Scalar.addi v3249 v3250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3136 : BitVec 32 := 1#32
  let v3252 : BitVec 32 := Scalar.muli v8 c1_i32_3136
  let v3253 : BitVec 32 := Scalar.addi v3251 v3252
  v3253.toNat
def k0_dev94 (d0 : Dev nD) : Nat :=
  let c0_i32_3179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3178 : BitVec 32 := 8#32
  let v3291 : BitVec 32 := Scalar.muli v2 c8_i32_3178
  let v3292 : BitVec 32 := Scalar.addi c0_i32_3179 v3291
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3180 : BitVec 32 := 4#32
  let v3293 : BitVec 32 := Scalar.muli v9 c4_i32_3180
  let v3294 : BitVec 32 := Scalar.addi v3292 v3293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3181 : BitVec 32 := 1#32
  let v3295 : BitVec 32 := Scalar.muli v8 c1_i32_3181
  let v3296 : BitVec 32 := Scalar.addi v3294 v3295
  v3296.toNat
def k0_dev95 (d0 : Dev nD) : Nat :=
  let c0_i32_3223 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3222 : BitVec 32 := 8#32
  let v3339 : BitVec 32 := Scalar.muli v2 c8_i32_3222
  let v3340 : BitVec 32 := Scalar.addi c0_i32_3223 v3339
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3224 : BitVec 32 := 4#32
  let v3341 : BitVec 32 := Scalar.muli v9 c4_i32_3224
  let v3342 : BitVec 32 := Scalar.addi v3340 v3341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3225 : BitVec 32 := 1#32
  let v3343 : BitVec 32 := Scalar.muli v8 c1_i32_3225
  let v3344 : BitVec 32 := Scalar.addi v3342 v3343
  v3344.toNat
def k0_dev96 (d0 : Dev nD) : Nat :=
  let c0_i32_3242 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3241 : BitVec 32 := 8#32
  let v3358 : BitVec 32 := Scalar.muli v10 c8_i32_3241
  let v3359 : BitVec 32 := Scalar.addi c0_i32_3242 v3358
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3243 : BitVec 32 := 4#32
  let v3360 : BitVec 32 := Scalar.muli v5 c4_i32_3243
  let v3361 : BitVec 32 := Scalar.addi v3359 v3360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3244 : BitVec 32 := 1#32
  let v3362 : BitVec 32 := Scalar.muli v8 c1_i32_3244
  let v3363 : BitVec 32 := Scalar.addi v3361 v3362
  v3363.toNat
def k0_dev97 (d0 : Dev nD) : Nat :=
  let c0_i32_3287 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3286 : BitVec 32 := 8#32
  let v3401 : BitVec 32 := Scalar.muli v2 c8_i32_3286
  let v3402 : BitVec 32 := Scalar.addi c0_i32_3287 v3401
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3288 : BitVec 32 := 4#32
  let v3403 : BitVec 32 := Scalar.muli v9 c4_i32_3288
  let v3404 : BitVec 32 := Scalar.addi v3402 v3403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3289 : BitVec 32 := 1#32
  let v3405 : BitVec 32 := Scalar.muli v8 c1_i32_3289
  let v3406 : BitVec 32 := Scalar.addi v3404 v3405
  v3406.toNat
def k0_dev98 (d0 : Dev nD) : Nat :=
  let c0_i32_3331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3330 : BitVec 32 := 8#32
  let v3449 : BitVec 32 := Scalar.muli v2 c8_i32_3330
  let v3450 : BitVec 32 := Scalar.addi c0_i32_3331 v3449
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3332 : BitVec 32 := 4#32
  let v3451 : BitVec 32 := Scalar.muli v9 c4_i32_3332
  let v3452 : BitVec 32 := Scalar.addi v3450 v3451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3333 : BitVec 32 := 1#32
  let v3453 : BitVec 32 := Scalar.muli v8 c1_i32_3333
  let v3454 : BitVec 32 := Scalar.addi v3452 v3453
  v3454.toNat
def k0_dev99 (d0 : Dev nD) : Nat :=
  let c0_i32_3350 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3349 : BitVec 32 := 8#32
  let v3468 : BitVec 32 := Scalar.muli v10 c8_i32_3349
  let v3469 : BitVec 32 := Scalar.addi c0_i32_3350 v3468
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3351 : BitVec 32 := 4#32
  let v3470 : BitVec 32 := Scalar.muli v5 c4_i32_3351
  let v3471 : BitVec 32 := Scalar.addi v3469 v3470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3352 : BitVec 32 := 1#32
  let v3472 : BitVec 32 := Scalar.muli v8 c1_i32_3352
  let v3473 : BitVec 32 := Scalar.addi v3471 v3472
  v3473.toNat
def k0_dev100 (d0 : Dev nD) : Nat :=
  let c0_i32_3395 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3394 : BitVec 32 := 8#32
  let v3511 : BitVec 32 := Scalar.muli v2 c8_i32_3394
  let v3512 : BitVec 32 := Scalar.addi c0_i32_3395 v3511
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3396 : BitVec 32 := 4#32
  let v3513 : BitVec 32 := Scalar.muli v9 c4_i32_3396
  let v3514 : BitVec 32 := Scalar.addi v3512 v3513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3397 : BitVec 32 := 1#32
  let v3515 : BitVec 32 := Scalar.muli v8 c1_i32_3397
  let v3516 : BitVec 32 := Scalar.addi v3514 v3515
  v3516.toNat
def k0_dev101 (d0 : Dev nD) : Nat :=
  let c0_i32_3439 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3438 : BitVec 32 := 8#32
  let v3559 : BitVec 32 := Scalar.muli v2 c8_i32_3438
  let v3560 : BitVec 32 := Scalar.addi c0_i32_3439 v3559
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3440 : BitVec 32 := 4#32
  let v3561 : BitVec 32 := Scalar.muli v9 c4_i32_3440
  let v3562 : BitVec 32 := Scalar.addi v3560 v3561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3441 : BitVec 32 := 1#32
  let v3563 : BitVec 32 := Scalar.muli v8 c1_i32_3441
  let v3564 : BitVec 32 := Scalar.addi v3562 v3563
  v3564.toNat
def k0_dev102 (d0 : Dev nD) : Nat :=
  let c0_i32_3458 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3457 : BitVec 32 := 8#32
  let v3578 : BitVec 32 := Scalar.muli v10 c8_i32_3457
  let v3579 : BitVec 32 := Scalar.addi c0_i32_3458 v3578
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3459 : BitVec 32 := 4#32
  let v3580 : BitVec 32 := Scalar.muli v5 c4_i32_3459
  let v3581 : BitVec 32 := Scalar.addi v3579 v3580
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3460 : BitVec 32 := 1#32
  let v3582 : BitVec 32 := Scalar.muli v8 c1_i32_3460
  let v3583 : BitVec 32 := Scalar.addi v3581 v3582
  v3583.toNat
def k0_dev103 (d0 : Dev nD) : Nat :=
  let c0_i32_3503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3502 : BitVec 32 := 8#32
  let v3621 : BitVec 32 := Scalar.muli v2 c8_i32_3502
  let v3622 : BitVec 32 := Scalar.addi c0_i32_3503 v3621
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3504 : BitVec 32 := 4#32
  let v3623 : BitVec 32 := Scalar.muli v9 c4_i32_3504
  let v3624 : BitVec 32 := Scalar.addi v3622 v3623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3505 : BitVec 32 := 1#32
  let v3625 : BitVec 32 := Scalar.muli v8 c1_i32_3505
  let v3626 : BitVec 32 := Scalar.addi v3624 v3625
  v3626.toNat
def k0_dev104 (d0 : Dev nD) : Nat :=
  let c0_i32_3547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3546 : BitVec 32 := 8#32
  let v3669 : BitVec 32 := Scalar.muli v2 c8_i32_3546
  let v3670 : BitVec 32 := Scalar.addi c0_i32_3547 v3669
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3548 : BitVec 32 := 4#32
  let v3671 : BitVec 32 := Scalar.muli v9 c4_i32_3548
  let v3672 : BitVec 32 := Scalar.addi v3670 v3671
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3549 : BitVec 32 := 1#32
  let v3673 : BitVec 32 := Scalar.muli v8 c1_i32_3549
  let v3674 : BitVec 32 := Scalar.addi v3672 v3673
  v3674.toNat
def k0_dev105 (d0 : Dev nD) : Nat :=
  let c0_i32_3566 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3565 : BitVec 32 := 8#32
  let v3688 : BitVec 32 := Scalar.muli v10 c8_i32_3565
  let v3689 : BitVec 32 := Scalar.addi c0_i32_3566 v3688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3567 : BitVec 32 := 4#32
  let v3690 : BitVec 32 := Scalar.muli v5 c4_i32_3567
  let v3691 : BitVec 32 := Scalar.addi v3689 v3690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3568 : BitVec 32 := 1#32
  let v3692 : BitVec 32 := Scalar.muli v8 c1_i32_3568
  let v3693 : BitVec 32 := Scalar.addi v3691 v3692
  v3693.toNat
def k0_dev106 (d0 : Dev nD) : Nat :=
  let c0_i32_3611 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3610 : BitVec 32 := 8#32
  let v3731 : BitVec 32 := Scalar.muli v2 c8_i32_3610
  let v3732 : BitVec 32 := Scalar.addi c0_i32_3611 v3731
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3612 : BitVec 32 := 4#32
  let v3733 : BitVec 32 := Scalar.muli v9 c4_i32_3612
  let v3734 : BitVec 32 := Scalar.addi v3732 v3733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3613 : BitVec 32 := 1#32
  let v3735 : BitVec 32 := Scalar.muli v8 c1_i32_3613
  let v3736 : BitVec 32 := Scalar.addi v3734 v3735
  v3736.toNat
def k0_dev107 (d0 : Dev nD) : Nat :=
  let c0_i32_3655 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3654 : BitVec 32 := 8#32
  let v3779 : BitVec 32 := Scalar.muli v2 c8_i32_3654
  let v3780 : BitVec 32 := Scalar.addi c0_i32_3655 v3779
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3656 : BitVec 32 := 4#32
  let v3781 : BitVec 32 := Scalar.muli v9 c4_i32_3656
  let v3782 : BitVec 32 := Scalar.addi v3780 v3781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3657 : BitVec 32 := 1#32
  let v3783 : BitVec 32 := Scalar.muli v8 c1_i32_3657
  let v3784 : BitVec 32 := Scalar.addi v3782 v3783
  v3784.toNat
def k0_dev108 (d0 : Dev nD) : Nat :=
  let c0_i32_3674 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3673 : BitVec 32 := 8#32
  let v3798 : BitVec 32 := Scalar.muli v10 c8_i32_3673
  let v3799 : BitVec 32 := Scalar.addi c0_i32_3674 v3798
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3675 : BitVec 32 := 4#32
  let v3800 : BitVec 32 := Scalar.muli v5 c4_i32_3675
  let v3801 : BitVec 32 := Scalar.addi v3799 v3800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3676 : BitVec 32 := 1#32
  let v3802 : BitVec 32 := Scalar.muli v8 c1_i32_3676
  let v3803 : BitVec 32 := Scalar.addi v3801 v3802
  v3803.toNat
def k0_dev109 (d0 : Dev nD) : Nat :=
  let c0_i32_3719 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3718 : BitVec 32 := 8#32
  let v3841 : BitVec 32 := Scalar.muli v2 c8_i32_3718
  let v3842 : BitVec 32 := Scalar.addi c0_i32_3719 v3841
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3720 : BitVec 32 := 4#32
  let v3843 : BitVec 32 := Scalar.muli v9 c4_i32_3720
  let v3844 : BitVec 32 := Scalar.addi v3842 v3843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3721 : BitVec 32 := 1#32
  let v3845 : BitVec 32 := Scalar.muli v8 c1_i32_3721
  let v3846 : BitVec 32 := Scalar.addi v3844 v3845
  v3846.toNat
def k0_dev110 (d0 : Dev nD) : Nat :=
  let c0_i32_3763 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3762 : BitVec 32 := 8#32
  let v3889 : BitVec 32 := Scalar.muli v2 c8_i32_3762
  let v3890 : BitVec 32 := Scalar.addi c0_i32_3763 v3889
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3764 : BitVec 32 := 4#32
  let v3891 : BitVec 32 := Scalar.muli v9 c4_i32_3764
  let v3892 : BitVec 32 := Scalar.addi v3890 v3891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3765 : BitVec 32 := 1#32
  let v3893 : BitVec 32 := Scalar.muli v8 c1_i32_3765
  let v3894 : BitVec 32 := Scalar.addi v3892 v3893
  v3894.toNat
def k0_dev111 (d0 : Dev nD) : Nat :=
  let c0_i32_3782 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3781 : BitVec 32 := 8#32
  let v3908 : BitVec 32 := Scalar.muli v10 c8_i32_3781
  let v3909 : BitVec 32 := Scalar.addi c0_i32_3782 v3908
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3783 : BitVec 32 := 4#32
  let v3910 : BitVec 32 := Scalar.muli v5 c4_i32_3783
  let v3911 : BitVec 32 := Scalar.addi v3909 v3910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3784 : BitVec 32 := 1#32
  let v3912 : BitVec 32 := Scalar.muli v8 c1_i32_3784
  let v3913 : BitVec 32 := Scalar.addi v3911 v3912
  v3913.toNat
def k0_dev112 (d0 : Dev nD) : Nat :=
  let c0_i32_3827 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3826 : BitVec 32 := 8#32
  let v3951 : BitVec 32 := Scalar.muli v2 c8_i32_3826
  let v3952 : BitVec 32 := Scalar.addi c0_i32_3827 v3951
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3828 : BitVec 32 := 4#32
  let v3953 : BitVec 32 := Scalar.muli v9 c4_i32_3828
  let v3954 : BitVec 32 := Scalar.addi v3952 v3953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3829 : BitVec 32 := 1#32
  let v3955 : BitVec 32 := Scalar.muli v8 c1_i32_3829
  let v3956 : BitVec 32 := Scalar.addi v3954 v3955
  v3956.toNat
def k0_dev113 (d0 : Dev nD) : Nat :=
  let c0_i32_3871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3870 : BitVec 32 := 8#32
  let v3999 : BitVec 32 := Scalar.muli v2 c8_i32_3870
  let v4000 : BitVec 32 := Scalar.addi c0_i32_3871 v3999
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3872 : BitVec 32 := 4#32
  let v4001 : BitVec 32 := Scalar.muli v9 c4_i32_3872
  let v4002 : BitVec 32 := Scalar.addi v4000 v4001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3873 : BitVec 32 := 1#32
  let v4003 : BitVec 32 := Scalar.muli v8 c1_i32_3873
  let v4004 : BitVec 32 := Scalar.addi v4002 v4003
  v4004.toNat
def k0_dev114 (d0 : Dev nD) : Nat :=
  let c0_i32_3890 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3889 : BitVec 32 := 8#32
  let v4018 : BitVec 32 := Scalar.muli v10 c8_i32_3889
  let v4019 : BitVec 32 := Scalar.addi c0_i32_3890 v4018
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3891 : BitVec 32 := 4#32
  let v4020 : BitVec 32 := Scalar.muli v5 c4_i32_3891
  let v4021 : BitVec 32 := Scalar.addi v4019 v4020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3892 : BitVec 32 := 1#32
  let v4022 : BitVec 32 := Scalar.muli v8 c1_i32_3892
  let v4023 : BitVec 32 := Scalar.addi v4021 v4022
  v4023.toNat
def k0_dev115 (d0 : Dev nD) : Nat :=
  let c0_i32_3935 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3934 : BitVec 32 := 8#32
  let v4061 : BitVec 32 := Scalar.muli v2 c8_i32_3934
  let v4062 : BitVec 32 := Scalar.addi c0_i32_3935 v4061
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3936 : BitVec 32 := 4#32
  let v4063 : BitVec 32 := Scalar.muli v9 c4_i32_3936
  let v4064 : BitVec 32 := Scalar.addi v4062 v4063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3937 : BitVec 32 := 1#32
  let v4065 : BitVec 32 := Scalar.muli v8 c1_i32_3937
  let v4066 : BitVec 32 := Scalar.addi v4064 v4065
  v4066.toNat
def k0_dev116 (d0 : Dev nD) : Nat :=
  let c0_i32_3979 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3978 : BitVec 32 := 8#32
  let v4109 : BitVec 32 := Scalar.muli v2 c8_i32_3978
  let v4110 : BitVec 32 := Scalar.addi c0_i32_3979 v4109
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_3980 : BitVec 32 := 4#32
  let v4111 : BitVec 32 := Scalar.muli v9 c4_i32_3980
  let v4112 : BitVec 32 := Scalar.addi v4110 v4111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3981 : BitVec 32 := 1#32
  let v4113 : BitVec 32 := Scalar.muli v8 c1_i32_3981
  let v4114 : BitVec 32 := Scalar.addi v4112 v4113
  v4114.toNat
def k0_dev117 (d0 : Dev nD) : Nat :=
  let c0_i32_3998 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_3997 : BitVec 32 := 8#32
  let v4128 : BitVec 32 := Scalar.muli v10 c8_i32_3997
  let v4129 : BitVec 32 := Scalar.addi c0_i32_3998 v4128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3999 : BitVec 32 := 4#32
  let v4130 : BitVec 32 := Scalar.muli v5 c4_i32_3999
  let v4131 : BitVec 32 := Scalar.addi v4129 v4130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4000 : BitVec 32 := 1#32
  let v4132 : BitVec 32 := Scalar.muli v8 c1_i32_4000
  let v4133 : BitVec 32 := Scalar.addi v4131 v4132
  v4133.toNat
def k0_dev118 (d0 : Dev nD) : Nat :=
  let c0_i32_4043 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4042 : BitVec 32 := 8#32
  let v4171 : BitVec 32 := Scalar.muli v2 c8_i32_4042
  let v4172 : BitVec 32 := Scalar.addi c0_i32_4043 v4171
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4044 : BitVec 32 := 4#32
  let v4173 : BitVec 32 := Scalar.muli v9 c4_i32_4044
  let v4174 : BitVec 32 := Scalar.addi v4172 v4173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4045 : BitVec 32 := 1#32
  let v4175 : BitVec 32 := Scalar.muli v8 c1_i32_4045
  let v4176 : BitVec 32 := Scalar.addi v4174 v4175
  v4176.toNat
def k0_dev119 (d0 : Dev nD) : Nat :=
  let c0_i32_4087 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4086 : BitVec 32 := 8#32
  let v4219 : BitVec 32 := Scalar.muli v2 c8_i32_4086
  let v4220 : BitVec 32 := Scalar.addi c0_i32_4087 v4219
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4088 : BitVec 32 := 4#32
  let v4221 : BitVec 32 := Scalar.muli v9 c4_i32_4088
  let v4222 : BitVec 32 := Scalar.addi v4220 v4221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4089 : BitVec 32 := 1#32
  let v4223 : BitVec 32 := Scalar.muli v8 c1_i32_4089
  let v4224 : BitVec 32 := Scalar.addi v4222 v4223
  v4224.toNat
def k0_dev120 (d0 : Dev nD) : Nat :=
  let c0_i32_4106 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4105 : BitVec 32 := 8#32
  let v4238 : BitVec 32 := Scalar.muli v10 c8_i32_4105
  let v4239 : BitVec 32 := Scalar.addi c0_i32_4106 v4238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4107 : BitVec 32 := 4#32
  let v4240 : BitVec 32 := Scalar.muli v5 c4_i32_4107
  let v4241 : BitVec 32 := Scalar.addi v4239 v4240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4108 : BitVec 32 := 1#32
  let v4242 : BitVec 32 := Scalar.muli v8 c1_i32_4108
  let v4243 : BitVec 32 := Scalar.addi v4241 v4242
  v4243.toNat
def k0_dev121 (d0 : Dev nD) : Nat :=
  let c0_i32_4151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4150 : BitVec 32 := 8#32
  let v4281 : BitVec 32 := Scalar.muli v2 c8_i32_4150
  let v4282 : BitVec 32 := Scalar.addi c0_i32_4151 v4281
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4152 : BitVec 32 := 4#32
  let v4283 : BitVec 32 := Scalar.muli v9 c4_i32_4152
  let v4284 : BitVec 32 := Scalar.addi v4282 v4283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4153 : BitVec 32 := 1#32
  let v4285 : BitVec 32 := Scalar.muli v8 c1_i32_4153
  let v4286 : BitVec 32 := Scalar.addi v4284 v4285
  v4286.toNat
def k0_dev122 (d0 : Dev nD) : Nat :=
  let c0_i32_4195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4194 : BitVec 32 := 8#32
  let v4329 : BitVec 32 := Scalar.muli v2 c8_i32_4194
  let v4330 : BitVec 32 := Scalar.addi c0_i32_4195 v4329
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4196 : BitVec 32 := 4#32
  let v4331 : BitVec 32 := Scalar.muli v9 c4_i32_4196
  let v4332 : BitVec 32 := Scalar.addi v4330 v4331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4197 : BitVec 32 := 1#32
  let v4333 : BitVec 32 := Scalar.muli v8 c1_i32_4197
  let v4334 : BitVec 32 := Scalar.addi v4332 v4333
  v4334.toNat
def k0_dev123 (d0 : Dev nD) : Nat :=
  let c0_i32_4214 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4213 : BitVec 32 := 8#32
  let v4348 : BitVec 32 := Scalar.muli v10 c8_i32_4213
  let v4349 : BitVec 32 := Scalar.addi c0_i32_4214 v4348
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4215 : BitVec 32 := 4#32
  let v4350 : BitVec 32 := Scalar.muli v5 c4_i32_4215
  let v4351 : BitVec 32 := Scalar.addi v4349 v4350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4216 : BitVec 32 := 1#32
  let v4352 : BitVec 32 := Scalar.muli v8 c1_i32_4216
  let v4353 : BitVec 32 := Scalar.addi v4351 v4352
  v4353.toNat
def k0_dev124 (d0 : Dev nD) : Nat :=
  let c0_i32_4259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4258 : BitVec 32 := 8#32
  let v4391 : BitVec 32 := Scalar.muli v2 c8_i32_4258
  let v4392 : BitVec 32 := Scalar.addi c0_i32_4259 v4391
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4260 : BitVec 32 := 4#32
  let v4393 : BitVec 32 := Scalar.muli v9 c4_i32_4260
  let v4394 : BitVec 32 := Scalar.addi v4392 v4393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4261 : BitVec 32 := 1#32
  let v4395 : BitVec 32 := Scalar.muli v8 c1_i32_4261
  let v4396 : BitVec 32 := Scalar.addi v4394 v4395
  v4396.toNat
def k0_dev125 (d0 : Dev nD) : Nat :=
  let c0_i32_4303 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4302 : BitVec 32 := 8#32
  let v4439 : BitVec 32 := Scalar.muli v2 c8_i32_4302
  let v4440 : BitVec 32 := Scalar.addi c0_i32_4303 v4439
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4304 : BitVec 32 := 4#32
  let v4441 : BitVec 32 := Scalar.muli v9 c4_i32_4304
  let v4442 : BitVec 32 := Scalar.addi v4440 v4441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4305 : BitVec 32 := 1#32
  let v4443 : BitVec 32 := Scalar.muli v8 c1_i32_4305
  let v4444 : BitVec 32 := Scalar.addi v4442 v4443
  v4444.toNat
def k0_dev126 (d0 : Dev nD) : Nat :=
  let c0_i32_4322 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4321 : BitVec 32 := 8#32
  let v4458 : BitVec 32 := Scalar.muli v10 c8_i32_4321
  let v4459 : BitVec 32 := Scalar.addi c0_i32_4322 v4458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4323 : BitVec 32 := 4#32
  let v4460 : BitVec 32 := Scalar.muli v5 c4_i32_4323
  let v4461 : BitVec 32 := Scalar.addi v4459 v4460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4324 : BitVec 32 := 1#32
  let v4462 : BitVec 32 := Scalar.muli v8 c1_i32_4324
  let v4463 : BitVec 32 := Scalar.addi v4461 v4462
  v4463.toNat
def k0_dev127 (d0 : Dev nD) : Nat :=
  let c0_i32_4367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4366 : BitVec 32 := 8#32
  let v4501 : BitVec 32 := Scalar.muli v2 c8_i32_4366
  let v4502 : BitVec 32 := Scalar.addi c0_i32_4367 v4501
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4368 : BitVec 32 := 4#32
  let v4503 : BitVec 32 := Scalar.muli v9 c4_i32_4368
  let v4504 : BitVec 32 := Scalar.addi v4502 v4503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4369 : BitVec 32 := 1#32
  let v4505 : BitVec 32 := Scalar.muli v8 c1_i32_4369
  let v4506 : BitVec 32 := Scalar.addi v4504 v4505
  v4506.toNat
def k0_dev128 (d0 : Dev nD) : Nat :=
  let c0_i32_4411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4410 : BitVec 32 := 8#32
  let v4549 : BitVec 32 := Scalar.muli v2 c8_i32_4410
  let v4550 : BitVec 32 := Scalar.addi c0_i32_4411 v4549
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4412 : BitVec 32 := 4#32
  let v4551 : BitVec 32 := Scalar.muli v9 c4_i32_4412
  let v4552 : BitVec 32 := Scalar.addi v4550 v4551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4413 : BitVec 32 := 1#32
  let v4553 : BitVec 32 := Scalar.muli v8 c1_i32_4413
  let v4554 : BitVec 32 := Scalar.addi v4552 v4553
  v4554.toNat
def k0_dev129 (d0 : Dev nD) : Nat :=
  let c0_i32_4430 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4429 : BitVec 32 := 8#32
  let v4568 : BitVec 32 := Scalar.muli v10 c8_i32_4429
  let v4569 : BitVec 32 := Scalar.addi c0_i32_4430 v4568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4431 : BitVec 32 := 4#32
  let v4570 : BitVec 32 := Scalar.muli v5 c4_i32_4431
  let v4571 : BitVec 32 := Scalar.addi v4569 v4570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4432 : BitVec 32 := 1#32
  let v4572 : BitVec 32 := Scalar.muli v8 c1_i32_4432
  let v4573 : BitVec 32 := Scalar.addi v4571 v4572
  v4573.toNat
def k0_dev130 (d0 : Dev nD) : Nat :=
  let c0_i32_4475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4474 : BitVec 32 := 8#32
  let v4611 : BitVec 32 := Scalar.muli v2 c8_i32_4474
  let v4612 : BitVec 32 := Scalar.addi c0_i32_4475 v4611
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4476 : BitVec 32 := 4#32
  let v4613 : BitVec 32 := Scalar.muli v9 c4_i32_4476
  let v4614 : BitVec 32 := Scalar.addi v4612 v4613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4477 : BitVec 32 := 1#32
  let v4615 : BitVec 32 := Scalar.muli v8 c1_i32_4477
  let v4616 : BitVec 32 := Scalar.addi v4614 v4615
  v4616.toNat
def k0_dev131 (d0 : Dev nD) : Nat :=
  let c0_i32_4519 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4518 : BitVec 32 := 8#32
  let v4659 : BitVec 32 := Scalar.muli v2 c8_i32_4518
  let v4660 : BitVec 32 := Scalar.addi c0_i32_4519 v4659
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4520 : BitVec 32 := 4#32
  let v4661 : BitVec 32 := Scalar.muli v9 c4_i32_4520
  let v4662 : BitVec 32 := Scalar.addi v4660 v4661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4521 : BitVec 32 := 1#32
  let v4663 : BitVec 32 := Scalar.muli v8 c1_i32_4521
  let v4664 : BitVec 32 := Scalar.addi v4662 v4663
  v4664.toNat
def k0_dev132 (d0 : Dev nD) : Nat :=
  let c0_i32_4538 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4537 : BitVec 32 := 8#32
  let v4678 : BitVec 32 := Scalar.muli v10 c8_i32_4537
  let v4679 : BitVec 32 := Scalar.addi c0_i32_4538 v4678
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4539 : BitVec 32 := 4#32
  let v4680 : BitVec 32 := Scalar.muli v5 c4_i32_4539
  let v4681 : BitVec 32 := Scalar.addi v4679 v4680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4540 : BitVec 32 := 1#32
  let v4682 : BitVec 32 := Scalar.muli v8 c1_i32_4540
  let v4683 : BitVec 32 := Scalar.addi v4681 v4682
  v4683.toNat
def k0_dev133 (d0 : Dev nD) : Nat :=
  let c0_i32_4583 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4582 : BitVec 32 := 8#32
  let v4721 : BitVec 32 := Scalar.muli v2 c8_i32_4582
  let v4722 : BitVec 32 := Scalar.addi c0_i32_4583 v4721
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4584 : BitVec 32 := 4#32
  let v4723 : BitVec 32 := Scalar.muli v9 c4_i32_4584
  let v4724 : BitVec 32 := Scalar.addi v4722 v4723
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4585 : BitVec 32 := 1#32
  let v4725 : BitVec 32 := Scalar.muli v8 c1_i32_4585
  let v4726 : BitVec 32 := Scalar.addi v4724 v4725
  v4726.toNat
def k0_dev134 (d0 : Dev nD) : Nat :=
  let c0_i32_4627 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4626 : BitVec 32 := 8#32
  let v4769 : BitVec 32 := Scalar.muli v2 c8_i32_4626
  let v4770 : BitVec 32 := Scalar.addi c0_i32_4627 v4769
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4628 : BitVec 32 := 4#32
  let v4771 : BitVec 32 := Scalar.muli v9 c4_i32_4628
  let v4772 : BitVec 32 := Scalar.addi v4770 v4771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4629 : BitVec 32 := 1#32
  let v4773 : BitVec 32 := Scalar.muli v8 c1_i32_4629
  let v4774 : BitVec 32 := Scalar.addi v4772 v4773
  v4774.toNat
def k0_dev135 (d0 : Dev nD) : Nat :=
  let c0_i32_4646 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4645 : BitVec 32 := 8#32
  let v4788 : BitVec 32 := Scalar.muli v10 c8_i32_4645
  let v4789 : BitVec 32 := Scalar.addi c0_i32_4646 v4788
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4647 : BitVec 32 := 4#32
  let v4790 : BitVec 32 := Scalar.muli v5 c4_i32_4647
  let v4791 : BitVec 32 := Scalar.addi v4789 v4790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4648 : BitVec 32 := 1#32
  let v4792 : BitVec 32 := Scalar.muli v8 c1_i32_4648
  let v4793 : BitVec 32 := Scalar.addi v4791 v4792
  v4793.toNat
def k0_dev136 (d0 : Dev nD) : Nat :=
  let c0_i32_4691 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4690 : BitVec 32 := 8#32
  let v4831 : BitVec 32 := Scalar.muli v2 c8_i32_4690
  let v4832 : BitVec 32 := Scalar.addi c0_i32_4691 v4831
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4692 : BitVec 32 := 4#32
  let v4833 : BitVec 32 := Scalar.muli v9 c4_i32_4692
  let v4834 : BitVec 32 := Scalar.addi v4832 v4833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4693 : BitVec 32 := 1#32
  let v4835 : BitVec 32 := Scalar.muli v8 c1_i32_4693
  let v4836 : BitVec 32 := Scalar.addi v4834 v4835
  v4836.toNat
def k0_dev137 (d0 : Dev nD) : Nat :=
  let c0_i32_4735 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4734 : BitVec 32 := 8#32
  let v4879 : BitVec 32 := Scalar.muli v2 c8_i32_4734
  let v4880 : BitVec 32 := Scalar.addi c0_i32_4735 v4879
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4736 : BitVec 32 := 4#32
  let v4881 : BitVec 32 := Scalar.muli v9 c4_i32_4736
  let v4882 : BitVec 32 := Scalar.addi v4880 v4881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4737 : BitVec 32 := 1#32
  let v4883 : BitVec 32 := Scalar.muli v8 c1_i32_4737
  let v4884 : BitVec 32 := Scalar.addi v4882 v4883
  v4884.toNat
def k0_dev138 (d0 : Dev nD) : Nat :=
  let c0_i32_4754 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4753 : BitVec 32 := 8#32
  let v4898 : BitVec 32 := Scalar.muli v10 c8_i32_4753
  let v4899 : BitVec 32 := Scalar.addi c0_i32_4754 v4898
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4755 : BitVec 32 := 4#32
  let v4900 : BitVec 32 := Scalar.muli v5 c4_i32_4755
  let v4901 : BitVec 32 := Scalar.addi v4899 v4900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4756 : BitVec 32 := 1#32
  let v4902 : BitVec 32 := Scalar.muli v8 c1_i32_4756
  let v4903 : BitVec 32 := Scalar.addi v4901 v4902
  v4903.toNat
def k0_dev139 (d0 : Dev nD) : Nat :=
  let c0_i32_4799 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4798 : BitVec 32 := 8#32
  let v4941 : BitVec 32 := Scalar.muli v2 c8_i32_4798
  let v4942 : BitVec 32 := Scalar.addi c0_i32_4799 v4941
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4800 : BitVec 32 := 4#32
  let v4943 : BitVec 32 := Scalar.muli v9 c4_i32_4800
  let v4944 : BitVec 32 := Scalar.addi v4942 v4943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4801 : BitVec 32 := 1#32
  let v4945 : BitVec 32 := Scalar.muli v8 c1_i32_4801
  let v4946 : BitVec 32 := Scalar.addi v4944 v4945
  v4946.toNat
def k0_dev140 (d0 : Dev nD) : Nat :=
  let c0_i32_4843 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4842 : BitVec 32 := 8#32
  let v4989 : BitVec 32 := Scalar.muli v2 c8_i32_4842
  let v4990 : BitVec 32 := Scalar.addi c0_i32_4843 v4989
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4844 : BitVec 32 := 4#32
  let v4991 : BitVec 32 := Scalar.muli v9 c4_i32_4844
  let v4992 : BitVec 32 := Scalar.addi v4990 v4991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4845 : BitVec 32 := 1#32
  let v4993 : BitVec 32 := Scalar.muli v8 c1_i32_4845
  let v4994 : BitVec 32 := Scalar.addi v4992 v4993
  v4994.toNat
def k0_dev141 (d0 : Dev nD) : Nat :=
  let c0_i32_4862 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4861 : BitVec 32 := 8#32
  let v5008 : BitVec 32 := Scalar.muli v10 c8_i32_4861
  let v5009 : BitVec 32 := Scalar.addi c0_i32_4862 v5008
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4863 : BitVec 32 := 4#32
  let v5010 : BitVec 32 := Scalar.muli v5 c4_i32_4863
  let v5011 : BitVec 32 := Scalar.addi v5009 v5010
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4864 : BitVec 32 := 1#32
  let v5012 : BitVec 32 := Scalar.muli v8 c1_i32_4864
  let v5013 : BitVec 32 := Scalar.addi v5011 v5012
  v5013.toNat
def k0_dev142 (d0 : Dev nD) : Nat :=
  let c0_i32_4907 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4906 : BitVec 32 := 8#32
  let v5051 : BitVec 32 := Scalar.muli v2 c8_i32_4906
  let v5052 : BitVec 32 := Scalar.addi c0_i32_4907 v5051
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4908 : BitVec 32 := 4#32
  let v5053 : BitVec 32 := Scalar.muli v9 c4_i32_4908
  let v5054 : BitVec 32 := Scalar.addi v5052 v5053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4909 : BitVec 32 := 1#32
  let v5055 : BitVec 32 := Scalar.muli v8 c1_i32_4909
  let v5056 : BitVec 32 := Scalar.addi v5054 v5055
  v5056.toNat
def k0_dev143 (d0 : Dev nD) : Nat :=
  let c0_i32_4951 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4950 : BitVec 32 := 8#32
  let v5099 : BitVec 32 := Scalar.muli v2 c8_i32_4950
  let v5100 : BitVec 32 := Scalar.addi c0_i32_4951 v5099
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_4952 : BitVec 32 := 4#32
  let v5101 : BitVec 32 := Scalar.muli v9 c4_i32_4952
  let v5102 : BitVec 32 := Scalar.addi v5100 v5101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4953 : BitVec 32 := 1#32
  let v5103 : BitVec 32 := Scalar.muli v8 c1_i32_4953
  let v5104 : BitVec 32 := Scalar.addi v5102 v5103
  v5104.toNat
def k0_dev144 (d0 : Dev nD) : Nat :=
  let c0_i32_4970 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_4969 : BitVec 32 := 8#32
  let v5118 : BitVec 32 := Scalar.muli v10 c8_i32_4969
  let v5119 : BitVec 32 := Scalar.addi c0_i32_4970 v5118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4971 : BitVec 32 := 4#32
  let v5120 : BitVec 32 := Scalar.muli v5 c4_i32_4971
  let v5121 : BitVec 32 := Scalar.addi v5119 v5120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4972 : BitVec 32 := 1#32
  let v5122 : BitVec 32 := Scalar.muli v8 c1_i32_4972
  let v5123 : BitVec 32 := Scalar.addi v5121 v5122
  v5123.toNat
def k0_dev145 (d0 : Dev nD) : Nat :=
  let c0_i32_5015 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5014 : BitVec 32 := 8#32
  let v5161 : BitVec 32 := Scalar.muli v2 c8_i32_5014
  let v5162 : BitVec 32 := Scalar.addi c0_i32_5015 v5161
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5016 : BitVec 32 := 4#32
  let v5163 : BitVec 32 := Scalar.muli v9 c4_i32_5016
  let v5164 : BitVec 32 := Scalar.addi v5162 v5163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5017 : BitVec 32 := 1#32
  let v5165 : BitVec 32 := Scalar.muli v8 c1_i32_5017
  let v5166 : BitVec 32 := Scalar.addi v5164 v5165
  v5166.toNat
def k0_dev146 (d0 : Dev nD) : Nat :=
  let c0_i32_5059 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5058 : BitVec 32 := 8#32
  let v5209 : BitVec 32 := Scalar.muli v2 c8_i32_5058
  let v5210 : BitVec 32 := Scalar.addi c0_i32_5059 v5209
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5060 : BitVec 32 := 4#32
  let v5211 : BitVec 32 := Scalar.muli v9 c4_i32_5060
  let v5212 : BitVec 32 := Scalar.addi v5210 v5211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5061 : BitVec 32 := 1#32
  let v5213 : BitVec 32 := Scalar.muli v8 c1_i32_5061
  let v5214 : BitVec 32 := Scalar.addi v5212 v5213
  v5214.toNat
def k0_dev147 (d0 : Dev nD) : Nat :=
  let c0_i32_5078 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5077 : BitVec 32 := 8#32
  let v5228 : BitVec 32 := Scalar.muli v10 c8_i32_5077
  let v5229 : BitVec 32 := Scalar.addi c0_i32_5078 v5228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5079 : BitVec 32 := 4#32
  let v5230 : BitVec 32 := Scalar.muli v5 c4_i32_5079
  let v5231 : BitVec 32 := Scalar.addi v5229 v5230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5080 : BitVec 32 := 1#32
  let v5232 : BitVec 32 := Scalar.muli v8 c1_i32_5080
  let v5233 : BitVec 32 := Scalar.addi v5231 v5232
  v5233.toNat
def k0_dev148 (d0 : Dev nD) : Nat :=
  let c0_i32_5123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5122 : BitVec 32 := 8#32
  let v5271 : BitVec 32 := Scalar.muli v2 c8_i32_5122
  let v5272 : BitVec 32 := Scalar.addi c0_i32_5123 v5271
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5124 : BitVec 32 := 4#32
  let v5273 : BitVec 32 := Scalar.muli v9 c4_i32_5124
  let v5274 : BitVec 32 := Scalar.addi v5272 v5273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5125 : BitVec 32 := 1#32
  let v5275 : BitVec 32 := Scalar.muli v8 c1_i32_5125
  let v5276 : BitVec 32 := Scalar.addi v5274 v5275
  v5276.toNat
def k0_dev149 (d0 : Dev nD) : Nat :=
  let c0_i32_5167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5166 : BitVec 32 := 8#32
  let v5319 : BitVec 32 := Scalar.muli v2 c8_i32_5166
  let v5320 : BitVec 32 := Scalar.addi c0_i32_5167 v5319
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5168 : BitVec 32 := 4#32
  let v5321 : BitVec 32 := Scalar.muli v9 c4_i32_5168
  let v5322 : BitVec 32 := Scalar.addi v5320 v5321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5169 : BitVec 32 := 1#32
  let v5323 : BitVec 32 := Scalar.muli v8 c1_i32_5169
  let v5324 : BitVec 32 := Scalar.addi v5322 v5323
  v5324.toNat
def k0_dev150 (d0 : Dev nD) : Nat :=
  let c0_i32_5186 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5185 : BitVec 32 := 8#32
  let v5338 : BitVec 32 := Scalar.muli v10 c8_i32_5185
  let v5339 : BitVec 32 := Scalar.addi c0_i32_5186 v5338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5187 : BitVec 32 := 4#32
  let v5340 : BitVec 32 := Scalar.muli v5 c4_i32_5187
  let v5341 : BitVec 32 := Scalar.addi v5339 v5340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5188 : BitVec 32 := 1#32
  let v5342 : BitVec 32 := Scalar.muli v8 c1_i32_5188
  let v5343 : BitVec 32 := Scalar.addi v5341 v5342
  v5343.toNat
def k0_dev151 (d0 : Dev nD) : Nat :=
  let c0_i32_5231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5230 : BitVec 32 := 8#32
  let v5381 : BitVec 32 := Scalar.muli v2 c8_i32_5230
  let v5382 : BitVec 32 := Scalar.addi c0_i32_5231 v5381
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5232 : BitVec 32 := 4#32
  let v5383 : BitVec 32 := Scalar.muli v9 c4_i32_5232
  let v5384 : BitVec 32 := Scalar.addi v5382 v5383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5233 : BitVec 32 := 1#32
  let v5385 : BitVec 32 := Scalar.muli v8 c1_i32_5233
  let v5386 : BitVec 32 := Scalar.addi v5384 v5385
  v5386.toNat
def k0_dev152 (d0 : Dev nD) : Nat :=
  let c0_i32_5275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5274 : BitVec 32 := 8#32
  let v5429 : BitVec 32 := Scalar.muli v2 c8_i32_5274
  let v5430 : BitVec 32 := Scalar.addi c0_i32_5275 v5429
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5276 : BitVec 32 := 4#32
  let v5431 : BitVec 32 := Scalar.muli v9 c4_i32_5276
  let v5432 : BitVec 32 := Scalar.addi v5430 v5431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5277 : BitVec 32 := 1#32
  let v5433 : BitVec 32 := Scalar.muli v8 c1_i32_5277
  let v5434 : BitVec 32 := Scalar.addi v5432 v5433
  v5434.toNat
def k0_dev153 (d0 : Dev nD) : Nat :=
  let c0_i32_5294 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5293 : BitVec 32 := 8#32
  let v5448 : BitVec 32 := Scalar.muli v10 c8_i32_5293
  let v5449 : BitVec 32 := Scalar.addi c0_i32_5294 v5448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5295 : BitVec 32 := 4#32
  let v5450 : BitVec 32 := Scalar.muli v5 c4_i32_5295
  let v5451 : BitVec 32 := Scalar.addi v5449 v5450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5296 : BitVec 32 := 1#32
  let v5452 : BitVec 32 := Scalar.muli v8 c1_i32_5296
  let v5453 : BitVec 32 := Scalar.addi v5451 v5452
  v5453.toNat
def k0_dev154 (d0 : Dev nD) : Nat :=
  let c0_i32_5339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5338 : BitVec 32 := 8#32
  let v5491 : BitVec 32 := Scalar.muli v2 c8_i32_5338
  let v5492 : BitVec 32 := Scalar.addi c0_i32_5339 v5491
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5340 : BitVec 32 := 4#32
  let v5493 : BitVec 32 := Scalar.muli v9 c4_i32_5340
  let v5494 : BitVec 32 := Scalar.addi v5492 v5493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5341 : BitVec 32 := 1#32
  let v5495 : BitVec 32 := Scalar.muli v8 c1_i32_5341
  let v5496 : BitVec 32 := Scalar.addi v5494 v5495
  v5496.toNat
def k0_dev155 (d0 : Dev nD) : Nat :=
  let c0_i32_5383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5382 : BitVec 32 := 8#32
  let v5539 : BitVec 32 := Scalar.muli v2 c8_i32_5382
  let v5540 : BitVec 32 := Scalar.addi c0_i32_5383 v5539
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5384 : BitVec 32 := 4#32
  let v5541 : BitVec 32 := Scalar.muli v9 c4_i32_5384
  let v5542 : BitVec 32 := Scalar.addi v5540 v5541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5385 : BitVec 32 := 1#32
  let v5543 : BitVec 32 := Scalar.muli v8 c1_i32_5385
  let v5544 : BitVec 32 := Scalar.addi v5542 v5543
  v5544.toNat
def k0_dev156 (d0 : Dev nD) : Nat :=
  let c0_i32_5402 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5401 : BitVec 32 := 8#32
  let v5558 : BitVec 32 := Scalar.muli v10 c8_i32_5401
  let v5559 : BitVec 32 := Scalar.addi c0_i32_5402 v5558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5403 : BitVec 32 := 4#32
  let v5560 : BitVec 32 := Scalar.muli v5 c4_i32_5403
  let v5561 : BitVec 32 := Scalar.addi v5559 v5560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5404 : BitVec 32 := 1#32
  let v5562 : BitVec 32 := Scalar.muli v8 c1_i32_5404
  let v5563 : BitVec 32 := Scalar.addi v5561 v5562
  v5563.toNat
def k0_dev157 (d0 : Dev nD) : Nat :=
  let c0_i32_5447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5446 : BitVec 32 := 8#32
  let v5601 : BitVec 32 := Scalar.muli v2 c8_i32_5446
  let v5602 : BitVec 32 := Scalar.addi c0_i32_5447 v5601
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5448 : BitVec 32 := 4#32
  let v5603 : BitVec 32 := Scalar.muli v9 c4_i32_5448
  let v5604 : BitVec 32 := Scalar.addi v5602 v5603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5449 : BitVec 32 := 1#32
  let v5605 : BitVec 32 := Scalar.muli v8 c1_i32_5449
  let v5606 : BitVec 32 := Scalar.addi v5604 v5605
  v5606.toNat
def k0_dev158 (d0 : Dev nD) : Nat :=
  let c0_i32_5491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5490 : BitVec 32 := 8#32
  let v5649 : BitVec 32 := Scalar.muli v2 c8_i32_5490
  let v5650 : BitVec 32 := Scalar.addi c0_i32_5491 v5649
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5492 : BitVec 32 := 4#32
  let v5651 : BitVec 32 := Scalar.muli v9 c4_i32_5492
  let v5652 : BitVec 32 := Scalar.addi v5650 v5651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5493 : BitVec 32 := 1#32
  let v5653 : BitVec 32 := Scalar.muli v8 c1_i32_5493
  let v5654 : BitVec 32 := Scalar.addi v5652 v5653
  v5654.toNat
def k0_dev159 (d0 : Dev nD) : Nat :=
  let c0_i32_5510 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5509 : BitVec 32 := 8#32
  let v5668 : BitVec 32 := Scalar.muli v10 c8_i32_5509
  let v5669 : BitVec 32 := Scalar.addi c0_i32_5510 v5668
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5511 : BitVec 32 := 4#32
  let v5670 : BitVec 32 := Scalar.muli v5 c4_i32_5511
  let v5671 : BitVec 32 := Scalar.addi v5669 v5670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5512 : BitVec 32 := 1#32
  let v5672 : BitVec 32 := Scalar.muli v8 c1_i32_5512
  let v5673 : BitVec 32 := Scalar.addi v5671 v5672
  v5673.toNat
def k0_dev160 (d0 : Dev nD) : Nat :=
  let c0_i32_5555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5554 : BitVec 32 := 8#32
  let v5711 : BitVec 32 := Scalar.muli v2 c8_i32_5554
  let v5712 : BitVec 32 := Scalar.addi c0_i32_5555 v5711
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5556 : BitVec 32 := 4#32
  let v5713 : BitVec 32 := Scalar.muli v9 c4_i32_5556
  let v5714 : BitVec 32 := Scalar.addi v5712 v5713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5557 : BitVec 32 := 1#32
  let v5715 : BitVec 32 := Scalar.muli v8 c1_i32_5557
  let v5716 : BitVec 32 := Scalar.addi v5714 v5715
  v5716.toNat
def k0_dev161 (d0 : Dev nD) : Nat :=
  let c0_i32_5599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5598 : BitVec 32 := 8#32
  let v5759 : BitVec 32 := Scalar.muli v2 c8_i32_5598
  let v5760 : BitVec 32 := Scalar.addi c0_i32_5599 v5759
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5600 : BitVec 32 := 4#32
  let v5761 : BitVec 32 := Scalar.muli v9 c4_i32_5600
  let v5762 : BitVec 32 := Scalar.addi v5760 v5761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5601 : BitVec 32 := 1#32
  let v5763 : BitVec 32 := Scalar.muli v8 c1_i32_5601
  let v5764 : BitVec 32 := Scalar.addi v5762 v5763
  v5764.toNat
def k0_dev162 (d0 : Dev nD) : Nat :=
  let c0_i32_5618 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5617 : BitVec 32 := 8#32
  let v5778 : BitVec 32 := Scalar.muli v10 c8_i32_5617
  let v5779 : BitVec 32 := Scalar.addi c0_i32_5618 v5778
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5619 : BitVec 32 := 4#32
  let v5780 : BitVec 32 := Scalar.muli v5 c4_i32_5619
  let v5781 : BitVec 32 := Scalar.addi v5779 v5780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5620 : BitVec 32 := 1#32
  let v5782 : BitVec 32 := Scalar.muli v8 c1_i32_5620
  let v5783 : BitVec 32 := Scalar.addi v5781 v5782
  v5783.toNat
def k0_dev163 (d0 : Dev nD) : Nat :=
  let c0_i32_5663 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5662 : BitVec 32 := 8#32
  let v5821 : BitVec 32 := Scalar.muli v2 c8_i32_5662
  let v5822 : BitVec 32 := Scalar.addi c0_i32_5663 v5821
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5664 : BitVec 32 := 4#32
  let v5823 : BitVec 32 := Scalar.muli v9 c4_i32_5664
  let v5824 : BitVec 32 := Scalar.addi v5822 v5823
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5665 : BitVec 32 := 1#32
  let v5825 : BitVec 32 := Scalar.muli v8 c1_i32_5665
  let v5826 : BitVec 32 := Scalar.addi v5824 v5825
  v5826.toNat
def k0_dev164 (d0 : Dev nD) : Nat :=
  let c0_i32_5707 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5706 : BitVec 32 := 8#32
  let v5869 : BitVec 32 := Scalar.muli v2 c8_i32_5706
  let v5870 : BitVec 32 := Scalar.addi c0_i32_5707 v5869
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5708 : BitVec 32 := 4#32
  let v5871 : BitVec 32 := Scalar.muli v9 c4_i32_5708
  let v5872 : BitVec 32 := Scalar.addi v5870 v5871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5709 : BitVec 32 := 1#32
  let v5873 : BitVec 32 := Scalar.muli v8 c1_i32_5709
  let v5874 : BitVec 32 := Scalar.addi v5872 v5873
  v5874.toNat
def k0_dev165 (d0 : Dev nD) : Nat :=
  let c0_i32_5726 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5725 : BitVec 32 := 8#32
  let v5888 : BitVec 32 := Scalar.muli v10 c8_i32_5725
  let v5889 : BitVec 32 := Scalar.addi c0_i32_5726 v5888
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5727 : BitVec 32 := 4#32
  let v5890 : BitVec 32 := Scalar.muli v5 c4_i32_5727
  let v5891 : BitVec 32 := Scalar.addi v5889 v5890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5728 : BitVec 32 := 1#32
  let v5892 : BitVec 32 := Scalar.muli v8 c1_i32_5728
  let v5893 : BitVec 32 := Scalar.addi v5891 v5892
  v5893.toNat
def k0_dev166 (d0 : Dev nD) : Nat :=
  let c0_i32_5771 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5770 : BitVec 32 := 8#32
  let v5931 : BitVec 32 := Scalar.muli v2 c8_i32_5770
  let v5932 : BitVec 32 := Scalar.addi c0_i32_5771 v5931
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5772 : BitVec 32 := 4#32
  let v5933 : BitVec 32 := Scalar.muli v9 c4_i32_5772
  let v5934 : BitVec 32 := Scalar.addi v5932 v5933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5773 : BitVec 32 := 1#32
  let v5935 : BitVec 32 := Scalar.muli v8 c1_i32_5773
  let v5936 : BitVec 32 := Scalar.addi v5934 v5935
  v5936.toNat
def k0_dev167 (d0 : Dev nD) : Nat :=
  let c0_i32_5815 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5814 : BitVec 32 := 8#32
  let v5979 : BitVec 32 := Scalar.muli v2 c8_i32_5814
  let v5980 : BitVec 32 := Scalar.addi c0_i32_5815 v5979
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5816 : BitVec 32 := 4#32
  let v5981 : BitVec 32 := Scalar.muli v9 c4_i32_5816
  let v5982 : BitVec 32 := Scalar.addi v5980 v5981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5817 : BitVec 32 := 1#32
  let v5983 : BitVec 32 := Scalar.muli v8 c1_i32_5817
  let v5984 : BitVec 32 := Scalar.addi v5982 v5983
  v5984.toNat
def k0_dev168 (d0 : Dev nD) : Nat :=
  let c0_i32_5834 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5833 : BitVec 32 := 8#32
  let v5998 : BitVec 32 := Scalar.muli v10 c8_i32_5833
  let v5999 : BitVec 32 := Scalar.addi c0_i32_5834 v5998
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5835 : BitVec 32 := 4#32
  let v6000 : BitVec 32 := Scalar.muli v5 c4_i32_5835
  let v6001 : BitVec 32 := Scalar.addi v5999 v6000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5836 : BitVec 32 := 1#32
  let v6002 : BitVec 32 := Scalar.muli v8 c1_i32_5836
  let v6003 : BitVec 32 := Scalar.addi v6001 v6002
  v6003.toNat
def k0_dev169 (d0 : Dev nD) : Nat :=
  let c0_i32_5879 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5878 : BitVec 32 := 8#32
  let v6041 : BitVec 32 := Scalar.muli v2 c8_i32_5878
  let v6042 : BitVec 32 := Scalar.addi c0_i32_5879 v6041
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5880 : BitVec 32 := 4#32
  let v6043 : BitVec 32 := Scalar.muli v9 c4_i32_5880
  let v6044 : BitVec 32 := Scalar.addi v6042 v6043
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5881 : BitVec 32 := 1#32
  let v6045 : BitVec 32 := Scalar.muli v8 c1_i32_5881
  let v6046 : BitVec 32 := Scalar.addi v6044 v6045
  v6046.toNat
def k0_dev170 (d0 : Dev nD) : Nat :=
  let c0_i32_5923 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5922 : BitVec 32 := 8#32
  let v6089 : BitVec 32 := Scalar.muli v2 c8_i32_5922
  let v6090 : BitVec 32 := Scalar.addi c0_i32_5923 v6089
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5924 : BitVec 32 := 4#32
  let v6091 : BitVec 32 := Scalar.muli v9 c4_i32_5924
  let v6092 : BitVec 32 := Scalar.addi v6090 v6091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5925 : BitVec 32 := 1#32
  let v6093 : BitVec 32 := Scalar.muli v8 c1_i32_5925
  let v6094 : BitVec 32 := Scalar.addi v6092 v6093
  v6094.toNat
def k0_dev171 (d0 : Dev nD) : Nat :=
  let c0_i32_5942 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_5941 : BitVec 32 := 8#32
  let v6108 : BitVec 32 := Scalar.muli v10 c8_i32_5941
  let v6109 : BitVec 32 := Scalar.addi c0_i32_5942 v6108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5943 : BitVec 32 := 4#32
  let v6110 : BitVec 32 := Scalar.muli v5 c4_i32_5943
  let v6111 : BitVec 32 := Scalar.addi v6109 v6110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5944 : BitVec 32 := 1#32
  let v6112 : BitVec 32 := Scalar.muli v8 c1_i32_5944
  let v6113 : BitVec 32 := Scalar.addi v6111 v6112
  v6113.toNat
def k0_dev172 (d0 : Dev nD) : Nat :=
  let c0_i32_5987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5986 : BitVec 32 := 8#32
  let v6151 : BitVec 32 := Scalar.muli v2 c8_i32_5986
  let v6152 : BitVec 32 := Scalar.addi c0_i32_5987 v6151
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5988 : BitVec 32 := 4#32
  let v6153 : BitVec 32 := Scalar.muli v9 c4_i32_5988
  let v6154 : BitVec 32 := Scalar.addi v6152 v6153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5989 : BitVec 32 := 1#32
  let v6155 : BitVec 32 := Scalar.muli v8 c1_i32_5989
  let v6156 : BitVec 32 := Scalar.addi v6154 v6155
  v6156.toNat
def k0_dev173 (d0 : Dev nD) : Nat :=
  let c0_i32_6031 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6030 : BitVec 32 := 8#32
  let v6199 : BitVec 32 := Scalar.muli v2 c8_i32_6030
  let v6200 : BitVec 32 := Scalar.addi c0_i32_6031 v6199
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6032 : BitVec 32 := 4#32
  let v6201 : BitVec 32 := Scalar.muli v9 c4_i32_6032
  let v6202 : BitVec 32 := Scalar.addi v6200 v6201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6033 : BitVec 32 := 1#32
  let v6203 : BitVec 32 := Scalar.muli v8 c1_i32_6033
  let v6204 : BitVec 32 := Scalar.addi v6202 v6203
  v6204.toNat
def k0_dev174 (d0 : Dev nD) : Nat :=
  let c0_i32_6050 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6049 : BitVec 32 := 8#32
  let v6218 : BitVec 32 := Scalar.muli v10 c8_i32_6049
  let v6219 : BitVec 32 := Scalar.addi c0_i32_6050 v6218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6051 : BitVec 32 := 4#32
  let v6220 : BitVec 32 := Scalar.muli v5 c4_i32_6051
  let v6221 : BitVec 32 := Scalar.addi v6219 v6220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6052 : BitVec 32 := 1#32
  let v6222 : BitVec 32 := Scalar.muli v8 c1_i32_6052
  let v6223 : BitVec 32 := Scalar.addi v6221 v6222
  v6223.toNat
def k0_dev175 (d0 : Dev nD) : Nat :=
  let c0_i32_6095 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6094 : BitVec 32 := 8#32
  let v6261 : BitVec 32 := Scalar.muli v2 c8_i32_6094
  let v6262 : BitVec 32 := Scalar.addi c0_i32_6095 v6261
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6096 : BitVec 32 := 4#32
  let v6263 : BitVec 32 := Scalar.muli v9 c4_i32_6096
  let v6264 : BitVec 32 := Scalar.addi v6262 v6263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6097 : BitVec 32 := 1#32
  let v6265 : BitVec 32 := Scalar.muli v8 c1_i32_6097
  let v6266 : BitVec 32 := Scalar.addi v6264 v6265
  v6266.toNat
def k0_dev176 (d0 : Dev nD) : Nat :=
  let c0_i32_6139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6138 : BitVec 32 := 8#32
  let v6309 : BitVec 32 := Scalar.muli v2 c8_i32_6138
  let v6310 : BitVec 32 := Scalar.addi c0_i32_6139 v6309
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6140 : BitVec 32 := 4#32
  let v6311 : BitVec 32 := Scalar.muli v9 c4_i32_6140
  let v6312 : BitVec 32 := Scalar.addi v6310 v6311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6141 : BitVec 32 := 1#32
  let v6313 : BitVec 32 := Scalar.muli v8 c1_i32_6141
  let v6314 : BitVec 32 := Scalar.addi v6312 v6313
  v6314.toNat
def k0_dev177 (d0 : Dev nD) : Nat :=
  let c0_i32_6158 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6157 : BitVec 32 := 8#32
  let v6328 : BitVec 32 := Scalar.muli v10 c8_i32_6157
  let v6329 : BitVec 32 := Scalar.addi c0_i32_6158 v6328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6159 : BitVec 32 := 4#32
  let v6330 : BitVec 32 := Scalar.muli v5 c4_i32_6159
  let v6331 : BitVec 32 := Scalar.addi v6329 v6330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6160 : BitVec 32 := 1#32
  let v6332 : BitVec 32 := Scalar.muli v8 c1_i32_6160
  let v6333 : BitVec 32 := Scalar.addi v6331 v6332
  v6333.toNat
def k0_dev178 (d0 : Dev nD) : Nat :=
  let c0_i32_6203 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6202 : BitVec 32 := 8#32
  let v6371 : BitVec 32 := Scalar.muli v2 c8_i32_6202
  let v6372 : BitVec 32 := Scalar.addi c0_i32_6203 v6371
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6204 : BitVec 32 := 4#32
  let v6373 : BitVec 32 := Scalar.muli v9 c4_i32_6204
  let v6374 : BitVec 32 := Scalar.addi v6372 v6373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6205 : BitVec 32 := 1#32
  let v6375 : BitVec 32 := Scalar.muli v8 c1_i32_6205
  let v6376 : BitVec 32 := Scalar.addi v6374 v6375
  v6376.toNat
def k0_dev179 (d0 : Dev nD) : Nat :=
  let c0_i32_6256 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6255 : BitVec 32 := 8#32
  let v6426 : BitVec 32 := Scalar.muli v10 c8_i32_6255
  let v6427 : BitVec 32 := Scalar.addi c0_i32_6256 v6426
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6257 : BitVec 32 := 4#32
  let v6428 : BitVec 32 := Scalar.muli v5 c4_i32_6257
  let v6429 : BitVec 32 := Scalar.addi v6427 v6428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6258 : BitVec 32 := 1#32
  let v6430 : BitVec 32 := Scalar.muli v8 c1_i32_6258
  let v6431 : BitVec 32 := Scalar.addi v6429 v6430
  v6431.toNat
def k0_dev180 (d0 : Dev nD) : Nat :=
  let c0_i32_6301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6300 : BitVec 32 := 8#32
  let v6469 : BitVec 32 := Scalar.muli v2 c8_i32_6300
  let v6470 : BitVec 32 := Scalar.addi c0_i32_6301 v6469
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6302 : BitVec 32 := 4#32
  let v6471 : BitVec 32 := Scalar.muli v9 c4_i32_6302
  let v6472 : BitVec 32 := Scalar.addi v6470 v6471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6303 : BitVec 32 := 1#32
  let v6473 : BitVec 32 := Scalar.muli v8 c1_i32_6303
  let v6474 : BitVec 32 := Scalar.addi v6472 v6473
  v6474.toNat
def k0_dev181 (d0 : Dev nD) : Nat :=
  let c0_i32_6354 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6353 : BitVec 32 := 8#32
  let v6524 : BitVec 32 := Scalar.muli v10 c8_i32_6353
  let v6525 : BitVec 32 := Scalar.addi c0_i32_6354 v6524
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6355 : BitVec 32 := 4#32
  let v6526 : BitVec 32 := Scalar.muli v5 c4_i32_6355
  let v6527 : BitVec 32 := Scalar.addi v6525 v6526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6356 : BitVec 32 := 1#32
  let v6528 : BitVec 32 := Scalar.muli v8 c1_i32_6356
  let v6529 : BitVec 32 := Scalar.addi v6527 v6528
  v6529.toNat
def k0_dev182 (d0 : Dev nD) : Nat :=
  let c0_i32_6399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6398 : BitVec 32 := 8#32
  let v6567 : BitVec 32 := Scalar.muli v2 c8_i32_6398
  let v6568 : BitVec 32 := Scalar.addi c0_i32_6399 v6567
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6400 : BitVec 32 := 4#32
  let v6569 : BitVec 32 := Scalar.muli v9 c4_i32_6400
  let v6570 : BitVec 32 := Scalar.addi v6568 v6569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6401 : BitVec 32 := 1#32
  let v6571 : BitVec 32 := Scalar.muli v8 c1_i32_6401
  let v6572 : BitVec 32 := Scalar.addi v6570 v6571
  v6572.toNat
def k0_dev183 (d0 : Dev nD) : Nat :=
  let c0_i32_6452 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6451 : BitVec 32 := 8#32
  let v6622 : BitVec 32 := Scalar.muli v10 c8_i32_6451
  let v6623 : BitVec 32 := Scalar.addi c0_i32_6452 v6622
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6453 : BitVec 32 := 4#32
  let v6624 : BitVec 32 := Scalar.muli v5 c4_i32_6453
  let v6625 : BitVec 32 := Scalar.addi v6623 v6624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6454 : BitVec 32 := 1#32
  let v6626 : BitVec 32 := Scalar.muli v8 c1_i32_6454
  let v6627 : BitVec 32 := Scalar.addi v6625 v6626
  v6627.toNat
def k0_dev184 (d0 : Dev nD) : Nat :=
  let c0_i32_6497 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6496 : BitVec 32 := 8#32
  let v6665 : BitVec 32 := Scalar.muli v2 c8_i32_6496
  let v6666 : BitVec 32 := Scalar.addi c0_i32_6497 v6665
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6498 : BitVec 32 := 4#32
  let v6667 : BitVec 32 := Scalar.muli v9 c4_i32_6498
  let v6668 : BitVec 32 := Scalar.addi v6666 v6667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6499 : BitVec 32 := 1#32
  let v6669 : BitVec 32 := Scalar.muli v8 c1_i32_6499
  let v6670 : BitVec 32 := Scalar.addi v6668 v6669
  v6670.toNat
def k0_dev185 (d0 : Dev nD) : Nat :=
  let c0_i32_6550 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6549 : BitVec 32 := 8#32
  let v6720 : BitVec 32 := Scalar.muli v10 c8_i32_6549
  let v6721 : BitVec 32 := Scalar.addi c0_i32_6550 v6720
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6551 : BitVec 32 := 4#32
  let v6722 : BitVec 32 := Scalar.muli v5 c4_i32_6551
  let v6723 : BitVec 32 := Scalar.addi v6721 v6722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6552 : BitVec 32 := 1#32
  let v6724 : BitVec 32 := Scalar.muli v8 c1_i32_6552
  let v6725 : BitVec 32 := Scalar.addi v6723 v6724
  v6725.toNat
def k0_dev186 (d0 : Dev nD) : Nat :=
  let c0_i32_6595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6594 : BitVec 32 := 8#32
  let v6763 : BitVec 32 := Scalar.muli v2 c8_i32_6594
  let v6764 : BitVec 32 := Scalar.addi c0_i32_6595 v6763
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6596 : BitVec 32 := 4#32
  let v6765 : BitVec 32 := Scalar.muli v9 c4_i32_6596
  let v6766 : BitVec 32 := Scalar.addi v6764 v6765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6597 : BitVec 32 := 1#32
  let v6767 : BitVec 32 := Scalar.muli v8 c1_i32_6597
  let v6768 : BitVec 32 := Scalar.addi v6766 v6767
  v6768.toNat
def k0_dev187 (d0 : Dev nD) : Nat :=
  let c0_i32_6648 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6647 : BitVec 32 := 8#32
  let v6818 : BitVec 32 := Scalar.muli v10 c8_i32_6647
  let v6819 : BitVec 32 := Scalar.addi c0_i32_6648 v6818
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6649 : BitVec 32 := 4#32
  let v6820 : BitVec 32 := Scalar.muli v5 c4_i32_6649
  let v6821 : BitVec 32 := Scalar.addi v6819 v6820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6650 : BitVec 32 := 1#32
  let v6822 : BitVec 32 := Scalar.muli v8 c1_i32_6650
  let v6823 : BitVec 32 := Scalar.addi v6821 v6822
  v6823.toNat
def k0_dev188 (d0 : Dev nD) : Nat :=
  let c0_i32_6711 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_6710 : BitVec 32 := 8#32
  let v6884 : BitVec 32 := Scalar.muli v10 c8_i32_6710
  let v6885 : BitVec 32 := Scalar.addi c0_i32_6711 v6884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6712 : BitVec 32 := 4#32
  let v6886 : BitVec 32 := Scalar.muli v5 c4_i32_6712
  let v6887 : BitVec 32 := Scalar.addi v6885 v6886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6713 : BitVec 32 := 1#32
  let v6888 : BitVec 32 := Scalar.muli v8 c1_i32_6713
  let v6889 : BitVec 32 := Scalar.addi v6887 v6888
  v6889.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
  The kernel body written as a loop.

  The printed body is one straight line of some twelve hundred memory operations: sixty-four
  chunks, each handled by the same six short sequences at its own slot and row. Here the
  sequences are functions of the chunk, the body is a loop over the chunks, and
  `bodyAt0_eq` says that the printed body is that loop, by unfolding both.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Proof

open Idealize.ShloMosaic Idealize.ShloMosaic.TcCoe
open Idealize.SL Idealize.SL.Sem
open Cert.KernelIdeal Cert.KernelIdeal.Gen

variable {F : FTy → Type} [FloatOps F]

/-! ## The buffers, the slots and the rows -/

/-- The argument, this device's block of `x`. -/
abbrev xM : Memref sig .tc .hbm S32768x1024 .f32 := Memref.whole main_arg0
/-- The result. -/
abbrev oM : Memref sig .tc .hbm S32768x1024 .bf16 := Memref.whole main_v1
/-- Six slots for the chunks loaded from `x`. -/
abbrev locM : Memref sig .tc .vmem S6x256x1024 .f32 := Memref.whole cc0_scratch0
/-- Six slots for the rounded chunks on their way to the partner along `y`. -/
abbrev ysM : Memref sig .tc .vmem S6x256x1024 .bf16 := Memref.whole cc0_scratch1
/-- Six slots where the partner along `y` writes its rounded chunks. -/
abbrev yrM : Memref sig .tc .vmem S6x256x1024 .bf16 := Memref.whole cc0_scratch2
/-- Six slots for the summed chunks on their way to the results. -/
abbrev xsM : Memref sig .tc .vmem S6x256x1024 .bf16 := Memref.whole cc0_scratch3

/-- A slot's corner lies in the slotted buffer. -/
theorem slot_inb (s : Fin 6) : ∀ a, (![s.val, 0, 0] : Fin 3 → Nat) a + S1x256x1024.size a ≤ S6x256x1024.size a := by
  revert s; decide
/-- A slot's semaphore lies in its array. -/
theorem sem_inb (s : Fin 6) : ∀ a, (![s.val] : Fin 1 → Nat) a + S1.size a ≤ S6.size a := by
  revert s; decide

/-- Slot `s` of a slotted buffer, as a rectangle. -/
abbrev slotR (s : Fin 6) : Rect S6x256x1024 := Rect.unit (s := S6x256x1024) ![s.val, 0, 0] S1x256x1024.size (slot_inb s)
/-- The rows of chunk `i` of device `d`, as a rectangle of the 32768 rows. -/
abbrev rowR (d : Dev nD) (i : Fin 64) : Rect S32768x1024 :=
  Rect.unit (s := S32768x1024) (k0_off1 d (BitVec.ofNat 32 (256 * i.val))) S256x1024.size (k0_off1_inb d i)

/-- Slot `s` starts and ends at whole words. -/
theorem slot_words (s : Fin 6) : (slotR s).WholeWords (EltTy.packing .bf16) := by revert s; decide
/-- Slot `s` is whole packed rows. -/
theorem slot_packed (s : Fin 6) : (slotR s).PackedRows (EltTy.packing .bf16) := by revert s; decide

/-- Slot `s` of a slotted buffer, as a chunk. -/
abbrev slotM {e : EltTy} (M : Memref sig .tc .vmem S6x256x1024 e) (s : Fin 6) : Memref sig .tc .vmem S256x1024 e :=
  (M.slice (slotR s) (fun _ => rfl)).squeeze S256x1024 squeezes_S1x256x1024_S256x1024
/-- Chunk `i` of device `d` of an array of 32768 rows. -/
abbrev rowM {e : EltTy} (M : Memref sig .tc .hbm S32768x1024 e) (d : Dev nD) (i : Fin 64) : Memref sig .tc .hbm S256x1024 e :=
  M.slice (rowR d i) (fun _ => rfl)
/-- Semaphore `s` of an array of six. -/
abbrev semD (A : DmaSems sig S6) (s : Fin 6) : DmaSem sig :=
  ((A.slice (Rect.unit (s := S6) ![s.val] S1.size (sem_inb s))).squeeze S_ squeezes_S1_S_).sem

/-- The slot of chunk `i`. -/
abbrev slot (i : Fin 64) : Fin 6 := ⟨i.val % 6, Nat.mod_lt _ (by decide)⟩

/-- The partner of `d` along `y`. -/
abbrev yp (d : Dev nD) : Dev nD := ⟨k0_dev1 d, k0_dev1_lt d⟩
/-- The partner of `d` along `x`. -/
abbrev xp (d : Dev nD) : Dev nD := ⟨k0_dev2 d, k0_dev2_lt d⟩

/-- The semaphore by which the partner along `y` says that a slot is free again. -/
abbrev credS : Sem sig := cc0_scratch10.sem
/-- The barrier semaphore. -/
abbrev barS : Sem sig := (SemArray.scalar (sig.barrier 0 rfl) : Sems sig S_).sem

/-! ## The sequences of one chunk -/

/-- A stretch of the kernel body. -/
abbrev Stretch (F : FTy → Type) [FloatOps F] : Type 1 := Prog (TpuEff nD τ sig (Elt F) Λ₀ .tc) PUnit

/-- Start loading chunk `i` of `x` into its slot. -/
def load (d : Dev nD) (i : Fin 64) : Stretch F :=
  Prog.lift (.enqueueDma (rowM xM d i) (.here (slotM locM (slot i))) (.dma (semD cc0_scratch4 (slot i)))
    (View.wordExact_bits rfl) ((View.wordExact_bits rfl).reshape _ _) ⟨Or.inl rfl, trivial⟩)

/-- Wait for the sending of chunk `i` along `y`. -/
def ywait (i : Fin 64) : Stretch F :=
  Prog.lift (.waitDma2 (semD cc0_scratch6 (slot i)) (slotM yrM (slot i)) (slotM ysM (slot i))
    (((Memref.isWhole_whole _).wordExact_slice rfl _ (slot_words _)).reshape _ _)
    (((Memref.isWhole_whole _).wordExact_slice rfl _ (slot_words _)).reshape _ _))

/-- Wait for chunk `i` to be loaded, and write it, rounded, into its sending slot. -/
def convert (d : Dev nD) (i : Fin 64) : Stretch F := do
  Prog.lift (.waitDma2 (semD cc0_scratch4 (slot i)) (rowM xM d i) (slotM locM (slot i))
    (View.wordExact_bits rfl) ((View.wordExact_bits rfl).reshape _ _))
  let v ← Prog.lift (.load locM (slotR (slot i)).toLoadRect (View.loadsAt_vmem h_S1x256x1024))
  let _ ← Prog.lift (.load ysM (slotR (slot i)).toLoadRect (View.loadsAt_vmem h_S1x256x1024))
  Prog.lift (.store ysM (slotR (slot i)) (k0_pay1 v) Finset.univ
    (View.stores_vmem h_S1x256x1024 ((Memref.isWhole_whole _).storeExact_slice rfl _ (slot_packed _)) (fun _ => rfl)) (.inl rfl))

/-- Start sending chunk `i` along `y`. -/
def ysend (d : Dev nD) (i : Fin 64) : Stretch F :=
  Prog.lift (.enqueueDma (slotM ysM (slot i))
    (.remote (Dev.tc (yp d)) (slotM yrM (slot i)) (.dma (semD cc0_scratch6 (slot i)))) (.dma (semD cc0_scratch7 (slot i)))
    (((Memref.isWhole_whole _).wordExact_slice rfl _ (slot_words _)).reshape _ _)
    (((Memref.isWhole_whole _).wordExact_slice rfl _ (slot_words _)).reshape _ _) ⟨⟨rfl, Or.inl rfl⟩, trivial⟩)

/-- Wait for the sending of chunk `i` along `x`. -/
def xwait (d : Dev nD) (i : Fin 64) : Stretch F :=
  Prog.lift (.waitDma2 (semD cc0_scratch8 (slot i)) (rowM oM d i) (slotM xsM (slot i))
    ((Memref.isWhole_whole _).wordExact_slice rfl _ (k0_off1_wordsbf16 d i))
    (((Memref.isWhole_whole _).wordExact_slice rfl _ (slot_words _)).reshape _ _))

/-- Wait for chunk `i` to be stored in the own result. -/
def swait (d : Dev nD) (i : Fin 64) : Stretch F :=
  Prog.lift (.waitDma2 (semD cc0_scratch5 (slot i)) (slotM xsM (slot i)) (rowM oM d i)
    (((Memref.isWhole_whole _).wordExact_slice rfl _ (slot_words _)).reshape _ _)
    ((Memref.isWhole_whole _).wordExact_slice rfl _ (k0_off1_wordsbf16 d i)))

/-- Wait for the partner's chunk `i` along `y`, add it to the own chunk and write the sum, rounded,
    into its sending slot. -/
def reduce (i : Fin 64) : Stretch F := do
  Prog.lift (.waitDma2 (semD cc0_scratch7 (slot i)) (slotM ysM (slot i)) (slotM yrM (slot i))
    (((Memref.isWhole_whole _).wordExact_slice rfl _ (slot_words _)).reshape _ _)
    (((Memref.isWhole_whole _).wordExact_slice rfl _ (slot_words _)).reshape _ _))
  let v ← Prog.lift (.load locM (slotR (slot i)).toLoadRect (View.loadsAt_vmem h_S1x256x1024))
  let w ← Prog.lift (.load yrM (slotR (slot i)).toLoadRect (View.loadsAt_vmem h_S1x256x1024))
  let _ ← Prog.lift (.load xsM (slotR (slot i)).toLoadRect (View.loadsAt_vmem h_S1x256x1024))
  Prog.lift (.store xsM (slotR (slot i)) (k0_pay3 v w) Finset.univ
    (View.stores_vmem h_S1x256x1024 ((Memref.isWhole_whole _).storeExact_slice rfl _ (slot_packed _)) (fun _ => rfl)) (.inl rfl))

/-- Start storing the summed chunk `i` in the own result. -/
def store (d : Dev nD) (i : Fin 64) : Stretch F :=
  Prog.lift (.enqueueDma (slotM xsM (slot i)) (.here (rowM oM d i)) (.dma (semD cc0_scratch5 (slot i)))
    (((Memref.isWhole_whole _).wordExact_slice rfl _ (slot_words _)).reshape _ _)
    ((Memref.isWhole_whole _).wordExact_slice rfl _ (k0_off1_wordsbf16 d i)) ⟨Or.inl rfl, trivial⟩)

/-- Start sending the summed chunk `i` into the result of the partner along `x`. -/
def xsend (d : Dev nD) (i : Fin 64) : Stretch F :=
  Prog.lift (.enqueueDma (slotM xsM (slot i))
    (.remote (Dev.tc (xp d)) (rowM oM d i) (.dma (semD cc0_scratch8 (slot i)))) (.dma (semD cc0_scratch9 (slot i)))
    (((Memref.isWhole_whole _).wordExact_slice rfl _ (slot_words _)).reshape _ _)
    ((Memref.isWhole_whole _).wordExact_slice rfl _ (k0_off1_wordsbf16 d i)) ⟨⟨rfl, Or.inl rfl⟩, trivial⟩)

/-- Wait for the partner's chunk `i` along `x`. -/
def finish (d : Dev nD) (i : Fin 64) : Stretch F :=
  Prog.lift (.waitDma2 (semD cc0_scratch9 (slot i)) (slotM xsM (slot i)) (rowM oM d i)
    (((Memref.isWhole_whole _).wordExact_slice rfl _ (slot_words _)).reshape _ _)
    ((Memref.isWhole_whole _).wordExact_slice rfl _ (k0_off1_wordsbf16 d i)))

/-! ## The loop -/

/-- Chunk `n`, when there are that many chunks, and otherwise nothing. -/
def withChunk (n : Nat) (p : Fin 64 → Stretch F) : Stretch F :=
  if h : n < 64 then p ⟨n, h⟩ else pure ⟨⟩

/-- The chunk six before `i`, which used `i`'s slot, when there is one, and otherwise nothing. -/
def withBefore (i : Fin 64) (p : Fin 64 → Stretch F) : Stretch F :=
  if 6 ≤ i.val then p ⟨i.val - 6, Nat.lt_of_le_of_lt (Nat.sub_le _ _) i.isLt⟩ else pure ⟨⟩

/-- Chunk `i`, from its load to its sending along `y`. -/
def prepare (d : Dev nD) (i : Fin 64) : Stretch F := do
  withBefore i ywait
  convert d i
  withBefore i (fun _ => semWaitWord credS 1#32)
  ysend d i

/-- Chunk `i`, from the arrival of the partner's chunk to the written sum. -/
def combine (d : Dev nD) (i : Fin 64) : Stretch F := do
  withBefore i (xwait d)
  withBefore i (swait d)
  reduce i
  if i.val < 58 then semSignalWord (yp d) credS 1#32

/-- The trip of chunk `i`. -/
def trip (d : Dev nD) (i : Fin 64) : Stretch F := do
  withChunk (i.val + 1) (prepare d)
  combine d i
  withChunk (i.val + 6) (load d)
  store d i
  xsend d i
  if 0 < i.val then finish d ⟨i.val - 1, Nat.lt_of_le_of_lt (Nat.sub_le _ _) i.isLt⟩

/-- The waits for chunk `i` that are left after the last trip. -/
def drain (d : Dev nD) (i : Fin 64) : Stretch F := do
  ywait i
  xwait d i
  swait d i

/-- The last `n` of the sixty-four chunks, in order. -/
def lastTrips (p : Fin 64 → Stretch F) (n : Nat) : Stretch F :=
  Nat.rec (motive := fun _ => Stretch F) (pure ⟨⟩)
    (fun n rest => do p ⟨63 - n, Nat.lt_of_le_of_lt (Nat.sub_le _ _) (by decide)⟩; rest) n

/-- Tell both partners that this device has entered the kernel, and wait until both have. -/
def handshake (d : Dev nD) : Stretch F := do
  semSignalWord (yp d) barS 1#32
  semSignalWord (xp d) barS 1#32
  semWaitWord barS 2#32

/-- Everything before the first trip. -/
def start (d : Dev nD) : Stretch F := do
  load d 0
  convert d 0
  load d 1
  load d 2
  load d 3
  load d 4
  load d 5
  ysend d 0

/-- The whole body. -/
def body : Stretch F := do
  let d ← Prog.lift .deviceId
  handshake d
  start d
  lastTrips (trip d) 64
  finish d 63
  lastTrips (drain d) 6

set_option maxRecDepth 65536 in
/-- The printed body is the loop. -/
theorem bodyAt0_eq (t : Fin cfg0.N) : bodyAt0 (F := F) t = body := by
  chain_rfl

end Cert.KernelIdeal.Proof

end
-- ==== Proof.Cells.lean ====
/-
  The protocol of the kernel: what each semaphore carries.

  Every semaphore of the kernel is a cell of a schedule of rounds. In each round a cell has
  duties, each paid once with its units and its payload, and the waiting device takes the
  payloads of the units that it waits for.
-/
module

public import proofs.«01_k».proof.Proof.Steps
public import Idealize.ShloMosaic.Lib.Release
public import Idealize.ShloMosaic.Lib.Rounds
public import Idealize.ShloMosaic.Lib.Memref
public import Idealize.ShloMosaic.Lib.Pipeline.Launch
public import Idealize.ShloMosaic.Lib.Pipeline.Kit
public import Idealize.ShloMosaic.Lib.Tactic

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The cells of the schedule and the six landing slots of every device. -/
abbrev UB : Type := URounds (GSem nD τ sig) ℕ × Release.USlots (Dev nD × Fin 6)
/-- Together with the launch's own cells. -/
abbrev UU : Type := UR sig nD τ × UB

local notation "𝕄" => MT nD τ sig ℕ (Elt F) ℕ UU ℕ

/-- The launch's part of the algebra. -/
abbrev EP : Emb (UR sig nD τ) (MT nD τ sig ℕ (Elt F) ℕ UU ℕ) := embL
/-- The schedule's part. -/
abbrev ER : Emb (URounds (GSem nD τ sig) ℕ) (MT nD τ sig ℕ (Elt F) ℕ UU ℕ) := Emb.inl.trans embR
/-- The landing slots' part. -/
abbrev ES : Emb (Release.USlots (Dev nD × Fin 6)) (MT nD τ sig ℕ (Elt F) ℕ UU ℕ) := Emb.inr.trans embR

/-! ## The partners -/

/-- The partner along `y` of the partner along `y` is the device itself. -/
theorem yp_yp (c : Dev nD) : yp (yp c) = c := by revert c; decide
/-- The partner along `x` of the partner along `x` is the device itself. -/
theorem xp_xp (c : Dev nD) : xp (xp c) = c := by revert c; decide
/-- The two partners are different devices. -/
theorem yp_ne_xp (c : Dev nD) : yp c ≠ xp c := by revert c; decide

/-! ## The semaphores -/

/-- The six arrays of transfer semaphores: of the loads, of the stores in the own result, of the
    sendings along `y` at the sender and at the receiver, and of those along `x`. -/
inductive Arr where
  | ld | st | ys | yr | xs | xr
  deriving DecidableEq

instance : Fintype Arr := ⟨{.ld, .st, .ys, .yr, .xs, .xr}, by intro a; cases a <;> decide⟩

/-- The array itself. -/
def arrOf : Arr → DmaSems sig S6
  | .ld => cc0_scratch4
  | .st => cc0_scratch5
  | .ys => cc0_scratch6
  | .yr => cc0_scratch7
  | .xs => cc0_scratch8
  | .xr => cc0_scratch9

/-- The kinds of semaphores: the barrier's (`.inl true`), the credits' (`.inl false`), and the
    transfer semaphore of each array and slot. -/
abbrev Kind : Type := Bool ⊕ (Arr × Fin 6)

/-- The semaphore of a kind. -/
def semOf : Kind → SemLoc sig
  | .inl true => .reg barS
  | .inl false => .reg credS
  | .inr (a, s) => .dma (semD (arrOf a) s)

/-- Different kinds are different semaphores. -/
theorem semOf_inj : Function.Injective semOf := by
  have h : ∀ k k' : Kind, semOf k = semOf k' → k = k' := by decide
  exact fun k k' => h k k'

open Classical in
/-- The kind of a semaphore, if it has one. -/
def kindOf (sm : SemLoc sig) : Option Kind := if h : ∃ k, semOf k = sm then some h.choose else none

/-- The kind of a kind's semaphore is that kind. -/
theorem kindOf_semOf (k : Kind) : kindOf (semOf k) = some k := by
  have h : ∃ k', semOf k' = semOf k := ⟨k, rfl⟩
  unfold kindOf; rw [dif_pos h]; exact congrArg some (semOf_inj h.choose_spec)

/-- A device's cell of a kind. -/
abbrev cell (c : Dev nD) (k : Kind) : GSem nD τ sig := ((c : Thread nD τ), semOf k)

/-- The kind of a cell, if it has one. -/
def dec (g : GSem nD τ sig) : Option Kind := if g.1.2 = .tc then kindOf g.2 else none

theorem dec_cell (c : Dev nD) (k : Kind) : dec (cell c k) = some k := by
  unfold dec; rw [if_pos rfl]; exact kindOf_semOf k

/-- Cells of different devices or kinds are different. -/
theorem cell_inj {c c' : Dev nD} {k k' : Kind} (h : cell c k = cell c' k') : c = c' ∧ k = k' := by
  refine ⟨?_, semOf_inj (congrArg Prod.snd h)⟩
  exact congrArg (fun g : GSem nD τ sig => g.1.1) h

/-- The kind of array `a`'s semaphore for chunk `j`. -/
abbrev ch (a : Arr) (j : ℕ) : Kind := .inr (a, ⟨j % 6, Nat.mod_lt _ (by decide)⟩)

/-! ## Chunks and contents -/

/-- The units of one transfer of an unrounded chunk. -/
abbrev NL : ℕ := (slotM locM 0).view.dmaCredit
/-- The units of one transfer of a rounded chunk. -/
abbrev NB : ℕ := (slotM yrM 0).view.dmaCredit

theorem NL_pos : 0 < NL := View.dmaCredit_pos _ (by decide)
theorem NB_pos : 0 < NB := View.dmaCredit_pos _ (by decide)

/-- Chunk number `j`, for any natural number; out of range it stands for the chunk `j - 64·⌊j/64⌋`,
    of which nothing is said. -/
abbrev chunk (j : ℕ) : Fin 64 := ⟨j % 64, Nat.mod_lt _ (by decide)⟩

/-- The slot of chunk number `j`. -/
abbrev sl (j : ℕ) : Fin 6 := ⟨j % 6, Nat.mod_lt _ (by decide)⟩

/-- An unrounded chunk, rounded. -/
abbrev roundC (v : Vec F S256x1024 .f32) : Vec F S256x1024 .bf16 := truncf .bf16 (show FVec F S256x1024 .f32 from v) bitsLt_bf16_f32
/-- The sum of an unrounded and a rounded chunk, rounded. -/
abbrev sumC (v : Vec F S256x1024 .f32) (w : Vec F S256x1024 .bf16) : Vec F S256x1024 .bf16 :=
  truncf .bf16 (addf (show FVec F S256x1024 .f32 from v) (extf .f32 (show FVec F S256x1024 .bf16 from w) bitsLt_bf16_f32)) bitsLt_bf16_f32

variable (m : (ℓ : Loc nD τ sig) → Buf (Elt F) ℓ)

/-- Chunk `i` of device `c`'s block of `x`. -/
def XB (c : Dev nD) (i : Fin 64) : Vec F S256x1024 .f32 := (rowM xM c i).view.read (Elt F) (m ((c : Thread nD τ).loc main_arg0))
/-- What device `c` sends along `y`: the chunk, rounded. -/
def YB (c : Dev nD) (i : Fin 64) : Vec F S256x1024 .bf16 := roundC (XB m c i)
/-- What device `c` writes in its own result and in its partner's along `x`: the sum of its chunk and
    of the rounded one that came along `y`, rounded. -/
def SB (c : Dev nD) (i : Fin 64) : Vec F S256x1024 .bf16 := sumC (XB m c i) (YB m (yp c) i)

/-! ## Ownership at some contents -/

/-- Device `c` owns the elements of a view, at a share, at some contents. -/
def some' (c : Dev nD) {sp : Space} {sh : Shape} {e : EltTy} (M : Memref sig .tc sp sh e) (q : PosShare TreeShare) : sProp 𝕄 :=
  iprop(∃ f, M.view.loc (c : Thread nD τ) ↦[M.view.set]{q} f)

instance some'_storable (c : Dev nD) {sp : Space} {sh : Shape} {e : EltTy} (M : Memref sig .tc sp sh e) (q : PosShare TreeShare) :
    BI.Storable (upEmb : UEmb _ 𝕄) (some' c M q) := by unfold some'; infer_instance

/-- Owning a view whose contents are known is owning it at some contents. -/
theorem owns_some' (c : Dev nD) {sp : Space} {sh : Shape} {e : EltTy} (M : Memref sig .tc sp sh e) (q : PosShare TreeShare) (X : sh.Idx → Elt F e) :
    owns (c : Thread nD τ) M q X ⊢ (some' c M q : sProp 𝕄) := by
  unfold owns some'; iintro ⟨%f, -, H⟩; iexists f; iexact H

/-! ## Payloads -/

/-- Landing slot `j mod 6` of device `e` is free for chunk `j`: its reader has released it `j/6 + 1`
    times, and its cell is past the rounds before. -/
def Free (e : Dev nD) (j : ℕ) : sProp 𝕄 :=
  iprop(Release.released ES (e, sl j) (j / 6 + 1) ∗ reached ER (cell e (ch .yr j)) (j / 6))

instance Free_persistent (e : Dev nD) (j : ℕ) : BI.Persistent (Free (F := F) e j) := by unfold Free; infer_instance
instance Free_storable (e : Dev nD) (j : ℕ) : BI.Storable (upEmb : UEmb _ 𝕄) (Free (F := F) e j) := by unfold Free; infer_instance

/-- Chunk `i`'s rows of the argument, unchanged. -/
def xRow (c : Dev nD) (i : Fin 64) : sProp 𝕄 :=
  (rowM xM c i).view.loc (c : Thread nD τ) ↦[(rowM xM c i).view.set]{fullShare} m ((c : Thread nD τ).loc main_arg0)

instance xRow_storable (c : Dev nD) (i : Fin 64) : BI.Storable (upEmb : UEmb _ 𝕄) (xRow m c i) := by unfold xRow; infer_instance

/-- What the barrier carries to device `c`: from its partner along `y` (duty 0) that the partner's six landing
    slots are free, and from its partner along `x` (duty 1) the rows of the partner's result that `c` writes. -/
def barPay (c : Dev nD) (d : ℕ) : sProp 𝕄 :=
  if d = 0 then bigSep (Finset.range 6) (fun j => Free (yp c) j)
  else bigSep Finset.univ (fun i : Fin 64 => some' (xp c) (rowM oM c i) fullShare)

/-- What credit `d` carries to device `c`: that the landing slots of the chunks `6 .. d + 6` are free. -/
def credPay (c : Dev nD) (d : ℕ) : sProp 𝕄 := bigSep (Finset.range (d + 1)) (fun j => Free (yp c) (j + 6))

/-- What a transfer's semaphore carries to device `c` when chunk `i` is through: the transfer's source back,
    where the source is its own, and the written target, where the target is its own. -/
def chPay (c : Dev nD) (a : Arr) (s : Fin 6) (i : Fin 64) : sProp 𝕄 :=
  match a with
  | .ld => iprop(owns (c : Thread nD τ) (slotM locM s) fullShare (XB m c i) ∗ xRow m c i)
  | .st => iprop(some' c (slotM xsM s) fullShare.left ∗ owns (c : Thread nD τ) (rowM oM c i) fullShare (SB m c i))
  | .ys => some' c (slotM ysM s) fullShare
  | .yr => owns (c : Thread nD τ) (slotM yrM s) fullShare (YB m (yp c) i)
  | .xs => some' c (slotM xsM s) fullShare.right
  | .xr => owns (c : Thread nD τ) (rowM oM (xp c) i) fullShare (SB m (xp c) i)

instance barPay_storable (c : Dev nD) (d : ℕ) : BI.Storable (upEmb : UEmb _ 𝕄) (barPay (F := F) c d) := by
  unfold barPay; split <;> infer_instance
instance credPay_storable (c : Dev nD) (d : ℕ) : BI.Storable (upEmb : UEmb _ 𝕄) (credPay (F := F) c d) := by
  unfold credPay; infer_instance
instance chPay_storable (c : Dev nD) (a : Arr) (s : Fin 6) (i : Fin 64) : BI.Storable (upEmb : UEmb _ 𝕄) (chPay m c a s i) := by
  cases a <;> (unfold chPay; infer_instance)

/-! ## The schedule -/

/-- The duties of a kind of cell in round `r`. A barrier has two and a credit cell fifty-eight, in round 0. The
    arrivals along `x` at a slot are all duties of round 0, named by their chunks. Of every other array, chunk
    `6 r + s` is the only duty of round `r` at slot `s`. -/
def dutiesK : Kind → ℕ → Finset ℕ
  | .inl true, r => if r = 0 then {0, 1} else ∅
  | .inl false, r => if r = 0 then Finset.range 58 else ∅
  | .inr (.xr, s), r => if r = 0 then (Finset.range 64).filter (fun j => j % 6 = s.val) else ∅
  | .inr (_, s), r => if 6 * r + s.val < 64 then {0} else ∅

/-- The units of a transfer over an array's semaphores. -/
def amountA : Arr → ℕ
  | .ld => NL
  | _ => NB

/-- The units of a duty. -/
def amountK : Kind → ℕ
  | .inl _ => 1
  | .inr (a, _) => amountA a

/-- The payload of a duty. -/
def payK (c : Dev nD) : Kind → ℕ → ℕ → sProp 𝕄
  | .inl true, _, d => barPay c d
  | .inl false, _, d => credPay c d
  | .inr (.xr, s), _, d => chPay m c .xr s (chunk d)
  | .inr (a, s), r, _ => chPay m c a s (chunk (6 * r + s.val))

instance payK_storable (c : Dev nD) (k : Kind) (r d : ℕ) : BI.Storable (upEmb : UEmb _ 𝕄) (payK m c k r d) := by
  rcases k with (_ | _) | ⟨a, s⟩
  · unfold payK; infer_instance
  · unfold payK; infer_instance
  · cases a <;> (unfold payK; infer_instance)

theorem amountA_pos (a : Arr) : 0 < amountA a := by cases a <;> first | exact NL_pos | exact NB_pos
theorem amountK_pos (k : Kind) : 0 < amountK k := by
  rcases k with b | ⟨a, s⟩
  · exact Nat.one_pos
  · exact amountA_pos a

/-- The schedule of all cells. -/
def Rd : Rounds.Schedule (GSem nD τ sig) ℕ 𝕄 where
  duties g r := (dec g).elim ∅ (fun k => dutiesK k r)
  unitless _ := False
  amount g _ _ := (dec g).elim 1 amountK
  payload g r d := (dec g).elim iprop(emp) (fun k => payK m g.1.1 k r d)
  amount_pos g _ _ _ := by
    cases dec g with
    | none => exact Nat.one_pos
    | some k => exact amountK_pos k

instance Rd_payload_storable (g : GSem nD τ sig) (r d : ℕ) : BI.Storable (upEmb : UEmb _ 𝕄) ((Rd (F := F) m).payload g r d) := by
  show BI.Storable upEmb ((dec g).elim iprop(emp) (fun k => payK m g.1.1 k r d))
  cases dec g with
  | none => show BI.Storable upEmb (iprop(emp) : sProp 𝕄); infer_instance
  | some k => exact payK_storable m g.1.1 k r d

/-- The schedule's duties at a cell, -/
theorem duties_cell (c : Dev nD) (k : Kind) (r : ℕ) : (Rd m).duties (cell c k) r = dutiesK k r := by
  show (dec (cell c k)).elim ∅ (fun k => dutiesK k r) = _; rw [dec_cell]; rfl
/-- their units -/
theorem amount_cell (c : Dev nD) (k : Kind) (r d : ℕ) : (Rd m).amount (cell c k) r d = amountK k := by
  show (dec (cell c k)).elim 1 amountK = _; rw [dec_cell]; rfl
/-- and their payloads. -/
theorem payload_cell (c : Dev nD) (k : Kind) (r d : ℕ) : (Rd m).payload (cell c k) r d = payK m c k r d := by
  show (dec (cell c k)).elim iprop(emp) (fun k' => payK m c k' r d) = _; rw [dec_cell]; rfl

/-- All the units of a round. -/
theorem expect_cell (c : Dev nD) (k : Kind) (r : ℕ) : (Rd m).expect (cell c k) r = (dutiesK k r).card * amountK k := by
  unfold Schedule.expect Schedule.amountOf
  rw [duties_cell, Finset.sum_congr rfl (fun d _ => amount_cell m c k r d), Finset.sum_const, smul_eq_mul]

/-- Arrays whose cells have one duty in each round: all but that of the arrivals along `x`. -/
def Arr.seq (a : Arr) : Prop := a ≠ .xr

instance (a : Arr) : Decidable a.seq := by unfold Arr.seq; infer_instance

theorem six (j : ℕ) : 6 * (j / 6) + j % 6 = j := Nat.div_add_mod j 6

/-- The one duty of the round in which chunk `j` is due. -/
theorem dutiesK_ch {a : Arr} (ha : a.seq) {j : ℕ} (hj : j < 64) : dutiesK (ch a j) (j / 6) = {0} := by
  have h : 6 * (j / 6) + j % 6 < 64 := by rw [six]; exact hj
  cases a <;> first | exact absurd rfl ha | exact if_pos h
/-- No duty in the round after the last chunk of a slot, or later. -/
theorem dutiesK_end (a : Arr) {j : ℕ} (hj : 64 ≤ j) (r : ℕ) (hr : j / 6 ≤ r) : dutiesK (ch a j) r = ∅ := by
  have h : ¬ 6 * r + j % 6 < 64 := by have := six j; omega
  have h0 : ¬ r = 0 := by omega
  cases a <;> first | exact if_neg h | exact if_neg h0
/-- Nothing is due twice at a barrier, a credit cell or a cell of the arrivals along `x`. -/
theorem dutiesK_later_bar (b : Bool) (r : ℕ) (hr : 1 ≤ r) : dutiesK (.inl b) r = ∅ := by
  have h0 : ¬ r = 0 := by omega
  cases b <;> exact if_neg h0
theorem dutiesK_later_xr (s : Fin 6) (r : ℕ) (hr : 1 ≤ r) : dutiesK (.inr (.xr, s)) r = ∅ := by
  have h0 : ¬ r = 0 := by omega
  exact if_neg h0

/-- The payload of chunk `j` at its own cell and round. -/
theorem payK_ch {a : Arr} (ha : a.seq) (c : Dev nD) {j : ℕ} (d : ℕ) : payK m c (ch a j) (j / 6) d = chPay m c a (sl j) (chunk j) := by
  have e : payK m c (ch a j) (j / 6) d = chPay m c a (sl j) (chunk (6 * (j / 6) + j % 6)) := by
    cases a <;> first | exact absurd rfl ha | rfl
  rw [e, six]

/-- The chunks that arrive along `x` at slot `s`. -/
theorem card_xr (s : Fin 6) : ((Finset.range 64).filter (fun j => j % 6 = s.val)).card = (69 - s.val) / 6 := by
  revert s; decide

end Cert.KernelIdeal.Proof

end
-- ==== Proof.Owed.lean ====
/-
  What a device still owes, and why each of its waits may be made.

  A device owes its partner along `y` the arrivals of its chunks and the credits for the
  partner's, and its partner along `x` the arrivals of the sums. Every semaphore and chunk
  has a level, and a device waits only below the levels of all that it owes.
-/
module

public import proofs.«01_k».proof.Proof.Cells

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The debts -/

/-- The arrivals along `y` of the chunks from `k` on. -/
def OY (c : Dev nD) (k : ℕ) : CellTallies nD τ sig ℕ := ∑ j ∈ Finset.Ico k 64, tallyAt (cell (yp c) (ch .yr j)) j NB
/-- The credits from `k` on. -/
def OC (c : Dev nD) (k : ℕ) : CellTallies nD τ sig ℕ := ∑ j ∈ Finset.Ico k 58, tallyAt (cell (yp c) (.inl false)) j 1
/-- The arrivals along `x` of the sums from `k` on. -/
def OX (c : Dev nD) (k : ℕ) : CellTallies nD τ sig ℕ := ∑ j ∈ Finset.Ico k 64, tallyAt (cell (xp c) (ch .xr j)) j NB

/-- What a device owes after `t` sendings along `x`, `i` credits and `p` sendings along `y`. -/
def owed (c : Dev nD) (t i p : ℕ) : CellTallies nD τ sig ℕ := OX c t + OC c i + OY c p

/-- A sum over an interval, its first summand apart and last. -/
theorem sum_first {M : Type} [AddCommMonoid M] {k n : ℕ} (h : k < n) (f : ℕ → M) :
    ∑ j ∈ Finset.Ico k n, f j = (∑ j ∈ Finset.Ico (k + 1) n, f j) + f k := by
  have e : Finset.Ico k n = insert k (Finset.Ico (k + 1) n) := by
    ext j; simp only [Finset.mem_Ico, Finset.mem_insert]; omega
  rw [e, Finset.sum_insert (by simp only [Finset.mem_Ico]; omega), add_comm]

theorem owed_ysend (c : Dev nD) (t i : ℕ) {p : ℕ} (h : p < 64) :
    owed c t i p = owed c t i (p + 1) + tallyAt (cell (yp c) (ch .yr p)) p NB := by
  unfold owed OY; rw [sum_first h, ← add_assoc]
theorem owed_credit (c : Dev nD) (t p : ℕ) {i : ℕ} (h : i < 58) :
    owed c t i p = owed c t (i + 1) p + tallyAt (cell (yp c) (.inl false)) i 1 := by
  unfold owed OC; rw [sum_first h, ← add_assoc, add_right_comm]
theorem owed_xsend (c : Dev nD) (i p : ℕ) {t : ℕ} (h : t < 64) :
    owed c t i p = owed c (t + 1) i p + tallyAt (cell (xp c) (ch .xr t)) t NB := by
  unfold owed OX; rw [sum_first h, add_right_comm _ (tallyAt _ _ _), add_right_comm _ (tallyAt _ _ _)]
/-- No credit is owed from chunk 58 on. -/
theorem owed_nocredit (c : Dev nD) (t p : ℕ) {i : ℕ} (h : 58 ≤ i) : owed c t i p = owed c t (i + 1) p := by
  unfold owed OC; rw [Finset.Ico_eq_empty (by omega), Finset.Ico_eq_empty (by omega)]
/-- In the end nothing is owed. -/
theorem owed_end (c : Dev nD) : owed c 64 64 64 = 0 := by
  unfold owed OX OC OY
  rw [Finset.Ico_self, Finset.Ico_eq_empty (by decide : ¬ 64 < 58), Finset.sum_empty, Finset.sum_empty, Finset.sum_empty, add_zero, add_zero]

/-! ## The levels -/

/-- The level of a kind of semaphore and a chunk. -/
def lvK : Kind → ℕ → ℕ
  | .inl true, _ => 1
  | .inl false, ι => 3 * ι + 3
  | .inr (.yr, _), ι => 3 * ι + 2
  | .inr (.xr, _), ι => 3 * ι + 4
  | .inr _, _ => 0

/-- The chunks of a cell. -/
def L (g : GSem nD τ sig) : Finset ℕ := if g.1.2 = .tc then Finset.range 64 else ∅
/-- The level of a cell and a chunk. -/
def lv (g : GSem nD τ sig) (ι : ℕ) : ℕ := (dec g).elim 0 (fun k => lvK k ι)

theorem L_of_ne (g : GSem nD τ sig) (h : g.1.2 ≠ .tc) : L g = ∅ := if_neg h
theorem L_tc (c : Dev nD) (sm : SemLoc sig) : L ((c : Thread nD τ), sm) = Finset.range 64 := if_pos rfl
theorem lv_cell (c : Dev nD) (k : Kind) (ι : ℕ) : lv (cell c k) ι = lvK k ι := by unfold lv; rw [dec_cell]; rfl

theorem lv_yr (c : Dev nD) (j : ℕ) : lv (cell c (ch .yr j)) j = 3 * j + 2 := lv_cell c _ j
theorem lv_cred (c : Dev nD) (j : ℕ) : lv (cell c (.inl false)) j = 3 * j + 3 := lv_cell c _ j
theorem lv_xr (c : Dev nD) (j : ℕ) : lv (cell c (ch .xr j)) j = 3 * j + 4 := lv_cell c _ j

/-- A sum of debts, one for each of several chunks, is owed only at those chunks. -/
theorem sum_pos {s : Finset ℕ} {f : ℕ → GSem nD τ sig} {n : ℕ} {g : GSem nD τ sig} {u : ℕ}
    (h : 0 < (∑ j ∈ s, tallyAt (f j) j n : CellTallies nD τ sig ℕ) g u) : u ∈ s ∧ g = f u := by
  rw [Finset.sum_apply, Finsupp.finset_sum_apply] at h
  obtain ⟨j, hj, hp⟩ := Finset.exists_ne_zero_of_sum_ne_zero (Nat.pos_iff_ne_zero.mp h)
  rw [tallyAt_apply] at hp
  by_cases h' : g = f j ∧ u = j
  · obtain ⟨hg, rfl⟩ := h'; exact ⟨hj, hg⟩
  · rw [if_neg h'] at hp; exact absurd rfl hp

/-- What is owed is owed at a chunk in range, above `b` if the counters are. -/
theorem owed_pos {c : Dev nD} {t i p b : ℕ} (ht : b < 3 * t + 4) (hi : b < 3 * i + 3) (hp : b < 3 * p + 2)
    {g : GSem nD τ sig} {u : ℕ} (h : 0 < owed c t i p g u) : u ∈ L g ∧ b < lv g u := by
  unfold owed at h
  rw [Pi.add_apply, Finsupp.add_apply, Pi.add_apply, Finsupp.add_apply] at h
  rcases Nat.lt_or_ge 0 (OX c t g u) with h1 | h1
  · obtain ⟨hu, rfl⟩ := sum_pos h1
    rw [Finset.mem_Ico] at hu
    refine ⟨by rw [L_tc]; exact Finset.mem_range.mpr hu.2, by rw [lv_xr]; omega⟩
  rcases Nat.lt_or_ge 0 (OC c i g u) with h2 | h2
  · obtain ⟨hu, rfl⟩ := sum_pos h2
    rw [Finset.mem_Ico] at hu
    refine ⟨by rw [L_tc]; exact Finset.mem_range.mpr (by omega), by rw [lv_cred]; omega⟩
  · have h3 : 0 < OY c p g u := by omega
    obtain ⟨hu, rfl⟩ := sum_pos h3
    rw [Finset.mem_Ico] at hu
    refine ⟨by rw [L_tc]; exact Finset.mem_range.mpr hu.2, by rw [lv_yr]; omega⟩

/-- A device may wait at chunk `ι` of a cell of its own that lies below all that it owes. -/
theorem mayWait (c : Dev nD) (k : Kind) {ι : ℕ} (hι : ι < 64) {t i p : ℕ}
    (ht : lvK k ι < 3 * t + 4) (hi : lvK k ι < 3 * i + 3) (hp : lvK k ι < 3 * p + 2) :
    (levAts L lv : sProp 𝕄) ⊢ MayWait (c : Thread nD τ) (semOf k) ι (owed c t i p) :=
  MayOwe.of_cut (L := L) (lev := lv) (lvK k ι)
    (fun q hq => by rw [Finset.mem_singleton.mp hq, L_tc]; exact Finset.mem_range.mpr hι)
    (fun g u hg => (owed_pos ht hi hp hg).1)
    (fun q hq => by rw [Finset.mem_singleton.mp hq]; exact le_of_eq (lv_cell c k ι))
    (fun g u hg => (owed_pos ht hi hp hg).2)

end Cert.KernelIdeal.Proof

end
-- ==== Proof.Rules.lean ====
/-
  The rules of the protocol: a wait, a signal, and the landing slots, in the terms of the schedule.
-/
module

public import proofs.«01_k».proof.Proof.Owed

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

variable (m : (ℓ : Loc nD τ sig) → Buf (Elt F) ℓ)
variable (K : Dev nD × Kind → ℕ) (Ks : Dev nD × Fin 6 → ℕ)

/-- Device `c` runs a stretch of the body and then has `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A stretch after another. -/
theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := by
  unfold WP; rw [wp_bind]
/-- The empty stretch. -/
theorem WP_ret (c : Dev nD) {α : Type} (a : α) (Q : α → sProp 𝕄) : Q a ⊢ WP c (.ret a) Q := by
  unfold WP; rw [wp_ret]; iintro H; imodintro; iexact H

/-- The landing slot of a key. -/
def slotRes (ks : Dev nD × Fin 6) : sProp 𝕄 := some' ks.1 (slotM yrM ks.2) fullShare

instance slotRes_storable (ks : Dev nD × Fin 6) : BI.Storable (upEmb : UEmb _ 𝕄) (slotRes (F := F) ks) := by
  unfold slotRes; infer_instance

/-- What every device knows throughout: the invariants of all cells and all landing slots, the levels, and that every
    cell has reached round 0. -/
def ctx : sProp 𝕄 :=
  iprop((bigSep Finset.univ fun ck : Dev nD × Kind => cellInv ER (Rd m) (K ck) (cell ck.1 ck.2))
    ∗ (bigSep Finset.univ fun ks : Dev nD × Fin 6 => Release.slotInv ES (Ks ks) ks (slotRes (F := F) ks))
    ∗ levAts L lv
    ∗ (bigSep Finset.univ fun ck : Dev nD × Kind => reached ER (cell ck.1 ck.2) 0))

instance ctx_persistent : BI.Persistent (ctx m K Ks) := by unfold ctx; infer_instance

theorem ctx_inv (c : Dev nD) (k : Kind) : ctx m K Ks ⊢ cellInv ER (Rd m) (K (c, k)) (cell c k) := by
  unfold ctx
  iintro ⟨H, -, -, -⟩
  have h : (bigSep Finset.univ fun ck : Dev nD × Kind => cellInv ER (Rd m) (K ck) (cell ck.1 ck.2)) ⊢ cellInv ER (Rd m) (K (c, k)) (cell c k) :=
    bigSep_elim (Finset.mem_univ (c, k))
  iapply h; iexact H
theorem ctx_slot (ks : Dev nD × Fin 6) : ctx m K Ks ⊢ Release.slotInv ES (Ks ks) ks (slotRes (F := F) ks) := by
  unfold ctx
  iintro ⟨-, H, -, -⟩
  have h : (bigSep Finset.univ fun ks : Dev nD × Fin 6 => Release.slotInv ES (Ks ks) ks (slotRes (F := F) ks)) ⊢ Release.slotInv ES (Ks ks) ks (slotRes ks) :=
    bigSep_elim (Finset.mem_univ ks)
  iapply h; iexact H
theorem ctx_lev : ctx m K Ks ⊢ levAts L lv := by
  unfold ctx
  iintro ⟨-, -, H, -⟩; iexact H
theorem ctx_reached (c : Dev nD) (k : Kind) : ctx m K Ks ⊢ reached ER (cell c k) 0 := by
  unfold ctx
  iintro ⟨-, -, -, H⟩
  have h : (bigSep Finset.univ fun ck : Dev nD × Kind => (reached ER (cell ck.1 ck.2) 0 : sProp 𝕄)) ⊢ reached ER (cell c k) 0 :=
    bigSep_elim (Finset.mem_univ (c, k))
  iapply h; iexact H

/-- A device may wait at chunk `ι` of a cell of its own that lies below all that it owes. -/
theorem ctx_mayWait (c : Dev nD) (k : Kind) {ι : ℕ} (hι : ι < 64) {t i p : ℕ}
    (ht : lvK k ι < 3 * t + 4) (hi : lvK k ι < 3 * i + 3) (hp : lvK k ι < 3 * p + 2) :
    ctx m K Ks ⊢ MayWait (c : Thread nD τ) (semOf k) ι (owed c t i p) :=
  BI.Entails.trans (ctx_lev m K Ks) (mayWait (F := F) c k hι ht hi hp)

/-- The payloads of a cell's duties. -/
theorem pays_eq (c : Dev nD) (k : Kind) (r : ℕ) (s : Finset ℕ) :
    bigSep s (fun d => (Rd m).payload (cell c k) r d) = bigSep s (fun d => payK m c k r d) :=
  bigSep_congr fun d _ => payload_cell m c k r d

/-- Some payloads and the others are all. -/
theorem pays_join (c : Dev nD) (k : Kind) (r : ℕ) {T S : Finset ℕ} (h : T ⊆ S) :
    iprop(bigSep T (fun d => payK m c k r d) ∗ bigSep (S \ T) (fun d => (Rd m).payload (cell c k) r d))
      ⊢ bigSep S (fun d => payK m c k r d) := by
  rw [pays_eq, bigSep_sdiff_split h]; exact BI.Entails.refl _

/-- Device `c` owes what is left after `t` sendings along `x`, `i` credits and `p` sendings along `y`. -/
def Ow (c : Dev nD) (t i p : ℕ) : sProp 𝕄 := iprop(∃ W : Waits sig ℕ, owes (c : Thread nD τ) (owed c t i p) W)

/-- Device `c` is at the start of round `r` of its cell of kind `k`. -/
def At (c : Dev nD) (k : Kind) (r : ℕ) : sProp 𝕄 := iprop(atPos ER (cell c k) r ∅ 0 ∗ reached ER (cell c k) r)

/-- A wait for all of round `r`: it takes the payloads of the round's duties. -/
theorem wait_round (c : Dev nD) (k : Kind) {ι : ℕ} (hι : ι < 64) (r : ℕ) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (semOf k) k' Kt)
    (hk : k' = (dutiesK k r).card * amountK k) {t i p : ℕ}
    (ht : lvK k ι < 3 * t + 4) (hi : lvK k ι < 3 * i + 3) (hp : lvK k ι < 3 * p + 2) (Q : PUnit → sProp 𝕄) :
    iprop(ctx m K Ks ∗ cred (tallyAt (cell c k) ι k') ∗ atPos ER (cell c k) r ∅ 0 ∗ Ow c t i p)
      ⊢ iprop(((At c k (r + 1) ∗ bigSep (dutiesK k r) (fun d => payK m c k r d) ∗ Ow c t i p) -∗ Q ⟨⟩)
          -∗ WP c (Prog.lift w) Q) := by
  iintro ⟨#Hctx, Hc, Hat, Ho⟩ Hk
  unfold Ow
  icases Ho with ⟨%W, Ho⟩
  iapply (Rounds.wp_wait_rest_token 𝒱₀ ER (Rd m) (c : Thread nD τ) none (κ := K (c, k)) hw (Set.mem_univ _) ι
    (O := owed c t i p) (W := W) (R := r) (m := 0) (T := ∅) (by rw [Nat.zero_add, hk]; exact (expect_cell m c k r).symm)) $$ [Hc Hat Ho]
  · isplitr; · iapply (ctx_inv m K Ks c k); iexact Hctx
    isplitl [Hc]; · iexact Hc
    isplitl [Ho]; · iexact Ho
    isplitr; · iapply (ctx_mayWait m K Ks c k hι ht hi hp); iexact Hctx
    iexact Hat
  iintro ⟨Ho, Hat, Hr, Hpay⟩
  rw [wp_ret]; imodintro
  iapply Hk
  isplitl [Hat Hr]
  · unfold At; isplitl [Hat] <;> iassumption
  isplitl [Hpay]
  · rw [Finset.sdiff_empty, duties_cell m c k r]
    iapply (Entails.of_eq (pays_eq m c k r _)); iexact Hpay
  iexists _; iexact Ho

/-- A wait for chunk `j` on an array with one duty in each round. -/
theorem wait_ch (c : Dev nD) {a : Arr} (ha : a.seq) {j : ℕ} (hj : j < 64) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (semOf (ch a j)) (amountA a) Kt) {t i p : ℕ}
    (ht : lvK (ch a j) j < 3 * t + 4) (hi : lvK (ch a j) j < 3 * i + 3) (hp : lvK (ch a j) j < 3 * p + 2) (Q : PUnit → sProp 𝕄) :
    iprop(ctx m K Ks ∗ cred (tallyAt (cell c (ch a j)) j (amountA a)) ∗ atPos ER (cell c (ch a j)) (j / 6) ∅ 0 ∗ Ow c t i p)
      ⊢ iprop(((At c (ch a j) (j / 6 + 1) ∗ chPay m c a (sl j) (chunk j) ∗ Ow c t i p) -∗ Q ⟨⟩)
          -∗ WP c (Prog.lift w) Q) := by
  have h := wait_round m K Ks c (ch a j) hj (j / 6) hw (by rw [dutiesK_ch ha hj, Finset.card_singleton, one_mul]; rfl) ht hi hp Q
  rw [dutiesK_ch ha hj, bigSep_singleton, payK_ch m ha] at h
  exact h

/-- A transfer wait for chunk `j` on an array with one duty in each round. -/
theorem wait_dma (c : Dev nD) {a : Arr} (ha : a.seq) {j : ℕ} (hj : j < 64) {sp sp' : Space} {sh sh' : Shape} {e e' : EltTy}
    {src : Memref sig .tc sp' sh' e'} (dst : Memref sig .tc sp sh e) {hs : src.view.WordExact} {hd : dst.view.WordExact}
    (hN : dst.view.dmaCredit = amountA a) {t i p : ℕ}
    (ht : lvK (ch a j) j < 3 * t + 4) (hi : lvK (ch a j) j < 3 * i + 3) (hp : lvK (ch a j) j < 3 * p + 2) (Q : PUnit → sProp 𝕄) :
    iprop(ctx m K Ks ∗ cred (tallyAt (cell c (ch a j)) j (amountA a)) ∗ atPos ER (cell c (ch a j)) (j / 6) ∅ 0 ∗ Ow c t i p)
      ⊢ iprop(((At c (ch a j) (j / 6 + 1) ∗ chPay m c a (sl j) (chunk j) ∗ Ow c t i p) -∗ Q ⟨⟩)
          -∗ WP c (Prog.lift (.waitDma2 (semD (arrOf a) (sl j)) src dst hs hd)) Q) :=
  wait_ch m K Ks c ha hj (fun Kt => (wpE_waitDma2_eq 𝒱₀ (c : Thread nD τ) none Set.univ Kt).trans (by rw [hN]; rfl)) ht hi hp Q

/-! ## A cell whose one round is waited for in parts -/

/-- Device `c` has waited for `n` units of round 0 of its cell of kind `k`, and has the payloads of some of the duties: of
    so many that the others have not more units than are left. -/
def Got (c : Dev nD) (k : Kind) (n : ℕ) : sProp 𝕄 :=
  iprop(∃ T : Finset ℕ, ⌜T ⊆ dutiesK k 0 ∧ n + (dutiesK k 0 \ T).card ≤ (dutiesK k 0).card * amountK k⌝
    ∗ atPos ER (cell c k) 0 T n ∗ bigSep T (fun d => payK m c k 0 d))

theorem got_start (c : Dev nD) (k : Kind) : atPos ER (cell c k) 0 ∅ 0 ⊢ Got m c k 0 := by
  unfold Got
  iintro H; iexists ∅
  isplitr
  · ipureintro
    exact ⟨Finset.empty_subset _, by rw [Finset.sdiff_empty, Nat.zero_add]; exact Nat.le_mul_of_pos_right _ (amountK_pos k)⟩
  isplitl [H]; · iexact H
  rw [bigSep_empty]; iempintro

/-- A wait for some of the units. -/
theorem wait_part (c : Dev nD) (k : Kind) {ι : ℕ} (hι : ι < 64) (n : ℕ) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (semOf k) k' Kt)
    {t i p : ℕ}
    (ht : lvK k ι < 3 * t + 4) (hi : lvK k ι < 3 * i + 3) (hp : lvK k ι < 3 * p + 2) (Q : PUnit → sProp 𝕄) :
    iprop(ctx m K Ks ∗ cred (tallyAt (cell c k) ι k') ∗ Got m c k n ∗ Ow c t i p)
      ⊢ iprop(((Got m c k (n + k') ∗ Ow c t i p) -∗ Q ⟨⟩) -∗ WP c (Prog.lift w) Q) := by
  iintro ⟨#Hctx, Hc, Hg, Ho⟩ Hk
  unfold Ow Got
  icases Ho with ⟨%W, Ho⟩
  icases Hg with ⟨%T, %hT, Hat, Hpay⟩
  iapply (Rounds.wp_wait 𝒱₀ ER (Rd m) (c : Thread nD τ) none (κ := K (c, k)) hw (Set.mem_univ _)
    (cr := Finsupp.single ι k') (O := owed c t i p) (W := W) {(semOf k, ι)} (R := 0) (m := n) (T := T)
    (by rw [Util.total_single]) (image_single_subset (semOf k) ι k')) $$ [Hc Hat Ho]
  · isplitr; · iapply (ctx_inv m K Ks c k); iexact Hctx
    isplitl [Hc]; · iexact Hc
    isplitl [Ho]; · iexact Ho
    isplitr; · iapply (ctx_mayWait m K Ks c k hι ht hi hp); iexact Hctx
    iexact Hat
  iintro %S ⟨%hS, Ho, Hat, Hnew⟩
  rw [duties_cell m c k 0, expect_cell m c k 0] at hS
  rw [wp_ret]; imodintro
  iapply Hk
  isplitl [Hat Hpay Hnew]
  · iexists S
    isplitr; · ipureintro; exact ⟨hS.2.1, hS.2.2⟩
    isplitl [Hat]; · iexact Hat
    iapply (pays_join m c k 0 hS.1)
    isplitl [Hpay] <;> iassumption
  iexists _; iexact Ho

/-- A wait for the last of the units: it leaves the payloads of all duties. -/
theorem wait_last (c : Dev nD) (k : Kind) {ι : ℕ} (hι : ι < 64) (n : ℕ) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (semOf k) k' Kt)
    (hk : n + k' = (dutiesK k 0).card * amountK k) {t i p : ℕ}
    (ht : lvK k ι < 3 * t + 4) (hi : lvK k ι < 3 * i + 3) (hp : lvK k ι < 3 * p + 2) (Q : PUnit → sProp 𝕄) :
    iprop(ctx m K Ks ∗ cred (tallyAt (cell c k) ι k') ∗ Got m c k n ∗ Ow c t i p)
      ⊢ iprop(((At c k 1 ∗ bigSep (dutiesK k 0) (fun d => payK m c k 0 d) ∗ Ow c t i p) -∗ Q ⟨⟩) -∗ WP c (Prog.lift w) Q) := by
  iintro ⟨#Hctx, Hc, Hg, Ho⟩ Hk
  unfold Ow Got
  icases Ho with ⟨%W, Ho⟩
  icases Hg with ⟨%T, %hT, Hat, Hpay⟩
  iapply (Rounds.wp_wait_rest_token 𝒱₀ ER (Rd m) (c : Thread nD τ) none (κ := K (c, k)) hw (Set.mem_univ _) ι
    (O := owed c t i p) (W := W) (R := 0) (m := n) (T := T) (hk.trans (expect_cell m c k 0).symm)) $$ [Hc Hat Ho]
  · isplitr; · iapply (ctx_inv m K Ks c k); iexact Hctx
    isplitl [Hc]; · iexact Hc
    isplitl [Ho]; · iexact Ho
    isplitr; · iapply (ctx_mayWait m K Ks c k hι ht hi hp); iexact Hctx
    iexact Hat
  iintro ⟨Ho, Hat, Hr, Hnew⟩
  rw [wp_ret]; imodintro
  iapply Hk
  isplitl [Hat Hr]
  · unfold At; isplitl [Hat] <;> iassumption
  isplitl [Hpay Hnew]
  · rw [duties_cell m c k 0]
    iapply (pays_join m c k 0 hT.1)
    isplitl [Hpay] <;> iassumption
  iexists _; iexact Ho

/-! ## The landing slots -/

/-- A landing slot is owned once. -/
theorem slotRes_excl (ks : Dev nD × Fin 6) : iprop(slotRes (F := F) ks ∗ slotRes ks) ⊢ (False : sProp 𝕄) := by
  have h : ((slotM yrM ks.2).view.set).Nonempty := View.set_nonempty (by decide)
  exact Release.slot_slot_false h

/-- The reader gives a landing slot free. -/
theorem give_free (c : Dev nD) (s : Fin 6) (n : ℕ) :
    iprop(ctx m K Ks ∗ Release.readerAt ES (c, s) n ∗ some' c (slotM yrM s) fullShare)
      ⊢ (|={Set.univ}=> (Release.readerAt ES (c, s) (n + 1) ∗ Release.released ES (c, s) (n + 1)) : sProp 𝕄) := by
  iintro ⟨#Hctx, Hr, Hs⟩
  iapply (Release.slot_release ES (ι := Ks (c, s)) (Set.mem_univ _) (slotRes_excl (c, s)) n)
  isplitr; · iapply (ctx_slot m K Ks (c, s)); iexact Hctx
  isplitl [Hr]; · iexact Hr
  unfold slotRes; iexact Hs

/-- The writer takes a landing slot that it knows to be free. -/
theorem take_free (e : Dev nD) (j : ℕ) :
    iprop(ctx m K Ks ∗ Free e j ∗ Release.writeTok ES (e, sl j) (j / 6 + 1))
      ⊢ (|={Set.univ}=> some' e (slotM yrM (sl j)) fullShare : sProp 𝕄) := by
  iintro ⟨#Hctx, Hf, Ht⟩
  unfold Free
  icases Hf with ⟨Hrel, -⟩
  iapply (Release.slot_take ES (k := (e, sl j)) (S := slotRes (F := F) (e, sl j)) (ι := Ks (e, sl j)) (Set.mem_univ _) (j / 6 + 1))
  isplitr; · iapply (ctx_slot m K Ks (e, sl j)); iexact Hctx
  isplitl [Hrel] <;> iassumption

end Cert.KernelIdeal.Proof

end
-- ==== Proof.Slots.lean ====
/-
  Loads and stores at a slot.
-/
module

public import proofs.«01_k».proof.Proof.Rules
public import Idealize.ShloMosaic.Lib.Pipeline.Value

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- A chunk, from its slot's shape. -/
abbrev flat {e : EltTy} (v : Vec F S1x256x1024 e) : Vec F S256x1024 e := shapeCast S256x1024 v shapeCasts_S1x256x1024_S256x1024

/-- What is written to send along `y` is the chunk, rounded. -/
theorem flat_pay1 (v : Vec F S1x256x1024 .f32) : flat (k0_pay1 v) = roundC (flat v) := shapeCast_shapeCast _ _ _
/-- What is written to send along `x` is the sum, rounded. -/
theorem flat_pay3 (v : Vec F S1x256x1024 .f32) (w : Vec F S1x256x1024 .bf16) : flat (k0_pay3 v w) = sumC (flat v) (flat w) :=
  shapeCast_shapeCast _ _ _

/-- A slot's elements are those of its rectangle. -/
theorem slot_set {e : EltTy} (M : Memref sig .tc .vmem S6x256x1024 e) (s : Fin 6) :
    (slotM M s).view.set = (M.view.slice (slotR s)).set := View.set_reshape _ _

/-- A load of a slot at known contents gives those contents. -/
theorem wp_load_slot (c : Dev nD) {e : EltTy} (M : Memref sig .tc .vmem S6x256x1024 e) (s : Fin 6) (q : PosShare TreeShare) (X : Vec F S256x1024 e)
    {hl : M.view.LoadsAt (slotR s).toLoadRect} {α : Type} {k : Vec F S1x256x1024 e → Prog (TpuEff nD τ sig (Elt F) Λ₀ .tc) α} {Q : α → sProp 𝕄} :
    owns (c : Thread nD τ) (slotM M s) q X
      ⊢ iprop((∀ v : Vec F S1x256x1024 e, (⌜flat v = X⌝ ∗ owns (c : Thread nD τ) (slotM M s) q X) -∗ WP c (k v) Q)
          -∗ WP c (.op (.load M (slotR s).toLoadRect hl) k) Q) := by
  unfold owns
  iintro ⟨%f, %hf, H⟩ Hk
  iapply (wp_load 𝒱₀ (c : Thread nD τ) none Set.univ (m := M) (r := (slotR s).toLoadRect) (S := (slotM M s).view.set) (q := q) (f := f)
    (by rw [slot_set, View.set_slice]; exact Finset.Subset.refl _)) $$ H
  iintro H
  iapply Hk
  isplitr; · ipureintro; exact hf
  iexists f
  isplitr; · ipureintro; exact hf
  iexact H

/-- A load of a slot at some contents. -/
theorem wp_load_slot' (c : Dev nD) {e : EltTy} (M : Memref sig .tc .vmem S6x256x1024 e) (s : Fin 6) (q : PosShare TreeShare)
    {hl : M.view.LoadsAt (slotR s).toLoadRect} {α : Type} {k : Vec F S1x256x1024 e → Prog (TpuEff nD τ sig (Elt F) Λ₀ .tc) α} {Q : α → sProp 𝕄} :
    some' c (slotM M s) q
      ⊢ iprop((∀ v : Vec F S1x256x1024 e, some' c (slotM M s) q -∗ WP c (k v) Q)
          -∗ WP c (.op (.load M (slotR s).toLoadRect hl) k) Q) := by
  unfold some'
  iintro ⟨%f, H⟩ Hk
  iapply (wp_load 𝒱₀ (c : Thread nD τ) none Set.univ (m := M) (r := (slotR s).toLoadRect) (S := (slotM M s).view.set) (q := q) (f := f)
    (by rw [slot_set, View.set_slice]; exact Finset.Subset.refl _)) $$ H
  iintro H
  iapply Hk
  iexists f; iexact H

/-- A store of a whole slot. -/
theorem wp_store_slot (c : Dev nD) {e : EltTy} (M : Memref sig .tc .vmem S6x256x1024 e) (s : Fin 6) (w : Vec F S1x256x1024 e)
    {hx : (M.access (slotR s)).Stores Finset.univ} {hm : (Finset.univ : Finset (slotR s).shape.Idx) = Finset.univ ∨ ∀ a, (slotR s).stride a = 1}
    {α : Type} {k : PUnit → Prog (TpuEff nD τ sig (Elt F) Λ₀ .tc) α} {Q : α → sProp 𝕄} :
    some' c (slotM M s) fullShare
      ⊢ iprop((owns (c : Thread nD τ) (slotM M s) fullShare (flat w) -∗ WP c (k ⟨⟩) Q)
          -∗ WP c (.op (.store M (slotR s) w Finset.univ hx hm) k) Q) := by
  unfold some' owns
  iintro ⟨%f, H⟩ Hk
  iapply (wp_store 𝒱₀ (c : Thread nD τ) none Set.univ (m := M) (r := slotR s) (w := w) (Mk := Finset.univ) (S := (slotM M s).view.set) (f := f)
    (by rw [slot_set]; exact Finset.Subset.refl _)) $$ H
  iintro H
  iapply Hk
  iexists _
  isplitr
  · ipureintro
    show shapeCast S256x1024 ((M.view.slice (slotR s)).read (Elt F) ((M.view.slice (slotR s)).write (Elt F) f w Finset.univ)) _ = _
    rw [View.read_write_univ]
  iexact H

/-- A slot written by a transfer holds what the transfer read. -/
theorem owns_written (c : Dev nD) {sp : Space} {sh : Shape} {e : EltTy} (M : Memref sig .tc sp sh e) (q : PosShare TreeShare) (f : M.view.ty.Contents (Elt F)) (X : sh.Idx → Elt F e) :
    (M.view.loc (c : Thread nD τ) ↦[M.view.set]{q} M.view.write (Elt F) f X Finset.univ)
      ⊢ (owns (c : Thread nD τ) M q X : sProp 𝕄) := by
  unfold owns
  iintro H; iexists _
  isplitr
  · ipureintro; exact View.read_write_univ f X
  iexact H

end Cert.KernelIdeal.Proof

end
-- ==== Proof.Moves.lean ====
/-
  What each sequence of a chunk takes and gives.
-/
module

public import proofs.«01_k».proof.Proof.Slots

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## The pieces that go round -/

section Pieces
variable (c : Dev nD) (j : ℕ)

/-- A loading slot, free for chunk `j`. -/
def locFree : sProp 𝕄 := iprop(some' c (slotM locM (sl j)) fullShare ∗ At c (ch .ld j) (j / 6))
/-- What the load of chunk `j` needs besides its slot. -/
def LoadKit : sProp 𝕄 := iprop(dutyTok ER (cell c (ch .ld j)) (j / 6) 0 ∗ xRow m c (chunk j))
/-- Chunk `j` is being loaded. -/
def loading : sProp 𝕄 := iprop(cred (tallyAt (cell c (ch .ld j)) j NL) ∗ atPos ER (cell c (ch .ld j)) (j / 6) ∅ 0)
/-- Chunk `j` lies in its loading slot. -/
def loaded : sProp 𝕄 := iprop(owns (c : Thread nD τ) (slotM locM (sl j)) fullShare (XB m c (chunk j)) ∗ At c (ch .ld j) (j / 6 + 1))

/-- A sending slot along `y`, free for chunk `j`. -/
def ysFree : sProp 𝕄 := iprop(some' c (slotM ysM (sl j)) fullShare ∗ At c (ch .ys j) (j / 6))
/-- The rounded chunk `j` lies in its sending slot. -/
def ysFull : sProp 𝕄 := iprop(owns (c : Thread nD τ) (slotM ysM (sl j)) fullShare (YB m c (chunk j)) ∗ At c (ch .ys j) (j / 6))
/-- What the sending of chunk `j` along `y` needs besides its slot and the landing slot. -/
def SendKit : sProp 𝕄 :=
  iprop(dutyTok ER (cell c (ch .ys j)) (j / 6) 0 ∗ dutyTok ER (cell (yp c) (ch .yr j)) (j / 6) 0 ∗ Release.writeTok ES (yp c, sl j) (j / 6 + 1))
/-- Chunk `j` is being sent along `y`. -/
def ysBusy : sProp 𝕄 := iprop(cred (tallyAt (cell c (ch .ys j)) j NB) ∗ atPos ER (cell c (ch .ys j)) (j / 6) ∅ 0)

/-- The own landing slot is open for the partner's chunk `j`. -/
def yrOpen : sProp 𝕄 := iprop(Release.readerAt ES (c, sl j) (j / 6 + 1) ∗ At c (ch .yr j) (j / 6))
/-- The own landing slot, after the partner's last chunk. -/
def yrDone : sProp 𝕄 := iprop(some' c (slotM yrM (sl j)) fullShare ∗ At c (ch .yr j) (j / 6))
/-- The claim to the partner's chunk `j`. -/
def yrClaim : sProp 𝕄 := cred (tallyAt (cell c (ch .yr j)) j NB)

/-- A sending slot along `x`, free for chunk `j`. -/
def xsFree : sProp 𝕄 := iprop(some' c (slotM xsM (sl j)) fullShare ∗ At c (ch .xs j) (j / 6) ∗ At c (ch .st j) (j / 6))
/-- The sum of chunk `j` lies in its sending slot. -/
def xsFull : sProp 𝕄 :=
  iprop(owns (c : Thread nD τ) (slotM xsM (sl j)) fullShare (SB m c (chunk j)) ∗ At c (ch .xs j) (j / 6) ∗ At c (ch .st j) (j / 6))
/-- Chunk `j`'s sum is being sent along `x`, -/
def xsBusy : sProp 𝕄 := iprop(cred (tallyAt (cell c (ch .xs j)) j NB) ∗ atPos ER (cell c (ch .xs j)) (j / 6) ∅ 0)
/-- and stored. -/
def stBusy : sProp 𝕄 := iprop(cred (tallyAt (cell c (ch .st j)) j NB) ∗ atPos ER (cell c (ch .st j)) (j / 6) ∅ 0)
/-- Chunk `j`'s own rows of the result are written. -/
def ownDone : sProp 𝕄 := owns (c : Thread nD τ) (rowM oM c (chunk j)) fullShare (SB m c (chunk j))

end Pieces

/-- A chunk in range is itself. -/
theorem chunk_val (i : Fin 64) : chunk i.val = i := Fin.ext (Nat.mod_eq_of_lt i.isLt)

/-- Waits at level 0 are below all that is ever owed. -/
theorem low {l b : ℕ} (h : l = 0) (hb : 0 < b) : l < b := by omega

/-! ## Six chunks on -/

theorem sl_six (j : ℕ) : sl (j + 6) = sl j := Fin.ext (Nat.add_mod_right j 6)
theorem ch_six (a : Arr) (j : ℕ) : ch a (j + 6) = ch a j := by rw [show ch a (j + 6) = .inr (a, sl (j + 6)) from rfl, sl_six]
theorem div_six (j : ℕ) : (j + 6) / 6 = j / 6 + 1 := Nat.add_div_right j (by decide)

theorem locFree_six (c : Dev nD) (j : ℕ) : (locFree c (j + 6) : sProp 𝕄) = iprop(some' c (slotM locM (sl j)) fullShare ∗ At c (ch .ld j) (j / 6 + 1)) := by
  unfold locFree; rw [sl_six, ch_six, div_six]
theorem ysFree_six (c : Dev nD) (j : ℕ) : (ysFree c (j + 6) : sProp 𝕄) = iprop(some' c (slotM ysM (sl j)) fullShare ∗ At c (ch .ys j) (j / 6 + 1)) := by
  unfold ysFree; rw [sl_six, ch_six, div_six]
theorem yrOpen_six (c : Dev nD) (j : ℕ) : (yrOpen c (j + 6) : sProp 𝕄) = iprop(Release.readerAt ES (c, sl j) (j / 6 + 1 + 1) ∗ At c (ch .yr j) (j / 6 + 1)) := by
  unfold yrOpen; rw [sl_six, ch_six, div_six]
theorem yrDone_six (c : Dev nD) (j : ℕ) : (yrDone c (j + 6) : sProp 𝕄) = iprop(some' c (slotM yrM (sl j)) fullShare ∗ At c (ch .yr j) (j / 6 + 1)) := by
  unfold yrDone; rw [sl_six, ch_six, div_six]
theorem xsFree_six (c : Dev nD) (j : ℕ) :
    (xsFree c (j + 6) : sProp 𝕄) = iprop(some' c (slotM xsM (sl j)) fullShare ∗ At c (ch .xs j) (j / 6 + 1) ∗ At c (ch .st j) (j / 6 + 1)) := by
  unfold xsFree; rw [sl_six, ch_six, ch_six, div_six]
theorem Free_six (e : Dev nD) (j : ℕ) :
    (Free e (j + 6) : sProp 𝕄) = iprop(Release.released ES (e, sl j) (j / 6 + 1 + 1) ∗ reached ER (cell e (ch .yr j)) (j / 6 + 1)) := by
  unfold Free; rw [sl_six, ch_six, div_six]

/-! ## Loads -/

/-- The load of chunk `i` starts. -/
theorem step_load (c : Dev nD) (i : Fin 64) (Q : PUnit → sProp 𝕄) :
    iprop(ctx m K Ks ∗ locFree c i.val ∗ LoadKit m c i.val)
      ⊢ iprop((loading c i.val -∗ Q ⟨⟩) -∗ WP c (load c i) Q) := by
  unfold locFree LoadKit loading At xRow some' load
  rw [chunk_val]
  iintro ⟨#Hctx, ⟨⟨%fd, Hd⟩, Hat, Hr⟩, Ht, Hx⟩ Hk
  iapply (Rounds.wp_copy_pointsTo 𝒱₀ ER (Rd m) (c : Thread nD τ) none (κ := K (c, ch .ld i.val)) (r := i.val / 6) (d := 0)
    (src := rowM xM c i) (dst := slotM locM (slot i)) (sem := semOf (ch .ld i.val)) (fd := fd) (fs := m ((c : Thread nD τ).loc main_arg0)) (q := fullShare)
    (by rw [duties_cell m c (ch .ld i.val), dutiesK_ch (by decide) i.isLt]; exact Finset.mem_singleton_self _)
    i.val NL rfl (amount_cell m c (ch .ld i.val) _ _)
    (by
      rw [payload_cell m c (ch .ld i.val), payK_ch m (a := .ld) (by decide), chunk_val]
      unfold chPay xRow
      iintro ⟨Hd, Hs⟩
      isplitl [Hd]
      · iapply (owns_written c (slotM locM (slot i)) fullShare fd (XB m c i)); iexact Hd
      iexact Hs)) $$ [Hx Hd Ht Hr]
  · isplitr; · iapply (ctx_inv m K Ks c (ch .ld i.val)); iexact Hctx
    isplitl [Hx]; · iexact Hx
    isplitl [Hd]; · iexact Hd
    isplitl [Ht] <;> iassumption
  iintro Hc
  rw [wp_ret]; imodintro
  iapply Hk
  isplitl [Hc] <;> iassumption

/-- Chunk `i` arrives and is written, rounded, into its sending slot. -/
theorem step_convert (c : Dev nD) (i : Fin 64) {t n p : ℕ} (Q : PUnit → sProp 𝕄) :
    iprop(ctx m K Ks ∗ loading c i.val ∗ ysFree c i.val ∗ Ow c t n p)
      ⊢ iprop(((loaded m c i.val ∗ xRow m c (chunk i.val) ∗ ysFull m c i.val ∗ Ow c t n p) -∗ Q ⟨⟩) -∗ WP c (convert c i) Q) := by
  unfold convert loading
  iintro ⟨#Hctx, ⟨Hc, Hat⟩, Hys, Ho⟩ Hk
  rw [WP_bind]
  iapply (wait_dma m K Ks c (a := .ld) (by decide) i.isLt (slotM locM (slot i)) rfl
    (low rfl (by omega)) (low rfl (by omega)) (low rfl (by omega)) _) $$ [Hc Hat Ho]
  · isplitr; · iexact Hctx
    isplitl [Hc]; · iexact Hc
    isplitl [Hat] <;> iassumption
  iintro ⟨Hat, Hpay, Ho⟩
  unfold chPay
  icases Hpay with ⟨Hl, Hx⟩
  simp only [Prog.lift, Prog.bind_op, Prog.bind_ret, Prog.pure_eq_ret]
  iapply (wp_load_slot c locM (slot i)) $$ Hl
  iintro %v ⟨%hv, Hl⟩
  unfold ysFree ysFull loaded
  icases Hys with ⟨Hys, Hys'⟩
  iapply (wp_load_slot' c ysM (slot i)) $$ Hys
  iintro %w Hys
  iapply (wp_store_slot c ysM (slot i)) $$ Hys
  iintro Hys
  iapply (WP_ret c PUnit.unit Q)
  iapply Hk
  isplitl [Hl Hat]; · isplitl [Hl] <;> iassumption
  isplitl [Hx]; · iexact Hx
  isplitr [Ho]
  · isplitl [Hys]
    · rw [flat_pay1, hv]; iexact Hys
    iexact Hys'
  iexact Ho

end Cert.KernelIdeal.Proof

end
-- ==== Proof.Sends.lean ====
/-
  The sendings along `y` and `x`, the stores, and the waits for them.
-/
module

public import proofs.«01_k».proof.Proof.Moves

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## Along `y` -/

/-- Chunk `i`'s sending along `y` is waited for, and its slot is free. -/
theorem step_ywait (c : Dev nD) (i : Fin 64) {t n p : ℕ} (Q : PUnit → sProp 𝕄) :
    iprop(ctx m K Ks ∗ ysBusy c i.val ∗ Ow c t n p)
      ⊢ iprop(((ysFree c (i.val + 6) ∗ Ow c t n p) -∗ Q ⟨⟩) -∗ WP c (ywait i) Q) := by
  unfold ywait ysBusy
  iintro ⟨#Hctx, ⟨Hc, Hat⟩, Ho⟩ Hk
  iapply (wait_dma m K Ks c (a := .ys) (by decide) i.isLt (slotM ysM (slot i)) rfl
    (low rfl (by omega)) (low rfl (by omega)) (low rfl (by omega)) _) $$ [Hc Hat Ho]
  · isplitr; · iexact Hctx
    isplitl [Hc]; · iexact Hc
    isplitl [Hat] <;> iassumption
  iintro ⟨Hat, Hpay, Ho⟩
  iapply Hk
  isplitr [Ho]
  · rw [ysFree_six]
    isplitl [Hpay]; · unfold chPay; iexact Hpay
    iexact Hat
  iexact Ho

/-- Chunk `i` is sent along `y`, into a landing slot known to be free. -/
theorem step_ysend (c : Dev nD) (i : Fin 64) {t n : ℕ} (Q : PUnit → sProp 𝕄) :
    iprop(ctx m K Ks ∗ ysFull m c i.val ∗ SendKit c i.val ∗ Free (yp c) i.val ∗ Ow c t n i.val)
      ⊢ iprop(((ysBusy c i.val ∗ Ow c t n (i.val + 1)) -∗ Q ⟨⟩) -∗ WP c (ysend c i) Q) := by
  unfold ysend
  iintro ⟨#Hctx, Hys, Hkit, #Hf, Ho⟩ Hk
  unfold SendKit
  icases Hkit with ⟨Ht₁, Ht₂, Hw⟩
  imod (take_free (yp c) i.val (m := m) (K := K) (Ks := Ks)) $$ [Hw] with Hd
  · isplitr; · iexact Hctx
    isplitr; · iexact Hf
    iexact Hw
  unfold Free Ow ysFull At some' owns ysBusy
  rw [chunk_val]
  icases Hf with ⟨-, Hr₂⟩
  icases Ho with ⟨%W, Ho⟩
  icases Hys with ⟨⟨%fs, %hfs, Hs⟩, Hat, Hr₁⟩
  icases Hd with ⟨%fd, Hd⟩
  iapply (Rounds.wp_send_pointsTo 𝒱₀ ER (Rd m) (c : Thread nD τ) none (c' := (yp c : Thread nD τ))
    (κ₁ := K (c, ch .ys i.val)) (κ₂ := K (yp c, ch .yr i.val)) (r₁ := i.val / 6) (r₂ := i.val / 6) (d₁ := 0) (d₂ := 0)
    (src := slotM ysM (slot i)) (dst := slotM yrM (slot i)) (sS := semOf (ch .ys i.val)) (sem := semOf (ch .yr i.val))
    (fd := fd) (fs := fs) (q := fullShare) (W := W)
    (by rw [duties_cell m c (ch .ys i.val), dutiesK_ch (by decide) i.isLt]; exact Finset.mem_singleton_self _)
    (by rw [duties_cell m (yp c) (ch .yr i.val), dutiesK_ch (by decide) i.isLt]; exact Finset.mem_singleton_self _)
    i.val i.val NB rfl (amount_cell m c (ch .ys i.val) _ _) (amount_cell m (yp c) (ch .yr i.val) _ _)
    (owed c t n (i.val + 1)) (owed_ysend c t n i.isLt)
    (by
      rw [payload_cell m c (ch .ys i.val), payK_ch m (a := .ys) (by decide)]
      unfold chPay some'
      iintro H; iexists fs; iexact H)
    (by
      rw [payload_cell m (yp c) (ch .yr i.val), payK_ch m (a := .yr) (by decide), chunk_val]
      unfold chPay
      rw [yp_yp, ← hfs]
      exact owns_written (yp c) (slotM yrM (slot i)) fullShare fd _)) $$ [Hs Hd Ho Ht₁ Hr₁ Ht₂ Hr₂]
  · isplitr; · iapply (ctx_inv m K Ks c (ch .ys i.val)); iexact Hctx
    isplitr; · iapply (ctx_inv m K Ks (yp c) (ch .yr i.val)); iexact Hctx
    isplitl [Hs]; · iexact Hs
    isplitl [Hd]; · iexact Hd
    isplitl [Ho]; · iexact Ho
    isplitl [Ht₁]; · iexact Ht₁
    isplitl [Hr₁]; · iexact Hr₁
    isplitl [Ht₂] <;> iassumption
  iintro ⟨Hc, Ho⟩
  rw [wp_ret]; imodintro
  iapply Hk
  isplitr [Ho]
  · isplitl [Hc] <;> iassumption
  iexists W; iexact Ho

/-! ## Stores, and along `x` -/

/-- Half of the share of a sending slot along `x`, with the sum of chunk `j` in it. -/
def xsHalf (c : Dev nD) (j : ℕ) : sProp 𝕄 :=
  iprop(owns (c : Thread nD τ) (slotM xsM (sl j)) fullShare.right (SB m c (chunk j)) ∗ At c (ch .xs j) (j / 6))

/-- What the store of chunk `j`'s sum needs besides the slot. -/
def OwnKit (c : Dev nD) (j : ℕ) : sProp 𝕄 := iprop(dutyTok ER (cell c (ch .st j)) (j / 6) 0 ∗ some' c (rowM oM c (chunk j)) fullShare)
/-- What the sending of chunk `j`'s sum needs besides the slot. -/
def PeerKit (c : Dev nD) (j : ℕ) : sProp 𝕄 :=
  iprop(dutyTok ER (cell c (ch .xs j)) (j / 6) 0 ∗ dutyTok ER (cell (xp c) (ch .xr j)) 0 j ∗ some' (xp c) (rowM oM c (chunk j)) fullShare)

/-- The store of chunk `i`'s sum starts, on half of the slot's share. -/
theorem step_store (c : Dev nD) (i : Fin 64) (Q : PUnit → sProp 𝕄) :
    iprop(ctx m K Ks ∗ xsFull m c i.val ∗ OwnKit c i.val)
      ⊢ iprop(((stBusy c i.val ∗ xsHalf m c i.val) -∗ Q ⟨⟩) -∗ WP c (store c i) Q) := by
  unfold store xsFull OwnKit At some' owns stBusy xsHalf
  rw [chunk_val]
  iintro ⟨#Hctx, ⟨⟨%fs, %hfs, Hs⟩, Hxs, Hat, Hr⟩, Ht, ⟨%fd, Hd⟩⟩ Hk
  icases (pointsTo_share (PosShare.mem_left_op_right fullShare)).1 $$ Hs with ⟨Hs, Hs'⟩
  iapply (Rounds.wp_copy_pointsTo 𝒱₀ ER (Rd m) (c : Thread nD τ) none (κ := K (c, ch .st i.val)) (r := i.val / 6) (d := 0)
    (src := slotM xsM (slot i)) (dst := rowM oM c i) (sem := semOf (ch .st i.val)) (fd := fd) (fs := fs) (q := fullShare.left)
    (by rw [duties_cell m c (ch .st i.val), dutiesK_ch (by decide) i.isLt]; exact Finset.mem_singleton_self _)
    i.val NB rfl (amount_cell m c (ch .st i.val) _ _)
    (by
      rw [payload_cell m c (ch .st i.val), payK_ch m (a := .st) (by decide), chunk_val]
      unfold chPay some'
      iintro ⟨Hd, Hs⟩
      isplitl [Hs]
      · iexists fs; iexact Hs
      rw [← hfs]
      iapply (owns_written c (rowM oM c i) fullShare fd _); iexact Hd)) $$ [Hs Hd Ht Hr]
  · isplitr; · iapply (ctx_inv m K Ks c (ch .st i.val)); iexact Hctx
    isplitl [Hs]; · iexact Hs
    isplitl [Hd]; · iexact Hd
    isplitl [Ht] <;> iassumption
  iintro Hc
  rw [wp_ret]; imodintro
  iapply Hk
  isplitl [Hc Hat]
  · isplitl [Hc] <;> iassumption
  isplitl [Hs']
  · unfold owns; iexists fs
    isplitr; · ipureintro; exact hfs
    iexact Hs'
  unfold At; iexact Hxs

/-- The sum of chunk `i` is sent along `x`, on the other half of the slot's share. -/
theorem step_xsend (c : Dev nD) (i : Fin 64) {n p : ℕ} (Q : PUnit → sProp 𝕄) :
    iprop(ctx m K Ks ∗ xsHalf m c i.val ∗ PeerKit c i.val ∗ Ow c i.val n p)
      ⊢ iprop(((xsBusy c i.val ∗ Ow c (i.val + 1) n p) -∗ Q ⟨⟩) -∗ WP c (xsend c i) Q) := by
  unfold xsend xsHalf PeerKit Ow At some' owns xsBusy
  rw [chunk_val]
  iintro ⟨#Hctx, ⟨⟨%fs, %hfs, Hs⟩, Hat, Hr₁⟩, ⟨Ht₁, Ht₂, ⟨%fd, Hd⟩⟩, ⟨%W, Ho⟩⟩ Hk
  iapply (Rounds.wp_send_pointsTo 𝒱₀ ER (Rd m) (c : Thread nD τ) none (c' := (xp c : Thread nD τ))
    (κ₁ := K (c, ch .xs i.val)) (κ₂ := K (xp c, ch .xr i.val)) (r₁ := i.val / 6) (r₂ := 0) (d₁ := 0) (d₂ := i.val)
    (src := slotM xsM (slot i)) (dst := rowM oM c i) (sS := semOf (ch .xs i.val)) (sem := semOf (ch .xr i.val))
    (fd := fd) (fs := fs) (q := fullShare.right) (W := W)
    (by rw [duties_cell m c (ch .xs i.val), dutiesK_ch (by decide) i.isLt]; exact Finset.mem_singleton_self _)
    (by
      rw [duties_cell m (xp c) (ch .xr i.val)]
      exact Finset.mem_filter.mpr ⟨Finset.mem_range.mpr i.isLt, rfl⟩)
    i.val i.val NB rfl (amount_cell m c (ch .xs i.val) _ _) (amount_cell m (xp c) (ch .xr i.val) _ _)
    (owed c (i.val + 1) n p) (owed_xsend c n p i.isLt)
    (by
      rw [payload_cell m c (ch .xs i.val), payK_ch m (a := .xs) (by decide)]
      unfold chPay some'
      iintro H; iexists fs; iexact H)
    (by
      rw [payload_cell m (xp c) (ch .xr i.val)]
      show _ ⊢ chPay m (xp c) .xr (sl i.val) (chunk i.val)
      rw [chunk_val]
      unfold chPay
      rw [xp_xp, ← hfs]
      exact owns_written (xp c) (rowM oM c i) fullShare fd _)) $$ [Hs Hd Ho Ht₁ Hr₁ Ht₂]
  · isplitr; · iapply (ctx_inv m K Ks c (ch .xs i.val)); iexact Hctx
    isplitr; · iapply (ctx_inv m K Ks (xp c) (ch .xr i.val)); iexact Hctx
    isplitl [Hs]; · iexact Hs
    isplitl [Hd]; · iexact Hd
    isplitl [Ho]; · iexact Ho
    isplitl [Ht₁]; · iexact Ht₁
    isplitl [Hr₁]; · iexact Hr₁
    isplitl [Ht₂]; · iexact Ht₂
    iapply (ctx_reached m K Ks (xp c) (ch .xr i.val)); iexact Hctx
  iintro ⟨Hc, Ho⟩
  rw [wp_ret]; imodintro
  iapply Hk
  isplitr [Ho]
  · isplitl [Hc] <;> iassumption
  iexists W; iexact Ho

/-- Half of the share of a sending slot along `x`, free again. -/
def xsBack (c : Dev nD) (j : ℕ) : sProp 𝕄 := iprop(some' c (slotM xsM (sl j)) fullShare.right ∗ At c (ch .xs j) (j / 6 + 1))

/-- Chunk `i`'s sending along `x` is waited for. -/
theorem step_xwait (c : Dev nD) (i : Fin 64) {t n p : ℕ} (Q : PUnit → sProp 𝕄) :
    iprop(ctx m K Ks ∗ xsBusy c i.val ∗ Ow c t n p)
      ⊢ iprop(((xsBack c i.val ∗ Ow c t n p) -∗ Q ⟨⟩) -∗ WP c (xwait c i) Q) := by
  unfold xwait xsBusy
  iintro ⟨#Hctx, ⟨Hc, Hat⟩, Ho⟩ Hk
  iapply (wait_dma m K Ks c (a := .xs) (by decide) i.isLt (slotM xsM (slot i)) rfl
    (low rfl (by omega)) (low rfl (by omega)) (low rfl (by omega)) _) $$ [Hc Hat Ho]
  · isplitr; · iexact Hctx
    isplitl [Hc]; · iexact Hc
    isplitl [Hat] <;> iassumption
  iintro ⟨Hat, Hpay, Ho⟩
  iapply Hk
  isplitr [Ho]
  · unfold xsBack
    isplitl [Hpay]; · unfold chPay; iexact Hpay
    iexact Hat
  iexact Ho

/-- The two halves of a view's share hold the same contents. -/
theorem halves (c : Dev nD) {sp : Space} {sh : Shape} {e : EltTy} (M : Memref sig .tc sp sh e) (f g : Buf (Elt F) (M.view.loc (c : Thread nD τ))) :
    iprop((M.view.loc (c : Thread nD τ) ↦[M.view.set]{fullShare.left} f) ∗ (M.view.loc (c : Thread nD τ) ↦[M.view.set]{fullShare.right} g))
      ⊢ (M.view.loc (c : Thread nD τ) ↦[M.view.set]{fullShare} f : sProp 𝕄) := by
  refine pure_elim _ pointsTo_agree fun h => ?_
  rw [← pointsTo_congr (fun i hi => (h i (Finset.mem_inter.mpr ⟨hi, hi⟩)).1)]
  exact (pointsTo_share (PosShare.mem_left_op_right fullShare)).2

/-- The two halves of a view's share make the whole. -/
theorem some'_halves (c : Dev nD) {sp : Space} {sh : Shape} {e : EltTy} (M : Memref sig .tc sp sh e) :
    iprop(some' c M fullShare.left ∗ some' c M fullShare.right) ⊢ (some' c M fullShare : sProp 𝕄) := by
  unfold some'
  iintro ⟨⟨%f, Hf⟩, ⟨%g, Hg⟩⟩
  iexists f
  iapply (halves c M f g)
  isplitl [Hf] <;> iassumption

/-- Chunk `i`'s store is waited for: its rows are written, and its slot is free. -/
theorem step_swait (c : Dev nD) (i : Fin 64) {t n p : ℕ} (Q : PUnit → sProp 𝕄) :
    iprop(ctx m K Ks ∗ stBusy c i.val ∗ xsBack c i.val ∗ Ow c t n p)
      ⊢ iprop(((xsFree c (i.val + 6) ∗ ownDone m c i.val ∗ Ow c t n p) -∗ Q ⟨⟩) -∗ WP c (swait c i) Q) := by
  unfold swait stBusy xsBack
  iintro ⟨#Hctx, ⟨Hc, Hat⟩, ⟨Hs, Hxs⟩, Ho⟩ Hk
  iapply (wait_dma m K Ks c (a := .st) (by decide) i.isLt (rowM oM c i) rfl
    (low rfl (by omega)) (low rfl (by omega)) (low rfl (by omega)) _) $$ [Hc Hat Ho]
  · isplitr; · iexact Hctx
    isplitl [Hc]; · iexact Hc
    isplitl [Hat] <;> iassumption
  iintro ⟨Hat, Hpay, Ho⟩
  unfold chPay
  icases Hpay with ⟨Hs', Hd⟩
  iapply Hk
  isplitl [Hs Hs' Hxs Hat]
  · rw [xsFree_six]
    isplitl [Hs Hs']
    · iapply (some'_halves c (slotM xsM (sl i.val)))
      isplitl [Hs'] <;> iassumption
    isplitl [Hxs] <;> iassumption
  isplitl [Hd]
  · unfold ownDone; iexact Hd
  iexact Ho

end Cert.KernelIdeal.Proof

end
-- ==== Proof.Credits.lean ====
/-
  The sums, the credits for landing slots, and the arrivals along `x`.
-/
module

public import proofs.«01_k».proof.Proof.Sends
public import Idealize.SL.BI.BigOpNat

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## The sum -/

/-- The own landing slot, read. -/
def yrUsed (c : Dev nD) (j : ℕ) : sProp 𝕄 :=
  iprop((Release.readerAt ES (c, sl j) (j / 6 + 1) ∗ some' c (slotM yrM (sl j)) fullShare) ∗ At c (ch .yr j) (j / 6 + 1))

/-- The partner's chunk `i` arrives, and the sum is written into its sending slot. -/
theorem step_reduce (c : Dev nD) (i : Fin 64) {t n p : ℕ} (ht : i.val ≤ t) (hn : i.val ≤ n) (hp : i.val < p) (Q : PUnit → sProp 𝕄) :
    iprop(ctx m K Ks ∗ yrClaim c i.val ∗ yrOpen c i.val ∗ loaded m c i.val ∗ xsFree c i.val ∗ Ow c t n p)
      ⊢ iprop(((locFree c (i.val + 6) ∗ xsFull m c i.val ∗ yrUsed c i.val ∗ Ow c t n p) -∗ Q ⟨⟩) -∗ WP c (reduce i) Q) := by
  unfold reduce yrClaim yrOpen
  iintro ⟨#Hctx, Hc, ⟨Hrd, Hat⟩, Hl, Hxs, Ho⟩ Hk
  rw [WP_bind]
  iapply (wait_dma m K Ks c (a := .yr) (by decide) i.isLt (slotM yrM (slot i)) rfl
    (show 3 * i.val + 2 < 3 * t + 4 by omega) (show 3 * i.val + 2 < 3 * n + 3 by omega) (show 3 * i.val + 2 < 3 * p + 2 by omega) _) $$ [Hc Hat Ho]
  · isplitr; · iexact Hctx
    isplitl [Hc]; · iexact Hc
    isplitl [Hat]; · unfold At; icases Hat with ⟨Hat, -⟩; iexact Hat
    iexact Ho
  iintro ⟨Hat, Hy, Ho⟩
  simp only [Prog.lift, Prog.bind_op, Prog.bind_ret, Prog.pure_eq_ret]
  unfold chPay loaded
  icases Hl with ⟨Hl, Hl'⟩
  iapply (wp_load_slot c locM (slot i)) $$ Hl
  iintro %v ⟨%hv, Hl⟩
  iapply (wp_load_slot c yrM (slot i)) $$ Hy
  iintro %w ⟨%hw, Hy⟩
  unfold xsFree xsFull
  icases Hxs with ⟨Hxs, Hxs'⟩
  iapply (wp_load_slot' c xsM (slot i)) $$ Hxs
  iintro %u Hxs
  iapply (wp_store_slot c xsM (slot i)) $$ Hxs
  iintro Hxs
  iapply (WP_ret c PUnit.unit Q)
  iapply Hk
  isplitl [Hl Hl']
  · rw [locFree_six]
    isplitl [Hl]
    · iapply (owns_some' c (slotM locM (slot i)) fullShare _); iexact Hl
    iexact Hl'
  isplitl [Hxs Hxs']
  · isplitl [Hxs]
    · rw [flat_pay3, hv, hw]; unfold SB; iexact Hxs
    iexact Hxs'
  isplitr [Ho]
  · unfold yrUsed
    isplitl [Hrd Hy]
    · isplitl [Hrd]; · iexact Hrd
      iapply (owns_some' c (slotM yrM (slot i)) fullShare _); iexact Hy
    iexact Hat
  iexact Ho

/-! ## The credits -/

/-- The own landing slot of chunk number `j`: open for the partner's chunk `j`, when there is one. -/
def RD (c : Dev nD) (j : ℕ) : sProp 𝕄 := if j < 64 then yrOpen c j else yrDone c j
/-- The landing slots that this device has given free after chunk `5`. -/
def Acc (c : Dev nD) (n : ℕ) : sProp 𝕄 := bigSep (Finset.range n) (fun j => Free c (j + 6))
/-- The right to give credit `i`, when there is one. -/
def CredKit (c : Dev nD) (i : ℕ) : sProp 𝕄 := if i < 58 then dutyTok ER (cell (yp c) (.inl false)) 0 i else iprop(emp)

instance Acc_persistent (c : Dev nD) (n : ℕ) : BI.Persistent (Acc (F := F) c n) := by unfold Acc; infer_instance

theorem Acc_succ (c : Dev nD) (n : ℕ) : iprop(Acc c n ∗ Free c (n + 6)) ⊢ (Acc c (n + 1) : sProp 𝕄) := by
  unfold Acc; rw [bigSep_range_succ]; exact sep_comm.1

/-- What this device has given free is what its credit carries to the partner. -/
theorem Acc_pay (c : Dev nD) (i : ℕ) : Acc c (i + 1) ⊢ payK m (yp c) (.inl false) 0 i := by
  show _ ⊢ credPay (yp c) i
  unfold credPay Acc; rw [yp_yp]

/-- The landing slot of chunk `i` is given free, and the partner told, when it has another chunk to send there. -/
theorem step_credit (c : Dev nD) (i : Fin 64) {t p : ℕ} (Q : PUnit → sProp 𝕄) :
    iprop(ctx m K Ks ∗ yrUsed c i.val ∗ Acc c (min i.val 58) ∗ CredKit c i.val ∗ Ow c t i.val p)
      ⊢ iprop(((RD c (i.val + 6) ∗ Acc c (min (i.val + 1) 58) ∗ Ow c t (i.val + 1) p) -∗ Q ⟨⟩)
          -∗ WP c (if i.val < 58 then semSignalWord (yp c) credS 1#32 else pure ⟨⟩) Q) := by
  unfold yrUsed RD CredKit
  rcases Nat.lt_or_ge i.val 58 with h | h
  · rw [if_pos h, if_pos h, if_pos (show i.val + 6 < 64 by omega), Nat.min_eq_left h.le, Nat.min_eq_left (show i.val + 1 ≤ 58 by omega)]
    have hd : i.val ∈ (Rd m).duties (cell (yp c) (.inl false)) 0 := by
      rw [duties_cell m (yp c) (.inl false)]; exact Finset.mem_range.mpr h
    have hp : Acc c (i.val + 1) ⊢ (Rd m).payload ((yp c : Thread nD τ), .reg credS) 0 i.val :=
      BI.Entails.trans (Acc_pay m c i.val) (Entails.of_eq (payload_cell m (yp c) (.inl false) 0 i.val).symm)
    iintro ⟨#Hctx, ⟨⟨Hrd, Hs⟩, Hat⟩, #Hacc, Ht, Ho⟩ Hk
    unfold Ow
    icases Ho with ⟨%W, Ho⟩
    imod (give_free m K Ks c (sl i.val) (i.val / 6 + 1)) $$ [Hrd Hs] with H
    · isplitr; · iexact Hctx
      isplitl [Hrd] <;> iassumption
    icases H with ⟨Hrd, #Hrel⟩
    unfold At
    icases Hat with ⟨Hat, #Hr⟩
    ihave #Hacc' : Acc c (i.val + 1) $$ []
    · iapply (Acc_succ c i.val)
      isplitr; · iexact Hacc
      rw [Free_six]; isplitr <;> iassumption
    iapply (Rounds.wp_signal 𝒱₀ ER (Rd m) (c : Thread nD τ) none (κ := K (yp c, .inl false)) (d := i.val) (r := 0)
      hd
      (amount_cell m (yp c) (.inl false) _ _) i.val (owed c t (i.val + 1) p) (owed_credit c t p h)) $$ [Ho Ht]
    · isplitr; · iapply (ctx_inv m K Ks (yp c) (.inl false)); iexact Hctx
      isplitl [Ho]; · iexact Ho
      isplitl [Ht]; · iexact Ht
      isplitr
      · iapply hp; iexact Hacc'
      iapply (ctx_reached m K Ks (yp c) (.inl false)); iexact Hctx
    iintro Ho
    rw [wp_ret]; imodintro
    iapply Hk
    isplitl [Hrd Hat]
    · rw [yrOpen_six]
      isplitl [Hrd]; · iexact Hrd
      unfold At
      isplitl [Hat]; · iexact Hat
      iexact Hr
    isplitr; · iexact Hacc'
    iexists W; iexact Ho
  · rw [if_neg (show ¬ i.val < 58 by omega), if_neg (show ¬ i.val < 58 by omega), if_neg (show ¬ i.val + 6 < 64 by omega), Nat.min_eq_right h,
      Nat.min_eq_right (show 58 ≤ i.val + 1 by omega)]
    iintro ⟨#Hctx, ⟨⟨-, Hs⟩, Hat⟩, #Hacc, -, Ho⟩ Hk
    iapply (WP_ret c PUnit.unit Q)
    iapply Hk
    isplitl [Hs Hat]
    · rw [yrDone_six]; isplitl [Hs] <;> iassumption
    isplitr; · iexact Hacc
    unfold Ow; rw [owed_nocredit c t p h]; iexact Ho

/-- The credits up to `n` have been taken. -/
def Cr (c : Dev nD) (n : ℕ) : sProp 𝕄 := if n < 58 then Got m c (.inl false) n else At c (.inl false) 1

/-- A credit carries all that the credits before it carry. -/
theorem cred_free (c : Dev nD) {j d : ℕ} (h : j ≤ d) : credPay c d ⊢ (Free (yp c) (j + 6) : sProp 𝕄) := by
  unfold credPay
  exact bigSep_elim (Finset.mem_range.mpr (by omega))

/-- With `j + 1` credits taken, the landing slot of chunk `j + 6` is free. -/
theorem got_free (c : Dev nD) (j : ℕ) : Got m c (.inl false) (j + 1) ⊢ (Free (yp c) (j + 6) : sProp 𝕄) := by
  unfold Got
  iintro ⟨%T, %hT, -, H⟩
  have hd : ∃ d ∈ T, j ≤ d := by
    by_contra hno
    have hs : T ⊆ Finset.range j := fun d hd => Finset.mem_range.mpr (Nat.lt_of_not_le fun hle => hno ⟨d, hd, hle⟩)
    have h1 := Finset.card_le_card hs
    have h2 := Finset.card_sdiff_add_card_eq_card hT.1
    have h3 : (dutiesK (.inl false) 0).card = 58 := rfl
    have h4 : amountK (.inl false) = 1 := rfl
    have h5 := hT.2
    rw [Finset.card_range] at h1
    rw [h4, h3] at h5
    omega
  obtain ⟨d, hd, hle⟩ := hd
  have h : bigSep T (fun d => payK m c (.inl false) 0 d) ⊢ payK m c (.inl false) 0 d := bigSep_elim hd
  have hf : bigSep T (fun d => payK m c (.inl false) 0 d) ⊢ Free (yp c) (j + 6) := BI.Entails.trans h (cred_free c hle)
  iapply hf; iexact H

/-- Credit `j` is taken: the landing slot of chunk `j + 6` is free. -/
theorem step_credwait (c : Dev nD) {j : ℕ} (hj : j < 58) {t n p : ℕ} (ht : j ≤ t) (hn : j < n) (hp : j < p) (Q : PUnit → sProp 𝕄) :
    iprop(ctx m K Ks ∗ Cr m c j ∗ cred (tallyAt (cell c (.inl false)) j 1) ∗ Ow c t n p)
      ⊢ iprop(((Cr m c (j + 1) ∗ Free (yp c) (j + 6) ∗ Ow c t n p) -∗ Q ⟨⟩) -∗ WP c (semWaitWord credS 1#32) Q) := by
  unfold Cr
  rw [if_pos hj]
  iintro ⟨#Hctx, Hg, Hc, Ho⟩ Hk
  rcases Nat.lt_or_ge (j + 1) 58 with h | h
  · rw [if_pos h]
    iapply (wait_part m K Ks c (.inl false) (show j < 64 by omega) j (k' := 1) (fun Kt => wpE_semWait_eq 𝒱₀ (c : Thread nD τ) none Set.univ Kt)
      (show 3 * j + 3 < 3 * t + 4 by omega) (show 3 * j + 3 < 3 * n + 3 by omega) (show 3 * j + 3 < 3 * p + 2 by omega) _) $$ [Hg Hc Ho]
    · isplitr; · iexact Hctx
      isplitl [Hc]; · iexact Hc
      isplitl [Hg] <;> iassumption
    iintro ⟨Hg, Ho⟩
    ihave H := (persistent_entails_left (got_free m c j)) $$ Hg
    icases H with ⟨Hg, Hf⟩
    iapply Hk
    isplitl [Hg]; · iexact Hg
    isplitl [Hf] <;> iassumption
  · rw [if_neg (show ¬ j + 1 < 58 by omega)]
    iapply (wait_last m K Ks c (.inl false) (show j < 64 by omega) j (k' := 1) (fun Kt => wpE_semWait_eq 𝒱₀ (c : Thread nD τ) none Set.univ Kt)
      (show j + 1 = 58 * 1 by omega)
      (show 3 * j + 3 < 3 * t + 4 by omega) (show 3 * j + 3 < 3 * n + 3 by omega) (show 3 * j + 3 < 3 * p + 2 by omega) _) $$ [Hg Hc Ho]
    · isplitr; · iexact Hctx
      isplitl [Hc]; · iexact Hc
      isplitl [Hg] <;> iassumption
    iintro ⟨Hat, Hp, Ho⟩
    have hf : bigSep (dutiesK (.inl false) 0) (fun d => payK m c (.inl false) 0 d) ⊢ Free (yp c) (j + 6) :=
      BI.Entails.trans (bigSep_elim (i := 57) (Finset.mem_range.mpr (by decide))) (cred_free c (show j ≤ 57 by omega))
    iapply Hk
    isplitl [Hat]; · iexact Hat
    isplitl [Hp]
    · iapply hf; iexact Hp
    iexact Ho

/-! ## The arrivals along `x` -/

/-- The slot's cell of the arrivals along `x`, before chunk `j`, and after the last with all the rows. -/
def XR (c : Dev nD) (j : ℕ) : sProp 𝕄 :=
  if j < 64 then Got m c (ch .xr j) (NB * (j / 6))
  else iprop(At c (ch .xr j) 1 ∗ bigSep (dutiesK (ch .xr j) 0) (fun d => payK m c (ch .xr j) 0 d))

/-- The partner's chunk `i` along `x` is waited for. -/
theorem step_finish (c : Dev nD) (i : Fin 64) {t n p : ℕ} (ht : i.val < t) (hn : i.val < n) (hp : i.val + 1 ≤ p) (Q : PUnit → sProp 𝕄) :
    iprop(ctx m K Ks ∗ XR m c i.val ∗ cred (tallyAt (cell c (ch .xr i.val)) i.val NB) ∗ Ow c t n p)
      ⊢ iprop(((XR m c (i.val + 6) ∗ Ow c t n p) -∗ Q ⟨⟩) -∗ WP c (finish c i) Q) := by
  have he : NB * ((i.val + 6) / 6) = NB * (i.val / 6) + NB := by rw [div_six, Nat.mul_succ]
  unfold XR finish
  rw [if_pos i.isLt, ch_six]
  iintro ⟨#Hctx, Hg, Hc, Ho⟩ Hk
  rcases Nat.lt_or_ge (i.val + 6) 64 with h | h
  · rw [if_pos h, he]
    iapply (wait_part m K Ks c (ch .xr i.val) i.isLt (NB * (i.val / 6)) (k' := NB)
      (fun Kt => wpE_waitDma2_eq (dst := rowM oM c i) 𝒱₀ (c : Thread nD τ) none Set.univ Kt)
      (show 3 * i.val + 4 < 3 * t + 4 by omega) (show 3 * i.val + 4 < 3 * n + 3 by omega) (show 3 * i.val + 4 < 3 * p + 2 by omega) _) $$ [Hg Hc Ho]
    · isplitr; · iexact Hctx
      isplitl [Hc]; · iexact Hc
      isplitl [Hg] <;> iassumption
    iexact Hk
  · rw [if_neg (show ¬ i.val + 6 < 64 by omega)]
    iapply (wait_last m K Ks c (ch .xr i.val) i.isLt (NB * (i.val / 6)) (k' := NB)
      (fun Kt => wpE_waitDma2_eq (dst := rowM oM c i) 𝒱₀ (c : Thread nD τ) none Set.univ Kt)
      (by
        show NB * (i.val / 6) + NB = ((Finset.range 64).filter (fun j => j % 6 = (sl i.val).val)).card * NB
        have hi := i.isLt
        have h1 : (69 - i.val % 6) / 6 = i.val / 6 + 1 := by omega
        rw [card_xr, ← Nat.mul_succ, Nat.mul_comm, h1])
      (show 3 * i.val + 4 < 3 * t + 4 by omega) (show 3 * i.val + 4 < 3 * n + 3 by omega) (show 3 * i.val + 4 < 3 * p + 2 by omega) _) $$ [Hg Hc Ho]
    · isplitr; · iexact Hctx
      isplitl [Hc]; · iexact Hc
      isplitl [Hg] <;> iassumption
    iintro ⟨Hat, Hp, Ho⟩
    iapply Hk
    isplitr [Ho]
    · isplitl [Hat] <;> iassumption
    iexact Ho

end Cert.KernelIdeal.Proof

end
-- ==== Proof.Tracks.lean ====
/-
  What a device holds between two trips, and the parts of a trip.
-/
module

public import proofs.«01_k».proof.Proof.Credits

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## Runs of resources -/

/-- The resources of the numbers from `a` to before `b`. -/
def run (a b : ℕ) (A : ℕ → sProp 𝕄) : sProp 𝕄 := bigSep (Finset.Ico a b) A

/-- The first of a run apart, -/
theorem run_bot {a b : ℕ} (h : a < b) (A : ℕ → sProp 𝕄) : run a b A ⊢ iprop(A a ∗ run (a + 1) b A) :=
  Entails.of_eq (bigSep_Ico_succ_bot h A)
/-- and one more at its end. -/
theorem run_top {a b : ℕ} (h : a ≤ b) (A : ℕ → sProp 𝕄) : iprop(A b ∗ run a b A) ⊢ run a (b + 1) A :=
  Entails.of_eq (bigSep_Ico_succ_top h A).symm

/-! ## The tracks -/

section Tracks
variable (c : Dev nD)

/-- A sending slot along `y`, for chunk `j`: free, or still busy with the chunk six before. -/
def YSR (j : ℕ) : sProp 𝕄 := if j < 6 then ysFree c j else ysBusy c (j - 6)
/-- A sending slot along `x`, for chunk `j`. -/
def XSR (j : ℕ) : sProp 𝕄 := if j < 6 then xsFree c j else iprop(xsBusy c (j - 6) ∗ stBusy c (j - 6))

/-- The loads: chunks below `b` have been started, those below `v` have arrived and those below `i` are used. -/
def TA (v b i : ℕ) : sProp 𝕄 :=
  iprop(run v b (loading c) ∗ run b (i + 6) (locFree c) ∗ run i v (loaded m c) ∗ run b 64 (LoadKit m c)
    ∗ run 0 v (fun j => xRow m c (chunk j)))
/-- The sendings along `y`: chunks below `p` have been sent. -/
def TY (p : ℕ) : sProp 𝕄 := iprop(run p (p + 6) (YSR c) ∗ run p 64 (SendKit c))
/-- The credits taken for the chunks below `p`. -/
def TC (p : ℕ) : sProp 𝕄 :=
  iprop(Cr m c (p - 6) ∗ run (p - 6) 58 (fun j => cred (tallyAt (cell c (.inl false)) j 1)) ∗ bigSep (Finset.range 6) (Free (yp c)))
/-- The landing slots and the claims to the partner's chunks, those below `i` used. -/
def TR (i : ℕ) : sProp 𝕄 :=
  iprop(run i (i + 6) (RD c) ∗ run i 64 (fun j => iprop(yrClaim c j ∗ CredKit c j)) ∗ Acc c (min i 58))
/-- The sendings along `x` and the stores: sums below `i` have been sent. -/
def TX (i : ℕ) : sProp 𝕄 :=
  iprop(run i (i + 6) (XSR c) ∗ run i 64 (fun j => iprop(OwnKit c j ∗ PeerKit c j)) ∗ run 0 (i - 6) (ownDone m c))
/-- The same, chunk `i`'s slot apart. -/
def TX' (i : ℕ) : sProp 𝕄 :=
  iprop(run (i + 1) (i + 6) (XSR c) ∗ run i 64 (fun j => iprop(OwnKit c j ∗ PeerKit c j)) ∗ run 0 (i + 1 - 6) (ownDone m c))
/-- The arrivals along `x`, those below `f` waited for. -/
def TF (f : ℕ) : sProp 𝕄 := iprop(run f (f + 6) (XR m c) ∗ run f 64 (fun j => cred (tallyAt (cell c (ch .xr j)) j NB)))

end Tracks

/-! ## The waits for the chunk six before -/

/-- What is done for the chunk six before is done for that chunk. -/
theorem withBefore_six {j k : Fin 64} (h : j.val = k.val + 6) (p : Fin 64 → Stretch F) : withBefore j p = p k := by
  unfold withBefore
  rw [if_pos (by omega)]
  exact congrArg p (Fin.ext (by show j.val - 6 = k.val; omega))
/-- For the first six chunks there is none. -/
theorem withBefore_first {j : Fin 64} (h : j.val < 6) (p : Fin 64 → Stretch F) : withBefore j p = .ret ⟨⟩ := by
  unfold withBefore; rw [if_neg (by omega)]; rfl

theorem YSR_six (c : Dev nD) (k : ℕ) : (YSR c (k + 6) : sProp 𝕄) = ysBusy c k := by
  unfold YSR; rw [if_neg (by omega), Nat.add_sub_cancel]
theorem XSR_six (c : Dev nD) (k : ℕ) : (XSR c (k + 6) : sProp 𝕄) = iprop(xsBusy c k ∗ stBusy c k) := by
  unfold XSR; rw [if_neg (by omega), Nat.add_sub_cancel]
theorem YSR_first (c : Dev nD) {j : ℕ} (h : j < 6) : (YSR c j : sProp 𝕄) = ysFree c j := by unfold YSR; rw [if_pos h]
theorem XSR_first (c : Dev nD) {j : ℕ} (h : j < 6) : (XSR c j : sProp 𝕄) = xsFree c j := by unfold XSR; rw [if_pos h]

theorem RD_open (c : Dev nD) {j : ℕ} (h : j < 64) : (RD c j : sProp 𝕄) = yrOpen c j := by unfold RD; rw [if_pos h]

/-- A chunk is one of the first six, or six after another. -/
theorem six_cases (j : Fin 64) : j.val < 6 ∨ ∃ k : Fin 64, j.val = k.val + 6 := by
  rcases Nat.lt_or_ge j.val 6 with h | h
  · exact .inl h
  · exact .inr ⟨⟨j.val - 6, by omega⟩, by show j.val = j.val - 6 + 6; omega⟩

/-- Chunk `j`'s sending slot along `y` is free after the wait. -/
theorem before_ywait (c : Dev nD) (j : Fin 64) {t n p : ℕ} (Q : PUnit → sProp 𝕄) :
    iprop(ctx m K Ks ∗ YSR c j.val ∗ Ow c t n p)
      ⊢ iprop(((ysFree c j.val ∗ Ow c t n p) -∗ Q ⟨⟩) -∗ WP c (withBefore j ywait) Q) := by
  rcases six_cases j with h | ⟨k, h⟩
  · rw [withBefore_first h, YSR_first c h]
    iintro ⟨-, Hy, Ho⟩ Hk
    iapply (WP_ret c PUnit.unit Q)
    iapply Hk
    isplitl [Hy]; · iexact Hy
    iexact Ho
  · rw [withBefore_six h, h, YSR_six]
    exact step_ywait m K Ks c k Q

/-- The landing slot of chunk `j` at the partner is free after the wait. -/
theorem before_credwait (c : Dev nD) (j : Fin 64) {t n p : ℕ} (ht : j.val ≤ t + 6) (hn : j.val < n + 6) (hp : j.val < p + 6) (Q : PUnit → sProp 𝕄) :
    iprop(ctx m K Ks ∗ TC m c j.val ∗ Ow c t n p)
      ⊢ iprop(((TC m c (j.val + 1) ∗ Free (yp c) j.val ∗ Ow c t n p) -∗ Q ⟨⟩) -∗ WP c (withBefore j (fun _ => semWaitWord credS 1#32)) Q) := by
  unfold TC
  rcases six_cases j with h | ⟨k, h⟩
  · rw [withBefore_first h, show j.val - 6 = 0 by omega, show j.val + 1 - 6 = 0 by omega]
    iintro ⟨-, ⟨HC, Hc, #Hf⟩, Ho⟩ Hk
    have hf : bigSep (Finset.range 6) (Free (yp c)) ⊢ (Free (yp c) j.val : sProp 𝕄) := bigSep_elim (Finset.mem_range.mpr h)
    iapply (WP_ret c PUnit.unit Q)
    iapply Hk
    isplitl [HC Hc]
    · isplitl [HC]; · iexact HC
      isplitl [Hc]; · iexact Hc
      iexact Hf
    isplitr
    · iapply hf; iexact Hf
    iexact Ho
  · have hk : k.val < 58 := by have := j.isLt; omega
    rw [withBefore_six h, h, show k.val + 6 - 6 = k.val by omega, show k.val + 6 + 1 - 6 = k.val + 1 by omega]
    iintro ⟨#Hctx, ⟨HC, Hc, Hf⟩, Ho⟩ Hk
    ihave Hc := (run_bot hk _) $$ Hc
    icases Hc with ⟨Hc1, Hc⟩
    iapply (step_credwait m K Ks c hk (t := t) (n := n) (p := p) (by omega) (by omega) (by omega) Q) $$ [HC Hc1 Ho]
    · isplitr; · iexact Hctx
      isplitl [HC]; · iexact HC
      isplitl [Hc1]; · iexact Hc1
      iexact Ho
    iintro ⟨HC, Hf', Ho⟩
    iapply Hk
    isplitr [Hf' Ho]
    · isplitl [HC]; · iexact HC
      isplitl [Hc]; · iexact Hc
      iexact Hf
    isplitl [Hf'] <;> iassumption

/-- The waits for the sending and the store six chunks before. -/
theorem before_xwaits (c : Dev nD) (j : Fin 64) {t n p : ℕ} (k : Stretch F) (Q : PUnit → sProp 𝕄) :
    iprop(ctx m K Ks ∗ XSR c j.val ∗ run 0 (j.val - 6) (ownDone m c) ∗ Ow c t n p)
      ⊢ iprop(((xsFree c j.val ∗ run 0 (j.val + 1 - 6) (ownDone m c) ∗ Ow c t n p) -∗ WP c k Q)
          -∗ WP c (do withBefore j (xwait c); withBefore j (swait c); k) Q) := by
  rw [WP_bind]
  rcases six_cases j with h | ⟨i, h⟩
  · rw [withBefore_first h, withBefore_first h, XSR_first c h, show j.val - 6 = 0 by omega, show j.val + 1 - 6 = 0 by omega]
    iintro ⟨-, Hx, Hd, Ho⟩ Hk
    iapply (WP_ret c PUnit.unit _)
    rw [WP_bind]
    iapply (WP_ret c PUnit.unit _)
    iapply Hk
    isplitl [Hx]; · iexact Hx
    isplitl [Hd]; · iexact Hd
    iexact Ho
  · rw [withBefore_six h, withBefore_six h, h, XSR_six, show i.val + 6 - 6 = i.val by omega, show i.val + 6 + 1 - 6 = i.val + 1 by omega]
    iintro ⟨#Hctx, ⟨Hx, Hs⟩, Hd, Ho⟩ Hk
    iapply (step_xwait m K Ks c i _) $$ [Hx Ho]
    · isplitr; · iexact Hctx
      isplitl [Hx]; · iexact Hx
      iexact Ho
    iintro ⟨Hx, Ho⟩
    rw [WP_bind]
    iapply (step_swait m K Ks c i _) $$ [Hs Hx Ho]
    · isplitr; · iexact Hctx
      isplitl [Hs]; · iexact Hs
      isplitl [Hx]; · iexact Hx
      iexact Ho
    iintro ⟨Hx, Hn, Ho⟩
    iapply Hk
    isplitl [Hx]; · iexact Hx
    isplitr [Ho]
    · iapply (run_top (Nat.zero_le _) (ownDone m c))
      isplitl [Hn]; · iexact Hn
      iexact Hd
    iexact Ho

/-! ## The parts of a trip -/

/-- Chunk `j` is prepared. -/
theorem part_prepare (c : Dev nD) (j : Fin 64) {t n b i : ℕ} (ht : j.val ≤ t + 6) (hn : j.val < n + 6) (hb : j.val < b) (hi : i ≤ j.val)
    (Q : PUnit → sProp 𝕄) :
    iprop(ctx m K Ks ∗ TA m c j.val b i ∗ TY c j.val ∗ TC m c j.val ∗ Ow c t n j.val)
      ⊢ iprop(((TA m c (j.val + 1) b i ∗ TY c (j.val + 1) ∗ TC m c (j.val + 1) ∗ Ow c t n (j.val + 1)) -∗ Q ⟨⟩)
          -∗ WP c (prepare c j) Q) := by
  unfold prepare TA TY
  iintro ⟨#Hctx, ⟨Hld, Hlf, Hfull, Hlk, Hx⟩, ⟨Hys, Hsk⟩, HC, Ho⟩ Hk
  ihave Hys := (run_bot (show j.val < j.val + 6 by omega) _) $$ Hys
  icases Hys with ⟨Hy, Hys⟩
  ihave Hld := (run_bot hb _) $$ Hld
  icases Hld with ⟨Hl, Hld⟩
  ihave Hsk := (run_bot j.isLt _) $$ Hsk
  icases Hsk with ⟨Hk1, Hsk⟩
  rw [WP_bind]
  iapply (before_ywait m K Ks c j _) $$ [Hy Ho]
  · isplitr; · iexact Hctx
    isplitl [Hy]; · iexact Hy
    iexact Ho
  iintro ⟨Hy, Ho⟩
  rw [WP_bind]
  iapply (step_convert m K Ks c j _) $$ [Hl Hy Ho]
  · isplitr; · iexact Hctx
    isplitl [Hl]; · iexact Hl
    isplitl [Hy]; · iexact Hy
    iexact Ho
  iintro ⟨Hl, Hxr, Hy, Ho⟩
  rw [WP_bind]
  iapply (before_credwait m K Ks c j (t := t) (n := n) (p := j.val) ht hn (by omega) _) $$ [HC Ho]
  · isplitr; · iexact Hctx
    isplitl [HC]; · iexact HC
    iexact Ho
  iintro ⟨HC, Hf, Ho⟩
  iapply (step_ysend m K Ks c j Q) $$ [Hy Hk1 Hf Ho]
  · isplitr; · iexact Hctx
    isplitl [Hy]; · iexact Hy
    isplitl [Hk1]; · iexact Hk1
    isplitl [Hf]; · iexact Hf
    iexact Ho
  iintro ⟨Hy, Ho⟩
  iapply Hk
  isplitl [Hld Hlf Hfull Hlk Hx Hl Hxr]
  · isplitl [Hld]; · iexact Hld
    isplitl [Hlf]; · iexact Hlf
    isplitl [Hfull Hl]
    · iapply (run_top hi (loaded m c)); isplitl [Hl]; · iexact Hl
      iexact Hfull
    isplitl [Hlk]; · iexact Hlk
    iapply (run_top (Nat.zero_le _) (fun j => xRow m c (chunk j))); isplitl [Hxr]; · iexact Hxr
    iexact Hx
  isplitl [Hys Hy Hsk]
  · isplitl [Hys Hy]
    · iapply (run_top (show j.val + 1 ≤ j.val + 6 by omega) (YSR c))
      isplitl [Hy]
      · rw [YSR_six]; iexact Hy
      iexact Hys
    iexact Hsk
  isplitl [HC]; · iexact HC
  iexact Ho

/-- The sum of chunk `i` is made and the partner told. -/
theorem part_combine (c : Dev nD) (i : Fin 64) {t p v b : ℕ} (ht : i.val ≤ t) (hp : i.val < p) (hv : i.val < v) (hb : b ≤ i.val + 6)
    (Q : PUnit → sProp 𝕄) :
    iprop(ctx m K Ks ∗ TA m c v b i.val ∗ TX m c i.val ∗ TR c i.val ∗ Ow c t i.val p)
      ⊢ iprop(((TA m c v b (i.val + 1) ∗ TX' m c i.val ∗ xsFull m c i.val ∗ TR c (i.val + 1) ∗ Ow c t (i.val + 1) p) -∗ Q ⟨⟩)
          -∗ WP c (combine c i) Q) := by
  unfold combine TA TX TX' TR
  iintro ⟨#Hctx, ⟨Hld, Hlf, Hfull, Hlk, Hx⟩, ⟨Hxs, Hkit, Hdone⟩, ⟨Hrd, Hcl, Hacc⟩, Ho⟩ Hk
  ihave Hxs := (run_bot (show i.val < i.val + 6 by omega) _) $$ Hxs
  icases Hxs with ⟨Hx1, Hxs⟩
  ihave Hfull := (run_bot hv _) $$ Hfull
  icases Hfull with ⟨Hl, Hfull⟩
  ihave Hrd := (run_bot (show i.val < i.val + 6 by omega) _) $$ Hrd
  icases Hrd with ⟨Hr, Hrd⟩
  ihave Hcl := (run_bot i.isLt _) $$ Hcl
  icases Hcl with ⟨⟨Hcl1, Hck⟩, Hcl⟩
  iapply (before_xwaits m K Ks c i _ Q) $$ [Hx1 Hdone Ho]
  · isplitr; · iexact Hctx
    isplitl [Hx1]; · iexact Hx1
    isplitl [Hdone]; · iexact Hdone
    iexact Ho
  iintro ⟨Hx1, Hdone, Ho⟩
  rw [WP_bind]
  iapply (step_reduce m K Ks c i ht (Nat.le_refl _) hp _) $$ [Hcl1 Hr Hl Hx1 Ho]
  · isplitr; · iexact Hctx
    isplitl [Hcl1]; · iexact Hcl1
    isplitl [Hr]; · rw [← RD_open c i.isLt]; iexact Hr
    isplitl [Hl]; · iexact Hl
    isplitl [Hx1]; · iexact Hx1
    iexact Ho
  iintro ⟨Hl, Hx1, Hr, Ho⟩
  iapply (step_credit m K Ks c i Q) $$ [Hr Hacc Hck Ho]
  · isplitr; · iexact Hctx
    isplitl [Hr]; · iexact Hr
    isplitl [Hacc]; · iexact Hacc
    isplitl [Hck]; · iexact Hck
    iexact Ho
  iintro ⟨Hr, Hacc, Ho⟩
  iapply Hk
  isplitl [Hld Hlf Hfull Hlk Hx Hl]
  · isplitl [Hld]; · iexact Hld
    isplitl [Hlf Hl]
    · iapply (run_top hb (locFree c)); isplitl [Hl]; · iexact Hl
      iexact Hlf
    isplitl [Hfull]; · iexact Hfull
    isplitl [Hlk]; · iexact Hlk
    iexact Hx
  isplitl [Hxs Hkit Hdone]
  · isplitl [Hxs]; · iexact Hxs
    isplitl [Hkit]; · iexact Hkit
    iexact Hdone
  isplitl [Hx1]; · iexact Hx1
  isplitr [Ho]
  · isplitl [Hrd Hr]
    · iapply (run_top (show i.val + 1 ≤ i.val + 6 by omega) (RD c)); isplitl [Hr]; · iexact Hr
      iexact Hrd
    isplitl [Hcl]; · iexact Hcl
    iexact Hacc
  iexact Ho

/-- Chunk `b` starts to be loaded. -/
theorem part_load (c : Dev nD) (b : Fin 64) {v i : ℕ} (hv : v ≤ b.val) (hb : b.val < i + 6) (Q : PUnit → sProp 𝕄) :
    iprop(ctx m K Ks ∗ TA m c v b.val i)
      ⊢ iprop((TA m c v (b.val + 1) i -∗ Q ⟨⟩) -∗ WP c (load c b) Q) := by
  unfold TA
  iintro ⟨#Hctx, Hld, Hlf, Hfull, Hlk, Hx⟩ Hk
  ihave Hlf := (run_bot hb _) $$ Hlf
  icases Hlf with ⟨Hf, Hlf⟩
  ihave Hlk := (run_bot b.isLt _) $$ Hlk
  icases Hlk with ⟨Hk1, Hlk⟩
  iapply (step_load m K Ks c b Q) $$ [Hf Hk1]
  · isplitr; · iexact Hctx
    isplitl [Hf]; · iexact Hf
    iexact Hk1
  iintro Hl
  iapply Hk
  isplitl [Hld Hl]
  · iapply (run_top hv (loading c)); isplitl [Hl]; · iexact Hl
    iexact Hld
  isplitl [Hlf]; · iexact Hlf
  isplitl [Hfull]; · iexact Hfull
  isplitl [Hlk]; · iexact Hlk
  iexact Hx

/-- The sum of chunk `i` starts to be stored and sent. -/
theorem part_send (c : Dev nD) (i : Fin 64) {n p : ℕ} (k : Stretch F) (Q : PUnit → sProp 𝕄) :
    iprop(ctx m K Ks ∗ TX' m c i.val ∗ xsFull m c i.val ∗ Ow c i.val n p)
      ⊢ iprop(((TX m c (i.val + 1) ∗ Ow c (i.val + 1) n p) -∗ WP c k Q) -∗ WP c (do store c i; xsend c i; k) Q) := by
  unfold TX' TX
  iintro ⟨#Hctx, ⟨Hxs, Hkit, Hdone⟩, Hfull, Ho⟩ Hk
  ihave Hkit := (run_bot i.isLt _) $$ Hkit
  icases Hkit with ⟨⟨Hok, Hpk⟩, Hkit⟩
  rw [WP_bind]
  iapply (step_store m K Ks c i _) $$ [Hfull Hok]
  · isplitr; · iexact Hctx
    isplitl [Hfull]; · iexact Hfull
    iexact Hok
  iintro ⟨Hst, Hh⟩
  rw [WP_bind]
  iapply (step_xsend m K Ks c i _) $$ [Hh Hpk Ho]
  · isplitr; · iexact Hctx
    isplitl [Hh]; · iexact Hh
    isplitl [Hpk]; · iexact Hpk
    iexact Ho
  iintro ⟨Hxb, Ho⟩
  iapply Hk
  isplitr [Ho]
  · isplitl [Hxs Hxb Hst]
    · iapply (run_top (show i.val + 1 ≤ i.val + 6 by omega) (XSR c))
      isplitr [Hxs]
      · rw [XSR_six]; isplitl [Hxb]; · iexact Hxb
        iexact Hst
      iexact Hxs
    isplitl [Hkit]; · iexact Hkit
    iexact Hdone
  iexact Ho

/-- The partner's chunk `f` along `x` is waited for. -/
theorem part_finish (c : Dev nD) (f : Fin 64) {t n p : ℕ} (ht : f.val < t) (hn : f.val < n) (hp : f.val + 1 ≤ p) (Q : PUnit → sProp 𝕄) :
    iprop(ctx m K Ks ∗ TF m c f.val ∗ Ow c t n p)
      ⊢ iprop(((TF m c (f.val + 1) ∗ Ow c t n p) -∗ Q ⟨⟩) -∗ WP c (finish c f) Q) := by
  unfold TF
  iintro ⟨#Hctx, ⟨Hxr, Hcr⟩, Ho⟩ Hk
  ihave Hxr := (run_bot (show f.val < f.val + 6 by omega) _) $$ Hxr
  icases Hxr with ⟨Hx, Hxr⟩
  ihave Hcr := (run_bot f.isLt _) $$ Hcr
  icases Hcr with ⟨Hc, Hcr⟩
  iapply (step_finish m K Ks c f ht hn hp Q) $$ [Hx Hc Ho]
  · isplitr; · iexact Hctx
    isplitl [Hx]; · iexact Hx
    isplitl [Hc]; · iexact Hc
    iexact Ho
  iintro ⟨Hx, Ho⟩
  iapply Hk
  isplitr [Ho]
  · isplitl [Hxr Hx]
    · iapply (run_top (show f.val + 1 ≤ f.val + 6 by omega) (XR m c)); isplitl [Hx]; · iexact Hx
      iexact Hxr
    iexact Hcr
  iexact Ho

end Cert.KernelIdeal.Proof

end
-- ==== Proof.Loop.lean ====
/-
  The loop: what a device holds before each trip, and the run from the first load to the last wait.
-/
module

public import proofs.«01_k».proof.Proof.Tracks

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-- What a device holds before trip `i`. -/
def St (c : Dev nD) (i : ℕ) : sProp 𝕄 :=
  iprop(TA m c (min (i + 1) 64) (min (i + 6) 64) i ∗ TY c (min (i + 1) 64) ∗ TC m c (min (i + 1) 64) ∗ TX m c i ∗ TR c i ∗ TF m c (i - 1)
    ∗ Ow c i i (min (i + 1) 64))

theorem withChunk_lt {n : ℕ} (h : n < 64) (p : Fin 64 → Stretch F) : withChunk n p = p ⟨n, h⟩ := by unfold withChunk; rw [dif_pos h]
theorem withChunk_ge {n : ℕ} (h : 64 ≤ n) (p : Fin 64 → Stretch F) : withChunk n p = .ret ⟨⟩ := by
  unfold withChunk; rw [dif_neg (by omega)]; rfl

/-- The next chunk is prepared, when there is one. -/
theorem next_prepare (c : Dev nD) (i : Fin 64) (Q : PUnit → sProp 𝕄) :
    iprop(ctx m K Ks ∗ TA m c (min (i.val + 1) 64) (min (i.val + 6) 64) i.val ∗ TY c (min (i.val + 1) 64) ∗ TC m c (min (i.val + 1) 64)
        ∗ Ow c i.val i.val (min (i.val + 1) 64))
      ⊢ iprop(((TA m c (min (i.val + 2) 64) (min (i.val + 6) 64) i.val ∗ TY c (min (i.val + 2) 64) ∗ TC m c (min (i.val + 2) 64)
          ∗ Ow c i.val i.val (min (i.val + 2) 64)) -∗ Q ⟨⟩) -∗ WP c (withChunk (i.val + 1) (prepare c)) Q) := by
  rcases Nat.lt_or_ge (i.val + 1) 64 with h | h
  · rw [withChunk_lt h, show min (i.val + 1) 64 = i.val + 1 by omega, show min (i.val + 2) 64 = i.val + 1 + 1 by omega]
    exact part_prepare m K Ks c ⟨i.val + 1, h⟩ (t := i.val) (n := i.val) (b := min (i.val + 6) 64) (i := i.val)
      (by show i.val + 1 ≤ _; omega) (by show i.val + 1 < _; omega) (by show i.val + 1 < _; omega) (by show i.val ≤ i.val + 1; omega) Q
  · rw [withChunk_ge h, show min (i.val + 1) 64 = 64 by omega, show min (i.val + 2) 64 = 64 by omega]
    iintro ⟨-, H⟩ Hk
    iapply (WP_ret c PUnit.unit Q)
    iapply Hk; iexact H

/-- The chunk six ahead starts to be loaded, when there is one. -/
theorem next_load (c : Dev nD) (i : Fin 64) (Q : PUnit → sProp 𝕄) :
    iprop(ctx m K Ks ∗ TA m c (min (i.val + 2) 64) (min (i.val + 6) 64) (i.val + 1))
      ⊢ iprop((TA m c (min (i.val + 2) 64) (min (i.val + 7) 64) (i.val + 1) -∗ Q ⟨⟩) -∗ WP c (withChunk (i.val + 6) (load c)) Q) := by
  rcases Nat.lt_or_ge (i.val + 6) 64 with h | h
  · rw [withChunk_lt h, show min (i.val + 6) 64 = i.val + 6 by omega, show min (i.val + 7) 64 = i.val + 6 + 1 by omega]
    exact part_load m K Ks c ⟨i.val + 6, h⟩ (v := min (i.val + 2) 64) (i := i.val + 1)
      (by show _ ≤ i.val + 6; omega) (by show i.val + 6 < _; omega) Q
  · rw [withChunk_ge h, show min (i.val + 6) 64 = 64 by omega, show min (i.val + 7) 64 = 64 by omega]
    iintro ⟨-, H⟩ Hk
    iapply (WP_ret c PUnit.unit Q)
    iapply Hk; iexact H

/-- The partner's chunk before is waited for, when there is one. -/
theorem last_finish (c : Dev nD) (i : Fin 64) {p : ℕ} (hp : i.val ≤ p) (Q : PUnit → sProp 𝕄) :
    iprop(ctx m K Ks ∗ TF m c (i.val - 1) ∗ Ow c (i.val + 1) (i.val + 1) p)
      ⊢ iprop(((TF m c i.val ∗ Ow c (i.val + 1) (i.val + 1) p) -∗ Q ⟨⟩)
          -∗ WP c (if 0 < i.val then finish c ⟨i.val - 1, Nat.lt_of_le_of_lt (Nat.sub_le _ _) i.isLt⟩ else pure ⟨⟩) Q) := by
  rcases Nat.eq_zero_or_pos i.val with h | h
  · rw [if_neg (by omega), h]
    iintro ⟨-, H⟩ Hk
    iapply (WP_ret c PUnit.unit Q)
    iapply Hk; iexact H
  · rw [if_pos h]
    have hs := part_finish m K Ks c ⟨i.val - 1, Nat.lt_of_le_of_lt (Nat.sub_le _ _) i.isLt⟩ (t := i.val + 1) (n := i.val + 1) (p := p)
      (by show i.val - 1 < _; omega) (by show i.val - 1 < _; omega) (by show i.val - 1 + 1 ≤ _; omega) Q
    rw [show (⟨i.val - 1, Nat.lt_of_le_of_lt (Nat.sub_le _ _) i.isLt⟩ : Fin 64).val + 1 = i.val from Nat.sub_add_cancel h] at hs
    exact hs

/-- A trip. -/
theorem wp_trip (c : Dev nD) (i : Fin 64) (Q : PUnit → sProp 𝕄) :
    iprop(ctx m K Ks ∗ St m c i.val) ⊢ iprop((St m c (i.val + 1) -∗ Q ⟨⟩) -∗ WP c (trip c i) Q) := by
  have hi := i.isLt
  unfold trip St
  rw [show i.val + 1 + 1 = i.val + 2 from rfl, show i.val + 1 + 6 = i.val + 7 from rfl, Nat.add_sub_cancel]
  iintro ⟨#Hctx, HA, HY, HC, HX, HR, HF, Ho⟩ Hk
  rw [WP_bind]
  iapply (next_prepare m K Ks c i _) $$ [HA HY HC Ho]
  · isplitr; · iexact Hctx
    isplitl [HA]; · iexact HA
    isplitl [HY]; · iexact HY
    isplitl [HC]; · iexact HC
    iexact Ho
  iintro ⟨HA, HY, HC, Ho⟩
  rw [WP_bind]
  iapply (part_combine m K Ks c i (t := i.val) (p := min (i.val + 2) 64) (v := min (i.val + 2) 64) (b := min (i.val + 6) 64)
    (Nat.le_refl _) (by omega) (by omega) (by omega) _) $$ [HA HX HR Ho]
  · isplitr; · iexact Hctx
    isplitl [HA]; · iexact HA
    isplitl [HX]; · iexact HX
    isplitl [HR]; · iexact HR
    iexact Ho
  iintro ⟨HA, HX, Hfull, HR, Ho⟩
  rw [WP_bind]
  iapply (next_load m K Ks c i _) $$ [HA]
  · isplitr; · iexact Hctx
    iexact HA
  iintro HA
  iapply (part_send m K Ks c i (n := i.val + 1) (p := min (i.val + 2) 64) _ Q) $$ [HX Hfull Ho]
  · isplitr; · iexact Hctx
    isplitl [HX]; · iexact HX
    isplitl [Hfull]; · iexact Hfull
    iexact Ho
  iintro ⟨HX, Ho⟩
  iapply (last_finish m K Ks c i (p := min (i.val + 2) 64) (by omega) Q) $$ [HF Ho]
  · isplitr; · iexact Hctx
    isplitl [HF]; · iexact HF
    iexact Ho
  iintro ⟨HF, Ho⟩
  iapply Hk
  isplitl [HA]; · iexact HA
  isplitl [HY]; · iexact HY
  isplitl [HC]; · iexact HC
  isplitl [HX]; · iexact HX
  isplitl [HR]; · iexact HR
  isplitl [HF]; · iexact HF
  iexact Ho

/-- The last `n` trips, one after another. -/
theorem wp_lastTrips (c : Dev nD) (S : ℕ → sProp 𝕄) (p : Fin 64 → Stretch F) (lo : ℕ)
    (hstep : ∀ (i : Fin 64), lo ≤ i.val → ∀ Q : PUnit → sProp 𝕄, iprop(ctx m K Ks ∗ S i.val) ⊢ iprop((S (i.val + 1) -∗ Q ⟨⟩) -∗ WP c (p i) Q)) :
    ∀ n : ℕ, n + lo ≤ 64 → ∀ Q : PUnit → sProp 𝕄,
      iprop(ctx m K Ks ∗ S (64 - n)) ⊢ iprop((S 64 -∗ Q ⟨⟩) -∗ WP c (lastTrips p n) Q)
  | 0, _, Q => by
    show _ ⊢ iprop((S 64 -∗ Q ⟨⟩) -∗ WP c (.ret ⟨⟩) Q)
    iintro ⟨-, H⟩ Hk
    iapply (WP_ret c PUnit.unit Q)
    iapply Hk; iexact H
  | n + 1, hn, Q => by
    show _ ⊢ iprop((S 64 -∗ Q ⟨⟩) -∗ WP c (p ⟨63 - n, Nat.lt_of_le_of_lt (Nat.sub_le _ _) (by decide)⟩ >>= fun _ => lastTrips p n) Q)
    have h1 := hstep ⟨63 - n, Nat.lt_of_le_of_lt (Nat.sub_le _ _) (by decide)⟩ (by show lo ≤ 63 - n; omega) (fun _ => WP c (lastTrips p n) Q)
    have h2 := wp_lastTrips c S p lo hstep n (by omega) Q
    rw [show (⟨63 - n, Nat.lt_of_le_of_lt (Nat.sub_le _ _) (by decide)⟩ : Fin 64).val + 1 = 64 - n by show 63 - n + 1 = 64 - n; omega] at h1
    rw [WP_bind, show 64 - (n + 1) = 63 - n by omega]
    iintro ⟨#Hctx, H⟩ Hk
    iapply h1 $$ [H]
    · isplitr; · iexact Hctx
      iexact H
    iintro H
    iapply h2 $$ [H]
    · isplitr; · iexact Hctx
      iexact H
    iexact Hk

/-! ## Before the first trip -/

/-- What a device holds after the handshake. -/
def Begin (c : Dev nD) : sProp 𝕄 :=
  iprop(TA m c 0 0 0 ∗ TY c 0 ∗ TC m c 0 ∗ TX m c 0 ∗ TR c 0 ∗ TF m c 0 ∗ Ow c 0 0 0)

/-- The first chunk is written, rounded, into its sending slot. -/
theorem first_convert (c : Dev nD) {t n p : ℕ} (Q : PUnit → sProp 𝕄) :
    iprop(ctx m K Ks ∗ TA m c 0 1 0 ∗ ysFree c 0 ∗ Ow c t n p)
      ⊢ iprop(((TA m c 1 1 0 ∗ ysFull m c 0 ∗ Ow c t n p) -∗ Q ⟨⟩) -∗ WP c (convert c 0) Q) := by
  unfold TA
  iintro ⟨#Hctx, ⟨Hld, Hlf, Hfull, Hlk, Hx⟩, Hy, Ho⟩ Hk
  ihave Hld := (run_bot (show 0 < 1 by omega) _) $$ Hld
  icases Hld with ⟨Hl, Hld⟩
  iapply (step_convert m K Ks c 0 (t := t) (n := n) (p := p) _) $$ [Hl Hy Ho]
  · isplitr; · iexact Hctx
    isplitl [Hl]; · iexact Hl
    isplitl [Hy]; · iexact Hy
    iexact Ho
  iintro ⟨Hl, Hxr, Hy, Ho⟩
  iapply Hk
  isplitr [Hy Ho]
  · isplitl [Hld]; · iexact Hld
    isplitl [Hlf]; · iexact Hlf
    isplitl [Hfull Hl]
    · iapply (run_top (Nat.le_refl 0) (loaded m c))
      isplitl [Hl]; · iexact Hl
      iexact Hfull
    isplitl [Hlk]; · iexact Hlk
    iapply (run_top (Nat.le_refl 0) (fun j => xRow m c (chunk j)))
    isplitl [Hxr]; · iexact Hxr
    iexact Hx
  isplitl [Hy]; · iexact Hy
  iexact Ho

/-- All that comes before the first trip. -/
theorem wp_start (c : Dev nD) (Q : PUnit → sProp 𝕄) :
    iprop(ctx m K Ks ∗ Begin m c) ⊢ iprop((St m c 0 -∗ Q ⟨⟩) -∗ WP c (start c) Q) := by
  unfold start Begin TY
  iintro ⟨#Hctx, HA, ⟨Hys, Hsk⟩, HC, HX, HR, HF, Ho⟩ Hk
  ihave Hys := (run_bot (show 0 < 0 + 6 by omega) _) $$ Hys
  icases Hys with ⟨Hy, Hys⟩
  ihave Hsk := (run_bot (show 0 < 64 by omega) _) $$ Hsk
  icases Hsk with ⟨Hk1, Hsk⟩
  rw [WP_bind]
  iapply (part_load m K Ks c 0 (v := 0) (i := 0) (by decide) (by decide) _) $$ [HA]
  · isplitr; · iexact Hctx
    iexact HA
  iintro HA
  rw [WP_bind]
  iapply (first_convert m K Ks c (t := 0) (n := 0) (p := 0) _) $$ [HA Hy Ho]
  · isplitr; · iexact Hctx
    isplitl [HA]; · iexact HA
    isplitl [Hy]; · rw [← YSR_first c (show 0 < 6 by omega)]; iexact Hy
    iexact Ho
  iintro ⟨HA, Hy, Ho⟩
  rw [WP_bind]
  iapply (part_load m K Ks c 1 (v := 1) (i := 0) (by decide) (by decide) _) $$ [HA]
  · isplitr; · iexact Hctx
    iexact HA
  iintro HA
  rw [WP_bind]
  iapply (part_load m K Ks c 2 (v := 1) (i := 0) (by decide) (by decide) _) $$ [HA]
  · isplitr; · iexact Hctx
    iexact HA
  iintro HA
  rw [WP_bind]
  iapply (part_load m K Ks c 3 (v := 1) (i := 0) (by decide) (by decide) _) $$ [HA]
  · isplitr; · iexact Hctx
    iexact HA
  iintro HA
  rw [WP_bind]
  iapply (part_load m K Ks c 4 (v := 1) (i := 0) (by decide) (by decide) _) $$ [HA]
  · isplitr; · iexact Hctx
    iexact HA
  iintro HA
  rw [WP_bind]
  iapply (part_load m K Ks c 5 (v := 1) (i := 0) (by decide) (by decide) _) $$ [HA]
  · isplitr; · iexact Hctx
    iexact HA
  iintro HA
  unfold TC
  icases HC with ⟨HC, Hcr, #Hf⟩
  have hf : bigSep (Finset.range 6) (Free (yp c)) ⊢ (Free (yp c) 0 : sProp 𝕄) := bigSep_elim (Finset.mem_range.mpr (by decide))
  iapply (step_ysend m K Ks c 0 (t := 0) (n := 0) Q) $$ [Hy Hk1 Ho]
  · isplitr; · iexact Hctx
    isplitl [Hy]; · iexact Hy
    isplitl [Hk1]; · iexact Hk1
    isplitr; · iapply hf; iexact Hf
    iexact Ho
  iintro ⟨Hy, Ho⟩
  iapply Hk
  unfold St TY TC
  isplitl [HA]; · iexact HA
  isplitl [Hys Hy Hsk]
  · isplitl [Hys Hy]
    · iapply (run_top (show 1 ≤ 0 + 6 by omega) (YSR c))
      isplitl [Hy]
      · rw [YSR_six]; iexact Hy
      iexact Hys
    iexact Hsk
  isplitl [HC Hcr]
  · isplitl [HC]; · iexact HC
    isplitl [Hcr]; · iexact Hcr
    iexact Hf
  isplitl [HX]; · iexact HX
  isplitl [HR]; · iexact HR
  isplitl [HF]; · iexact HF
  iexact Ho

/-! ## After the last trip -/

/-- What a device holds before the last waits for chunk `n`. -/
def Dr (c : Dev nD) (n : ℕ) : sProp 𝕄 :=
  iprop(run (n + 6) 70 (YSR c) ∗ run 64 (n + 6) (ysFree c) ∗ run (n + 6) 70 (XSR c) ∗ run 64 (n + 6) (xsFree c) ∗ run 0 n (ownDone m c)
    ∗ Ow c 64 64 64)

/-- The last waits for a chunk. -/
theorem wp_drain (c : Dev nD) (i : Fin 64) (hi : 58 ≤ i.val) (Q : PUnit → sProp 𝕄) :
    iprop(ctx m K Ks ∗ Dr m c i.val) ⊢ iprop((Dr m c (i.val + 1) -∗ Q ⟨⟩) -∗ WP c (drain c i) Q) := by
  have h64 := i.isLt
  unfold drain Dr
  rw [show i.val + 1 + 6 = i.val + 6 + 1 by omega]
  have hy := run_bot (show i.val + 6 < 70 by omega) (YSR (F := F) c)
  have hx := run_bot (show i.val + 6 < 70 by omega) (XSR (F := F) c)
  rw [YSR_six] at hy
  rw [XSR_six] at hx
  iintro ⟨#Hctx, Hyb, Hyf, Hxb, Hxf, Hd, Ho⟩ Hk
  ihave Hyb := hy $$ Hyb
  icases Hyb with ⟨Hy, Hyb⟩
  ihave Hxb := hx $$ Hxb
  icases Hxb with ⟨⟨Hx, Hs⟩, Hxb⟩
  rw [WP_bind]
  iapply (step_ywait m K Ks c i _) $$ [Hy Ho]
  · isplitr; · iexact Hctx
    isplitl [Hy]; · iexact Hy
    iexact Ho
  iintro ⟨Hy, Ho⟩
  rw [WP_bind]
  iapply (step_xwait m K Ks c i _) $$ [Hx Ho]
  · isplitr; · iexact Hctx
    isplitl [Hx]; · iexact Hx
    iexact Ho
  iintro ⟨Hx, Ho⟩
  iapply (step_swait m K Ks c i _) $$ [Hs Hx Ho]
  · isplitr; · iexact Hctx
    isplitl [Hs]; · iexact Hs
    isplitl [Hx]; · iexact Hx
    iexact Ho
  iintro ⟨Hx, Hn, Ho⟩
  iapply Hk
  isplitl [Hyb]; · iexact Hyb
  isplitl [Hyf Hy]
  · iapply (run_top (show 64 ≤ i.val + 6 by omega) (ysFree c))
    isplitl [Hy]; · iexact Hy
    iexact Hyf
  isplitl [Hxb]; · iexact Hxb
  isplitl [Hxf Hx]
  · iapply (run_top (show 64 ≤ i.val + 6 by omega) (xsFree c))
    isplitl [Hx]; · iexact Hx
    iexact Hxf
  isplitl [Hd Hn]
  · iapply (run_top (Nat.zero_le _) (ownDone m c))
    isplitl [Hn]; · iexact Hn
    iexact Hd
  iexact Ho

/-- An empty run. -/
theorem run_none (a : ℕ) (A : ℕ → sProp 𝕄) : iprop(emp) ⊢ run a a A := by
  unfold run; rw [Finset.Ico_self, bigSep_empty]; exact BI.Entails.refl _

/-- What a device holds in the end. -/
def Done (c : Dev nD) : sProp 𝕄 :=
  iprop(run 64 70 (locFree c) ∗ run 0 64 (fun j => xRow m c (chunk j)) ∗ run 64 70 (ysFree c) ∗ run 64 70 (xsFree c) ∗ run 64 70 (RD c)
    ∗ run 64 70 (XR m c) ∗ run 0 64 (ownDone m c) ∗ Cr m c 58 ∗ Ow c 64 64 64)

/-- Everything from the first load to the last wait. -/
theorem wp_rest (c : Dev nD) (Q : PUnit → sProp 𝕄) :
    iprop(ctx m K Ks ∗ Begin m c)
      ⊢ iprop((Done m c -∗ Q ⟨⟩) -∗ WP c (do start c; lastTrips (trip c) 64; finish c 63; lastTrips (drain c) 6) Q) := by
  iintro ⟨#Hctx, H⟩ Hk
  rw [WP_bind]
  iapply (wp_start m K Ks c _) $$ [H]
  · isplitr; · iexact Hctx
    iexact H
  iintro H
  rw [WP_bind]
  iapply (wp_lastTrips m K Ks c (St m c) (trip c) 0 (fun i _ Q => wp_trip m K Ks c i Q) 64 (by omega) _) $$ [H]
  · isplitr; · iexact Hctx
    iexact H
  iintro H
  unfold St TA TY TC TX TR TF
  icases H with ⟨⟨-, Hl, -, -, Hx⟩, ⟨Hys, -⟩, ⟨HC, -, -⟩, ⟨Hxs, -, Hd⟩, ⟨Hr, -, -⟩, HF, Ho⟩
  rw [WP_bind]
  iapply (part_finish m K Ks c 63 (t := 64) (n := 64) (p := 64) (by decide) (by decide) (by decide) _) $$ [HF Ho]
  · isplitr; · iexact Hctx
    isplitl [HF]; · unfold TF; iexact HF
    iexact Ho
  unfold TF
  iintro ⟨⟨HF, -⟩, Ho⟩
  iapply (wp_lastTrips m K Ks c (Dr m c) (drain c) 58 (fun i hi Q => wp_drain m K Ks c i hi Q) 6 (by omega) _) $$ [Hys Hxs Hd Ho]
  · isplitr; · iexact Hctx
    unfold Dr
    isplitl [Hys]; · iexact Hys
    isplitr; · iapply (run_none 64 (ysFree c)); iempintro
    isplitl [Hxs]; · iexact Hxs
    isplitr; · iapply (run_none 64 (xsFree c)); iempintro
    isplitl [Hd]; · iexact Hd
    iexact Ho
  unfold Dr
  iintro ⟨-, Hy, -, Hxs, Hd, Ho⟩
  iapply Hk
  unfold Done
  isplitl [Hl]; · iexact Hl
  isplitl [Hx]; · iexact Hx
  isplitl [Hy]; · iexact Hy
  isplitl [Hxs]; · iexact Hxs
  isplitl [Hr]; · iexact Hr
  isplitl [HF]; · iexact HF
  isplitl [Hd]; · iexact Hd
  isplitl [HC]; · iexact HC
  iexact Ho

end Cert.KernelIdeal.Proof

end
-- ==== Proof.Enter.lean ====
/-
  What a device starts with, and the handshake with its two partners.
-/
module

public import proofs.«01_k».proof.Proof.Loop

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## Runs -/

/-- Each resource of a run changed, with knowledge that stays. -/
theorem run_each {P : sProp 𝕄} [BI.Persistent P] {a b : ℕ} {A B : ℕ → sProp 𝕄}
    (h : ∀ j, a ≤ j → j < b → iprop(P ∗ A j) ⊢ B j) : iprop(P ∗ run a b A) ⊢ run a b B := by
  unfold run
  refine BI.Entails.trans (sep_mono_left (BI.bigSep_of_persistent (Finset.Ico a b) P)) ?_
  rw [← bigSep_sep']
  exact bigSep_mono fun j hj => h j (Finset.mem_Ico.mp hj).1 (Finset.mem_Ico.mp hj).2

/-- Each resource of a run changed. -/
theorem run_mono {a b : ℕ} {A B : ℕ → sProp 𝕄} (h : ∀ j, a ≤ j → j < b → A j ⊢ B j) : run a b A ⊢ run a b B :=
  bigSep_mono fun j hj => h j (Finset.mem_Ico.mp hj).1 (Finset.mem_Ico.mp hj).2

/-- Two runs as one. -/
theorem run_pair {a b : ℕ} {A B : ℕ → sProp 𝕄} : iprop(run a b A ∗ run a b B) ⊢ run a b (fun j => iprop(A j ∗ B j)) := by
  unfold run; rw [bigSep_sep']

/-- The six slots are those of the first six chunks. -/
theorem run_slots (B : Fin 6 → sProp 𝕄) : bigSep Finset.univ B ⊢ run 0 6 (fun j => B (sl j)) := by
  unfold run
  rw [show Finset.Ico 0 6 = Finset.univ.map (Fin.valEmbedding (n := 6)) by decide, bigSep_map]
  exact bigSep_mono fun s _ => Entails.of_eq (congrArg B (Fin.ext (Nat.mod_eq_of_lt s.isLt).symm))

/-- The slots' chunks after the last. -/
def lastChunk : Fin 6 ↪ ℕ := ⟨fun s => 64 + (s.val + 2) % 6, by decide⟩

/-- The slots of the six chunks after the last are the six slots. -/
theorem slots_run (B : Fin 6 → sProp 𝕄) : run 64 70 (fun j => B (sl j)) ⊢ bigSep Finset.univ B := by
  unfold run
  rw [show Finset.Ico 64 70 = Finset.univ.map lastChunk by decide, bigSep_map]
  exact bigSep_mono fun s _ => Entails.of_eq (congrArg B (by revert s; decide))

/-- A run over all chunks. -/
theorem run_chunks (B : ℕ → sProp 𝕄) : bigSep Finset.univ (fun i : Fin 64 => B i.val) = run 0 64 B := by
  unfold run
  rw [show Finset.Ico 0 64 = Finset.univ.map (Fin.valEmbedding (n := 64)) by decide, bigSep_map]; rfl

/-- A run over all chunks, by the chunks themselves. -/
theorem run_chunk (B : Fin 64 → sProp 𝕄) : run 0 64 (fun j => B (chunk j)) = bigSep Finset.univ B := by
  rw [← run_chunks]; exact bigSep_congr fun i _ => congrArg B (chunk_val i)

/-! ## All kinds of semaphores -/

/-- A resource of every array. -/
def arrs (Φ : Arr → sProp 𝕄) : sProp 𝕄 := iprop(Φ .ld ∗ Φ .st ∗ Φ .ys ∗ Φ .yr ∗ Φ .xs ∗ Φ .xr)

theorem arrs_eq (Φ : Arr → sProp 𝕄) : bigSep Finset.univ Φ = arrs Φ :=
  (bigSep_univ_eq_bigSepL [Arr.ld, .st, .ys, .yr, .xs, .xr] (by decide) (by decide) Φ).trans rfl

/-- A resource of every kind of semaphore: the barrier's, the credits' and the arrays'. -/
theorem kinds_eq (Φ : Kind → sProp 𝕄) :
    bigSep Finset.univ Φ = iprop((Φ (.inl true) ∗ Φ (.inl false)) ∗ arrs (fun a => bigSep Finset.univ fun s : Fin 6 => Φ (.inr (a, s)))) := by
  rw [bigSep_univ_sum, bigSep_univ_prod, arrs_eq]
  exact congrArg (fun P => iprop(P ∗ _)) (bigSep_univ_eq_bigSepL [true, false] (by decide) (by decide) _)

/-! ## The tokens -/

/-- The tokens of a device's cells: of its barrier's two duties, and one for each chunk of the credits and of each
    array. -/
abbrev Tok : Type := Fin 2 ⊕ (Option Arr × Fin 64)

/-- The cell, round and duty of a token. -/
def tokOf (c : Dev nD) : Tok → GSem nD τ sig × ℕ × ℕ
  | .inl d => (cell c (.inl true), 0, d.val)
  | .inr (none, i) => (cell c (.inl false), 0, i.val)
  | .inr (some .xr, i) => (cell c (ch .xr i.val), 0, i.val)
  | .inr (some a, i) => (cell c (ch a i.val), i.val / 6, 0)

/-- The token itself. -/
def tok (c : Dev nD) (x : Tok) : sProp 𝕄 := dutyTok ER (tokOf c x).1 (tokOf c x).2.1 (tokOf c x).2.2

/-- The device that pays a duty of `c`. -/
def payer (x : Tok) (c : Dev nD) : Dev nD :=
  match x with
  | .inl d => if d.val = 0 then yp c else xp c
  | .inr (none, _) => yp c
  | .inr (some .yr, _) => yp c
  | .inr (some .xr, _) => xp c
  | .inr (some _, _) => c

/-- A device pays with the tokens of the devices that it is the payer of. -/
def payToks (c : Dev nD) : sProp 𝕄 := bigSep Finset.univ fun x : Tok => tok (payer x c) x

/-- The tokens by kind. -/
theorem payToks_eq (c : Dev nD) : (payToks c : sProp 𝕄)
    = iprop((dutyTok ER (cell (yp c) (.inl true)) 0 0 ∗ dutyTok ER (cell (xp c) (.inl true)) 0 1)
      ∗ (run 0 64 (fun j => dutyTok ER (cell (yp c) (.inl false)) 0 j))
      ∗ arrs (fun a => bigSep Finset.univ fun i : Fin 64 => tok (payer (.inr (some a, i)) c) (.inr (some a, i)))) := by
  unfold payToks
  rw [bigSep_univ_sum, bigSep_univ_prod, bigSep_univ_eq_bigSepL [(0 : Fin 2), 1] (by decide) (by decide),
    bigSep_univ_eq_bigSepL [none, some Arr.ld, some .st, some .ys, some .yr, some .xs, some .xr] (by decide) (by decide), ← run_chunks]
  rfl

/-- The tokens of an array's transfers. -/
theorem toks_own (c : Dev nD) (a : Arr) (h : a = .ld ∨ a = .st ∨ a = .ys ∨ a = .xs) :
    bigSep Finset.univ (fun i : Fin 64 => tok (payer (.inr (some a, i)) c) (.inr (some a, i)))
      = run 0 64 (fun j => (dutyTok ER (cell c (ch a j)) (j / 6) 0 : sProp 𝕄)) := by
  rw [← run_chunks]
  rcases h with rfl | rfl | rfl | rfl <;> rfl
theorem toks_yr (c : Dev nD) :
    bigSep Finset.univ (fun i : Fin 64 => tok (payer (.inr (some .yr, i)) c) (.inr (some .yr, i)))
      = run 0 64 (fun j => (dutyTok ER (cell (yp c) (ch .yr j)) (j / 6) 0 : sProp 𝕄)) := by
  rw [← run_chunks]; rfl
theorem toks_xr (c : Dev nD) :
    bigSep Finset.univ (fun i : Fin 64 => tok (payer (.inr (some .xr, i)) c) (.inr (some .xr, i)))
      = run 0 64 (fun j => (dutyTok ER (cell (xp c) (ch .xr j)) 0 j : sProp 𝕄)) := by
  rw [← run_chunks]; rfl

/-! ## What a device starts with -/

/-- Its slots, each at some contents. -/
def Bufs (c : Dev nD) : sProp 𝕄 :=
  iprop(bigSep Finset.univ (fun s : Fin 6 => some' c (slotM locM s) fullShare) ∗ bigSep Finset.univ (fun s : Fin 6 => some' c (slotM ysM s) fullShare)
    ∗ bigSep Finset.univ (fun s : Fin 6 => some' c (slotM yrM s) fullShare) ∗ bigSep Finset.univ (fun s : Fin 6 => some' c (slotM xsM s) fullShare))

/-- The rows that it reads, and its result's rows: those that it writes and those that its partner along `x` writes. -/
def Rows (c : Dev nD) : sProp 𝕄 :=
  iprop(bigSep Finset.univ (xRow m c) ∗ bigSep Finset.univ (fun i : Fin 64 => some' c (rowM oM c i) fullShare)
    ∗ bigSep Finset.univ (fun i : Fin 64 => some' c (rowM oM (xp c) i) fullShare))

/-- The ghost state: its positions at its cells, the tokens that it pays with, its slots' counts and the tokens of its
    writes. -/
def Ghost (c : Dev nD) : sProp 𝕄 :=
  iprop(bigSep Finset.univ (fun k : Kind => atPos ER (cell c k) 0 ∅ 0) ∗ payToks c
    ∗ bigSep Finset.univ (fun s : Fin 6 => Release.readerAt ES (c, s) 0) ∗ run 0 64 (fun j => Release.writeTok ES (yp c, sl j) (j / 6 + 1)))

/-- The claims to what others owe it. -/
def Claims (c : Dev nD) : sProp 𝕄 :=
  iprop(cred (tallyAt (cell c (.inl true)) 0 2) ∗ run 0 58 (fun j => cred (tallyAt (cell c (.inl false)) j 1))
    ∗ run 0 64 (yrClaim c) ∗ run 0 64 (fun j => cred (tallyAt (cell c (ch .xr j)) j NB)))

/-- What it owes. -/
def O₀ (c : Dev nD) : CellTallies nD τ sig ℕ :=
  owed c 0 0 0 + tallyAt (cell (xp c) (.inl true)) 0 1 + tallyAt (cell (yp c) (.inl true)) 0 1

/-! ## The handshake -/

/-- The landing slots are given free for the first chunks. -/
theorem open_slots (c : Dev nD) :
    iprop(ctx m K Ks ∗ bigSep Finset.univ (fun s : Fin 6 => iprop(Release.readerAt ES (c, s) 0 ∗ some' c (slotM yrM s) fullShare)))
      ⊢ (|={Set.univ}=> run 0 6 (fun j => iprop(Release.readerAt ES (c, sl j) (j / 6 + 1) ∗ Free c j)) : sProp 𝕄) := by
  have h : iprop(ctx m K Ks ∗ run 0 6 (fun j => iprop(Release.readerAt ES (c, sl j) 0 ∗ some' c (slotM yrM (sl j)) fullShare)))
      ⊢ run 0 6 (fun j => iprop(|={Set.univ}=> (Release.readerAt ES (c, sl j) (j / 6 + 1) ∗ Free c j))) := by
    refine run_each fun j _ hj => ?_
    rw [show j / 6 = 0 by omega]
    unfold Free
    rw [show j / 6 = 0 by omega]
    iintro ⟨#Hctx, Hr, Hs⟩
    imod (give_free m K Ks c (sl j) 0) $$ [Hr Hs] with H
    · isplitr; · iexact Hctx
      isplitl [Hr] <;> iassumption
    icases H with ⟨Hr, Hf⟩
    imodintro
    isplitl [Hr]; · iexact Hr
    isplitl [Hf]; · iexact Hf
    iapply (ctx_reached m K Ks c (ch .yr j)); iexact Hctx
  refine BI.Entails.trans (sep_mono_right (run_slots _)) (BI.Entails.trans h ?_)
  exact bigSep_fupd _ _

/-- Both partners are told that this device has entered; what they say is waited for. -/
theorem wp_handshake (c : Dev nD) (Q : PUnit → sProp 𝕄) :
    iprop(ctx m K Ks ∗ (∃ W : Waits sig ℕ, owes (c : Thread nD τ) (O₀ c) W) ∗ cred (tallyAt (cell c (.inl true)) 0 2)
        ∗ atPos ER (cell c (.inl true)) 0 ∅ 0 ∗ dutyTok ER (cell (yp c) (.inl true)) 0 0 ∗ dutyTok ER (cell (xp c) (.inl true)) 0 1
        ∗ bigSep (Finset.range 6) (fun j => Free c j) ∗ bigSep Finset.univ (fun i : Fin 64 => some' c (rowM oM (xp c) i) fullShare))
      ⊢ iprop(((At c (.inl true) 1 ∗ bigSep (Finset.range 6) (fun j => Free (yp c) j)
            ∗ bigSep Finset.univ (fun i : Fin 64 => some' (xp c) (rowM oM c i) fullShare) ∗ Ow c 0 0 0) -∗ Q ⟨⟩)
          -∗ WP c (handshake c) Q) := by
  have hd0 : (0 : ℕ) ∈ (Rd m).duties (cell (yp c) (.inl true)) 0 := by
    rw [duties_cell m (yp c) (.inl true)]; show 0 ∈ ({0, 1} : Finset ℕ); decide
  have hd1 : (1 : ℕ) ∈ (Rd m).duties (cell (xp c) (.inl true)) 0 := by
    rw [duties_cell m (xp c) (.inl true)]; show 1 ∈ ({0, 1} : Finset ℕ); decide
  have hp0 : bigSep (Finset.range 6) (fun j => Free c j) ⊢ (Rd m).payload ((yp c : Thread nD τ), .reg barS) 0 0 := by
    have e : payK m (yp c) (.inl true) 0 0 = _ := show barPay (yp c) 0 = _ by unfold barPay; rw [if_pos rfl, yp_yp]
    exact Entails.of_eq ((payload_cell m (yp c) (.inl true) 0 0).trans e).symm
  have hp1 : bigSep Finset.univ (fun i : Fin 64 => some' c (rowM oM (xp c) i) fullShare) ⊢ (Rd m).payload ((xp c : Thread nD τ), .reg barS) 0 1 := by
    have e : payK m (xp c) (.inl true) 0 1 = _ := show barPay (xp c) 1 = _ by unfold barPay; rw [if_neg (by decide), xp_xp]
    exact Entails.of_eq ((payload_cell m (xp c) (.inl true) 0 1).trans e).symm
  have hpay : bigSep (dutiesK (.inl true) 0) (fun d => payK m c (.inl true) 0 d)
      = iprop(bigSep (Finset.range 6) (fun j => Free (yp c) j) ∗ bigSep Finset.univ (fun i : Fin 64 => some' (xp c) (rowM oM c i) fullShare)) := by
    rw [show dutiesK (.inl true) 0 = ({0, 1} : Finset ℕ) from rfl, bigSep_insert (by decide), bigSep_singleton]
    show iprop(barPay c 0 ∗ barPay c 1) = _
    unfold barPay; rw [if_pos rfl, if_neg (by decide)]
  unfold handshake
  iintro ⟨#Hctx, ⟨%W, Ho⟩, Hc, Hat, Ht0, Ht1, Hf, Hrows⟩ Hk
  rw [WP_bind]
  iapply (Rounds.wp_signal 𝒱₀ ER (Rd m) (c : Thread nD τ) none (κ := K (yp c, .inl true)) (d := 0) (r := 0)
    hd0 (amount_cell m (yp c) (.inl true) _ _) 0 (owed c 0 0 0 + tallyAt (cell (xp c) (.inl true)) 0 1) rfl) $$ [Ho Ht0 Hf]
  · isplitr; · iapply (ctx_inv m K Ks (yp c) (.inl true)); iexact Hctx
    isplitl [Ho]; · iexact Ho
    isplitl [Ht0]; · iexact Ht0
    isplitl [Hf]; · iapply hp0; iexact Hf
    iapply (ctx_reached m K Ks (yp c) (.inl true)); iexact Hctx
  iintro Ho
  rw [wp_ret]; imodintro
  rw [WP_bind]
  iapply (Rounds.wp_signal 𝒱₀ ER (Rd m) (c : Thread nD τ) none (κ := K (xp c, .inl true)) (d := 1) (r := 0)
    hd1 (amount_cell m (xp c) (.inl true) _ _) 0 (owed c 0 0 0) rfl) $$ [Ho Ht1 Hrows]
  · isplitr; · iapply (ctx_inv m K Ks (xp c) (.inl true)); iexact Hctx
    isplitl [Ho]; · iexact Ho
    isplitl [Ht1]; · iexact Ht1
    isplitl [Hrows]; · iapply hp1; iexact Hrows
    iapply (ctx_reached m K Ks (xp c) (.inl true)); iexact Hctx
  iintro Ho
  rw [wp_ret]; imodintro
  iapply (wait_round m K Ks c (.inl true) (ι := 0) (by decide) 0 (k' := 2) (t := 0) (i := 0) (p := 0)
    (fun Kt => wpE_semWait_eq 𝒱₀ (c : Thread nD τ) none Set.univ Kt) (by decide) (by decide) (by decide) (by decide) Q) $$ [Hc Hat Ho]
  · isplitr; · iexact Hctx
    isplitl [Hc]; · iexact Hc
    isplitl [Hat]; · iexact Hat
    unfold Ow; iexists W; iexact Ho
  iintro ⟨Hat, Hpay, Ho⟩
  ihave Hpay := (Entails.of_eq hpay) $$ Hpay
  icases Hpay with ⟨Hf, Hrows⟩
  iapply Hk
  isplitl [Hat]; · iexact Hat
  isplitl [Hf]; · iexact Hf
  isplitl [Hrows]; · iexact Hrows
  iexact Ho

end Cert.KernelIdeal.Proof

end
-- ==== Proof.Whole.lean ====
/-
  The whole body: from what a device starts with to what it ends with.
-/
module

public import proofs.«01_k».proof.Proof.Enter

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## Before the first load -/

/-- A device's first position at a cell. -/
theorem at_zero (c : Dev nD) (k : Kind) : iprop(ctx m K Ks ∗ atPos ER (cell c k) 0 ∅ 0) ⊢ At c k 0 := by
  unfold At
  iintro ⟨#Hctx, H⟩
  isplitl [H]; · iexact H
  iapply (ctx_reached m K Ks c k); iexact Hctx

/-- Its first positions at the cells of an array. -/
theorem ats_zero (c : Dev nD) (a : Arr) :
    iprop(ctx m K Ks ∗ bigSep Finset.univ (fun s : Fin 6 => atPos ER (cell c (.inr (a, s))) 0 ∅ 0)) ⊢ run 0 6 (fun j => At c (ch a j) (j / 6)) := by
  refine BI.Entails.trans (sep_mono_right (run_slots _)) (run_each fun j _ hj => ?_)
  rw [show j / 6 = 0 by omega]
  exact at_zero m K Ks c (ch a j)

/-- A claim on each of the partner's chunks, and the credits to give for them. -/
theorem credKits (c : Dev nD) : run 0 64 (fun j => (dutyTok ER (cell (yp c) (.inl false)) 0 j : sProp 𝕄)) ⊢ run 0 64 (CredKit c) := by
  refine run_mono fun j _ _ => ?_
  unfold CredKit
  by_cases h : j < 58
  · rw [if_pos h]
  · rw [if_neg h]; iintro -; iempintro

/-- The cells of the arrivals along `x` at their start. -/
theorem xrs_zero (c : Dev nD) :
    bigSep Finset.univ (fun s : Fin 6 => atPos ER (cell c (.inr (.xr, s))) 0 ∅ 0) ⊢ run 0 6 (XR m c) := by
  refine BI.Entails.trans (run_slots _) (run_mono fun j _ hj => ?_)
  unfold XR
  rw [if_pos (by omega), show j / 6 = 0 by omega, Nat.mul_zero]
  exact got_start m c (ch .xr j)

/-- The loads' track at the start. -/
theorem begin_TA (c : Dev nD) :
    iprop(ctx m K Ks ∗ bigSep Finset.univ (fun s : Fin 6 => some' c (slotM locM s) fullShare)
        ∗ bigSep Finset.univ (fun s : Fin 6 => atPos ER (cell c (.inr (.ld, s))) 0 ∅ 0)
        ∗ run 0 64 (fun j => dutyTok ER (cell c (ch .ld j)) (j / 6) 0) ∗ bigSep Finset.univ (xRow m c))
      ⊢ TA m c 0 0 0 := by
  unfold TA
  have e : run 0 6 (fun j => iprop(some' c (slotM locM (sl j)) fullShare ∗ At c (ch .ld j) (j / 6))) ⊢ run 0 (0 + 6) (locFree (F := F) c) := BI.Entails.refl _
  have e' : run 0 64 (fun j => iprop(dutyTok ER (cell c (ch .ld j)) (j / 6) 0 ∗ xRow m c (chunk j))) ⊢ run 0 64 (LoadKit m c) := BI.Entails.refl _
  iintro ⟨#Hctx, Hb, Hat, Ht, Hx⟩
  isplitr; · iapply (run_none 0 _); iempintro
  isplitl [Hb Hat]
  · iapply e
    iapply run_pair
    isplitl [Hb]; · iapply (run_slots (fun s => some' c (slotM locM s) fullShare)); iexact Hb
    iapply (ats_zero m K Ks c .ld); isplitr; · iexact Hctx
    iexact Hat
  isplitr; · iapply (run_none 0 _); iempintro
  isplitl [Ht Hx]
  · iapply e'
    iapply run_pair
    isplitl [Ht]; · iexact Ht
    iapply (Entails.of_eq (run_chunk (xRow m c)).symm); iexact Hx
  iapply (run_none 0 _); iempintro

/-- The track of the sendings along `y` at the start. -/
theorem begin_TY (c : Dev nD) :
    iprop(ctx m K Ks ∗ bigSep Finset.univ (fun s : Fin 6 => some' c (slotM ysM s) fullShare)
        ∗ bigSep Finset.univ (fun s : Fin 6 => atPos ER (cell c (.inr (.ys, s))) 0 ∅ 0)
        ∗ run 0 64 (fun j => dutyTok ER (cell c (ch .ys j)) (j / 6) 0) ∗ run 0 64 (fun j => dutyTok ER (cell (yp c) (ch .yr j)) (j / 6) 0)
        ∗ run 0 64 (fun j => Release.writeTok ES (yp c, sl j) (j / 6 + 1)))
      ⊢ TY c 0 := by
  unfold TY
  have e : run 0 6 (fun j => iprop(some' c (slotM ysM (sl j)) fullShare ∗ At c (ch .ys j) (j / 6))) ⊢ run 0 (0 + 6) (YSR (F := F) c) :=
    run_mono fun j _ hj => by rw [YSR_first c hj]; unfold ysFree; exact BI.Entails.refl _
  have e' : run 0 64 (fun j => iprop(dutyTok ER (cell c (ch .ys j)) (j / 6) 0 ∗ dutyTok ER (cell (yp c) (ch .yr j)) (j / 6) 0
      ∗ Release.writeTok ES (yp c, sl j) (j / 6 + 1))) ⊢ run 0 64 (SendKit (F := F) c) := BI.Entails.refl _
  iintro ⟨#Hctx, Hb, Hat, Ht, Ht', Hw⟩
  isplitl [Hb Hat]
  · iapply e
    iapply run_pair
    isplitl [Hb]; · iapply (run_slots (fun s => some' c (slotM ysM s) fullShare)); iexact Hb
    iapply (ats_zero m K Ks c .ys); isplitr; · iexact Hctx
    iexact Hat
  iapply e'
  iapply run_pair
  isplitl [Ht]; · iexact Ht
  iapply run_pair
  isplitl [Ht'] <;> iassumption

/-- The track of the sums at the start. -/
theorem begin_TX (c : Dev nD) :
    iprop(ctx m K Ks ∗ bigSep Finset.univ (fun s : Fin 6 => some' c (slotM xsM s) fullShare)
        ∗ bigSep Finset.univ (fun s : Fin 6 => atPos ER (cell c (.inr (.xs, s))) 0 ∅ 0) ∗ bigSep Finset.univ (fun s : Fin 6 => atPos ER (cell c (.inr (.st, s))) 0 ∅ 0)
        ∗ run 0 64 (fun j => dutyTok ER (cell c (ch .st j)) (j / 6) 0) ∗ run 0 64 (fun j => dutyTok ER (cell c (ch .xs j)) (j / 6) 0)
        ∗ run 0 64 (fun j => dutyTok ER (cell (xp c) (ch .xr j)) 0 j)
        ∗ bigSep Finset.univ (fun i : Fin 64 => some' c (rowM oM c i) fullShare) ∗ bigSep Finset.univ (fun i : Fin 64 => some' (xp c) (rowM oM c i) fullShare))
      ⊢ TX m c 0 := by
  unfold TX
  have e : run 0 6 (fun j => iprop(some' c (slotM xsM (sl j)) fullShare ∗ At c (ch .xs j) (j / 6) ∗ At c (ch .st j) (j / 6))) ⊢ run 0 (0 + 6) (XSR (F := F) c) :=
    run_mono fun j _ hj => by rw [XSR_first c hj]; unfold xsFree; exact BI.Entails.refl _
  have e' : run 0 64 (fun j => iprop((dutyTok ER (cell c (ch .st j)) (j / 6) 0 ∗ some' c (rowM oM c (chunk j)) fullShare)
      ∗ (dutyTok ER (cell c (ch .xs j)) (j / 6) 0 ∗ dutyTok ER (cell (xp c) (ch .xr j)) 0 j ∗ some' (xp c) (rowM oM c (chunk j)) fullShare)))
      ⊢ run 0 64 (fun j => iprop(OwnKit (F := F) c j ∗ PeerKit c j)) := BI.Entails.refl _
  iintro ⟨#Hctx, Hb, Hat, Hat', Hst, Hxs, Hxr, Ho, Hp⟩
  isplitl [Hb Hat Hat']
  · iapply e
    iapply run_pair
    isplitl [Hb]; · iapply (run_slots (fun s => some' c (slotM xsM s) fullShare)); iexact Hb
    iapply run_pair
    isplitl [Hat]
    · iapply (ats_zero m K Ks c .xs); isplitr; · iexact Hctx
      iexact Hat
    iapply (ats_zero m K Ks c .st); isplitr; · iexact Hctx
    iexact Hat'
  isplitr []
  · iapply e'
    iapply run_pair
    isplitl [Hst Ho]
    · iapply run_pair
      isplitl [Hst]; · iexact Hst
      iapply (Entails.of_eq (run_chunk (fun i => some' c (rowM oM c i) fullShare)).symm); iexact Ho
    iapply run_pair
    isplitl [Hxs]; · iexact Hxs
    iapply run_pair
    isplitl [Hxr]; · iexact Hxr
    iapply (Entails.of_eq (run_chunk (fun i => some' (xp c) (rowM oM c i) fullShare)).symm); iexact Hp
  iapply (run_none 0 _); iempintro

/-- The track of the landing slots at the start. -/
theorem begin_TR (c : Dev nD) :
    iprop(ctx m K Ks ∗ run 0 6 (fun j => Release.readerAt ES (c, sl j) (j / 6 + 1))
        ∗ bigSep Finset.univ (fun s : Fin 6 => atPos ER (cell c (.inr (.yr, s))) 0 ∅ 0)
        ∗ run 0 64 (yrClaim c) ∗ run 0 64 (fun j => dutyTok ER (cell (yp c) (.inl false)) 0 j))
      ⊢ TR c 0 := by
  unfold TR
  have e : run 0 6 (fun j => iprop(Release.readerAt ES (c, sl j) (j / 6 + 1) ∗ At c (ch .yr j) (j / 6))) ⊢ run 0 (0 + 6) (RD (F := F) c) :=
    run_mono fun j _ hj => by rw [RD_open c (by omega)]; unfold yrOpen; exact BI.Entails.refl _
  have e' : iprop(emp) ⊢ Acc (F := F) c (min 0 58) := by unfold Acc; rw [show min 0 58 = 0 from rfl, Finset.range_zero, bigSep_empty]; exact BI.Entails.refl _
  iintro ⟨#Hctx, Hr, Hat, Hc, Ht⟩
  isplitl [Hr Hat]
  · iapply e
    iapply run_pair
    isplitl [Hr]; · iexact Hr
    iapply (ats_zero m K Ks c .yr); isplitr; · iexact Hctx
    iexact Hat
  isplitr []
  · iapply run_pair
    isplitl [Hc]; · iexact Hc
    iapply (credKits (F := F) c); iexact Ht
  iapply e'; iempintro

/-- The handshake takes a device from what it starts with to what the first load needs. -/
theorem wp_enter (c : Dev nD) (Q : PUnit → sProp 𝕄) :
    iprop(ctx m K Ks ∗ Bufs c ∗ Rows m c ∗ Ghost c ∗ Claims c ∗ (∃ W : Waits sig ℕ, owes (c : Thread nD τ) (O₀ c) W))
      ⊢ iprop(((At c (.inl true) 1 ∗ Begin m c) -∗ Q ⟨⟩) -∗ WP c (handshake c) Q) := by
  unfold Bufs Rows Ghost Claims Begin
  rw [kinds_eq, payToks_eq]
  unfold arrs
  beta_reduce
  rw [toks_own c .ld (by decide), toks_own c .st (by decide), toks_own c .ys (by decide), toks_own c .xs (by decide), toks_yr, toks_xr]
  have hf : run 0 6 (fun j => iprop(Release.readerAt ES (c, sl j) (j / 6 + 1) ∗ Free c j))
      = (iprop(run 0 6 (fun j => Release.readerAt ES (c, sl j) (j / 6 + 1)) ∗ bigSep (Finset.range 6) (fun j => Free c j)) : sProp 𝕄) := by
    unfold run; rw [bigSep_sep', Finset.range_eq_Ico]
  have hr : iprop(bigSep Finset.univ (fun s : Fin 6 => Release.readerAt ES (c, s) 0) ∗ bigSep Finset.univ (fun s : Fin 6 => some' c (slotM yrM s) fullShare))
      ⊢ (bigSep Finset.univ (fun s : Fin 6 => iprop(Release.readerAt ES (c, s) 0 ∗ some' c (slotM yrM s) fullShare)) : sProp 𝕄) := by
    rw [bigSep_sep']
  have hC : atPos ER (cell c (.inl false)) 0 ∅ 0 ⊢ Cr m c (0 - 6) := by
    unfold Cr; rw [if_pos (by decide)]; exact got_start m c (.inl false)
  iintro ⟨#Hctx, ⟨Bl, By, Br, Bx⟩, ⟨Rx, Ro, Rp⟩, ⟨⟨⟨Pb, Pc⟩, Pld, Pst, Pys, Pyr, Pxs, Pxr⟩, ⟨⟨Tb, Tb'⟩, Tc, Tld, Tst, Tys, Tyr, Txs, Txr⟩, Hrd, Hw⟩,
    ⟨Cb, Cc, Cy, Cx⟩, Ho⟩ Hk
  imod (open_slots m K Ks c) $$ [Hrd Br] with H
  · isplitr; · iexact Hctx
    iapply hr; isplitl [Hrd] <;> iassumption
  ihave H := (Entails.of_eq hf) $$ H
  icases H with ⟨Hrd, Hf⟩
  iapply (wp_handshake m K Ks c Q) $$ [Ho Cb Pb Tb Tb' Hf Rp]
  · isplitr; · iexact Hctx
    isplitl [Ho]; · iexact Ho
    isplitl [Cb]; · iexact Cb
    isplitl [Pb]; · iexact Pb
    isplitl [Tb]; · iexact Tb
    isplitl [Tb']; · iexact Tb'
    isplitl [Hf]; · iexact Hf
    iexact Rp
  iintro ⟨HB, Hf, Rp, Ho⟩
  iapply Hk
  isplitl [HB]; · iexact HB
  isplitl [Bl Pld Tld Rx]
  · iapply (begin_TA m K Ks c)
    isplitr; · iexact Hctx
    isplitl [Bl]; · iexact Bl
    isplitl [Pld]; · iexact Pld
    isplitl [Tld] <;> iassumption
  isplitl [By Pys Tys Tyr Hw]
  · iapply (begin_TY m K Ks c)
    isplitr; · iexact Hctx
    isplitl [By]; · iexact By
    isplitl [Pys]; · iexact Pys
    isplitl [Tys]; · iexact Tys
    isplitl [Tyr] <;> iassumption
  isplitl [Pc Cc Hf]
  · unfold TC
    isplitl [Pc]; · iapply hC; iexact Pc
    isplitl [Cc]; · iexact Cc
    iexact Hf
  isplitl [Bx Pxs Pst Tst Txs Txr Ro Rp]
  · iapply (begin_TX m K Ks c)
    isplitr; · iexact Hctx
    isplitl [Bx]; · iexact Bx
    isplitl [Pxs]; · iexact Pxs
    isplitl [Pst]; · iexact Pst
    isplitl [Tst]; · iexact Tst
    isplitl [Txs]; · iexact Txs
    isplitl [Txr]; · iexact Txr
    isplitl [Ro] <;> iassumption
  isplitl [Hrd Pyr Cy Tc]
  · iapply (begin_TR m K Ks c)
    isplitr; · iexact Hctx
    isplitl [Hrd]; · iexact Hrd
    isplitl [Pyr]; · iexact Pyr
    isplitl [Cy] <;> iassumption
  isplitl [Pxr Cx]
  · unfold TF
    isplitl [Pxr]; · iapply (xrs_zero m c); iexact Pxr
    iexact Cx
  iexact Ho

/-! ## After the last wait -/

/-- A cell with nothing due any more is closed, and its counter is zero. -/
theorem close (c : Dev nD) (k : Kind) {r : ℕ} (h : ∀ r', r ≤ r' → dutiesK k r' = ∅) :
    iprop(ctx m K Ks ∗ At c k r) ⊢ (|={Set.univ}=> semVal (cell c k) 0 : sProp 𝕄) := by
  unfold At
  iintro ⟨#Hctx, Hat, -⟩
  iapply (Rounds.cell_close ER (Rd m) (κ := K (c, k)) (Set.mem_univ _) (fun h => h) (R := r) (fun r' hr => by rw [duties_cell]; exact h r' hr))
  isplitr; · iapply (ctx_inv m K Ks c k); iexact Hctx
  iexact Hat

/-- So are the cells of an array, after the last chunks. -/
theorem close_arr (c : Dev nD) (a : Arr) :
    iprop(ctx m K Ks ∗ run 64 70 (fun j => At c (ch a j) (j / 6)))
      ⊢ (|={Set.univ}=> bigSep Finset.univ (fun s : Fin 6 => semVal (cell c (.inr (a, s))) 0) : sProp 𝕄) := by
  refine BI.Entails.trans (run_each (B := fun j => iprop(|={Set.univ}=> semVal (cell c (ch a j)) 0)) fun j hj _ =>
    close m K Ks c (ch a j) fun r hr => dutiesK_end a hj r hr) ?_
  exact BI.Entails.trans (bigSep_fupd _ _) (BI.fupd_mono (slots_run fun s => semVal (cell c (.inr (a, s))) 0))

theorem close_xr (c : Dev nD) :
    iprop(ctx m K Ks ∗ run 64 70 (fun j => At c (ch .xr j) 1))
      ⊢ (|={Set.univ}=> bigSep Finset.univ (fun s : Fin 6 => semVal (cell c (.inr (.xr, s))) 0) : sProp 𝕄) := by
  refine BI.Entails.trans (run_each (B := fun j => iprop(|={Set.univ}=> semVal (cell c (ch .xr j)) 0)) fun j hj _ =>
    close m K Ks c (ch .xr j) fun r hr => dutiesK_later_xr (sl j) r hr) ?_
  exact BI.Entails.trans (bigSep_fupd _ _) (BI.fupd_mono (slots_run fun s => semVal (cell c (.inr (.xr, s))) 0))

/-- A run of pairs as two runs. -/
theorem run_unpair {a b : ℕ} {A B : ℕ → sProp 𝕄} : run a b (fun j => iprop(A j ∗ B j)) ⊢ iprop(run a b A ∗ run a b B) := by
  unfold run; rw [bigSep_sep']

/-- The chunks that arrived along `x`, over all slots, are all the partner's rows. -/
theorem arrived (c : Dev nD) :
    run 64 70 (fun j => bigSep (dutiesK (ch .xr j) 0) (fun d => payK m c (ch .xr j) 0 d))
      ⊢ bigSep Finset.univ (fun i : Fin 64 => owns (c : Thread nD τ) (rowM oM (xp c) i) fullShare (SB m (xp c) i)) := by
  refine BI.Entails.trans (slots_run fun s => bigSep ((Finset.range 64).filter (fun j => j % 6 = s.val))
    (fun d => owns (c : Thread nD τ) (rowM oM (xp c) (chunk d)) fullShare (SB m (xp c) (chunk d)))) ?_
  refine BI.Entails.trans (bigSep_biUnion _ _) ?_
  rw [show (Finset.univ.biUnion fun s : Fin 6 => (Finset.range 64).filter (fun j => j % 6 = s.val)) = Finset.Ico 0 64 by decide]
  exact Entails.of_eq (run_chunk (fun i => owns (c : Thread nD τ) (rowM oM (xp c) i) fullShare (SB m (xp c) i)))

/-- What a device ends with: its slots, the rows of the argument, unchanged, and of the result, written, and all its
    counters at zero. -/
def End (c : Dev nD) : sProp 𝕄 :=
  iprop(Bufs c ∗ (bigSep Finset.univ (xRow m c) ∗ bigSep Finset.univ (fun i : Fin 64 => owns (c : Thread nD τ) (rowM oM c i) fullShare (SB m c i))
      ∗ bigSep Finset.univ (fun i : Fin 64 => owns (c : Thread nD τ) (rowM oM (xp c) i) fullShare (SB m (xp c) i)))
    ∗ bigSep Finset.univ (fun k : Kind => semVal (cell c k) 0) ∗ (∃ W : Waits sig ℕ, owes (c : Thread nD τ) 0 W))

theorem leave (c : Dev nD) : iprop(ctx m K Ks ∗ At c (.inl true) 1 ∗ Done m c) ⊢ (|={Set.univ}=> End m c : sProp 𝕄) := by
  have hl : run 64 70 (locFree c) ⊢ (iprop(run 64 70 (fun j => some' c (slotM locM (sl j)) fullShare) ∗ run 64 70 (fun j => At c (ch .ld j) (j / 6))) : sProp 𝕄) :=
    BI.Entails.trans (BI.Entails.refl _) run_unpair
  have hy : run 64 70 (ysFree c) ⊢ (iprop(run 64 70 (fun j => some' c (slotM ysM (sl j)) fullShare) ∗ run 64 70 (fun j => At c (ch .ys j) (j / 6))) : sProp 𝕄) :=
    BI.Entails.trans (BI.Entails.refl _) run_unpair
  have hx : run 64 70 (xsFree c) ⊢ (iprop(run 64 70 (fun j => some' c (slotM xsM (sl j)) fullShare) ∗ run 64 70 (fun j => At c (ch .xs j) (j / 6))
      ∗ run 64 70 (fun j => At c (ch .st j) (j / 6))) : sProp 𝕄) :=
    BI.Entails.trans (BI.Entails.trans (BI.Entails.refl _) run_unpair) (sep_mono_right run_unpair)
  have hr : run 64 70 (RD c) ⊢ (iprop(run 64 70 (fun j => some' c (slotM yrM (sl j)) fullShare) ∗ run 64 70 (fun j => At c (ch .yr j) (j / 6))) : sProp 𝕄) :=
    BI.Entails.trans (run_mono fun j hj _ => by unfold RD yrDone; rw [if_neg (by omega)]) run_unpair
  have hxr : run 64 70 (XR m c) ⊢ iprop(run 64 70 (fun j => At c (ch .xr j) 1) ∗ run 64 70 (fun j => bigSep (dutiesK (ch .xr j) 0) (fun d => payK m c (ch .xr j) 0 d))) :=
    BI.Entails.trans (run_mono fun j hj _ => by unfold XR; rw [if_neg (by omega)]) run_unpair
  have hC : Cr m c 58 ⊢ At c (.inl false) 1 := by unfold Cr; rw [if_neg (by decide)]
  have ho : run 0 64 (ownDone m c) ⊢ bigSep Finset.univ (fun i : Fin 64 => owns (c : Thread nD τ) (rowM oM c i) fullShare (SB m c i)) :=
    Entails.of_eq (run_chunk (fun i => owns (c : Thread nD τ) (rowM oM c i) fullShare (SB m c i)))
  unfold Done End Bufs Ow
  rw [owed_end, kinds_eq]
  unfold arrs
  beta_reduce
  iintro ⟨#Hctx, HB, Hl, Hrow, Hy, Hx, Hr, Hxr, Hd, HC, Ho⟩
  ihave Hl := hl $$ Hl
  icases Hl with ⟨Bl, Al⟩
  ihave Hy := hy $$ Hy
  icases Hy with ⟨By, Ay⟩
  ihave Hx := hx $$ Hx
  icases Hx with ⟨Bx, Axs, Ast⟩
  ihave Hr := hr $$ Hr
  icases Hr with ⟨Br, Ayr⟩
  ihave Hxr := hxr $$ Hxr
  icases Hxr with ⟨Axr, Rp⟩
  ihave HC := hC $$ HC
  imod (close m K Ks c (.inl true) (fun r hr => dutiesK_later_bar true r hr)) $$ [HB] with Sb
  · isplitr; · iexact Hctx
    iexact HB
  imod (close m K Ks c (.inl false) (fun r hr => dutiesK_later_bar false r hr)) $$ [HC] with Sc
  · isplitr; · iexact Hctx
    iexact HC
  imod (close_arr m K Ks c .ld) $$ [Al] with Sld
  · isplitr; · iexact Hctx
    iexact Al
  imod (close_arr m K Ks c .st) $$ [Ast] with Sst
  · isplitr; · iexact Hctx
    iexact Ast
  imod (close_arr m K Ks c .ys) $$ [Ay] with Sys
  · isplitr; · iexact Hctx
    iexact Ay
  imod (close_arr m K Ks c .yr) $$ [Ayr] with Syr
  · isplitr; · iexact Hctx
    iexact Ayr
  imod (close_arr m K Ks c .xs) $$ [Axs] with Sxs
  · isplitr; · iexact Hctx
    iexact Axs
  imod (close_xr m K Ks c) $$ [Axr] with Sxr
  · isplitr; · iexact Hctx
    iexact Axr
  imodintro
  isplitl [Bl By Br Bx]
  · isplitl [Bl]; · iapply (slots_run fun s => some' c (slotM locM s) fullShare); iexact Bl
    isplitl [By]; · iapply (slots_run fun s => some' c (slotM ysM s) fullShare); iexact By
    isplitl [Br]; · iapply (slots_run fun s => some' c (slotM yrM s) fullShare); iexact Br
    iapply (slots_run fun s => some' c (slotM xsM s) fullShare); iexact Bx
  isplitl [Hrow Hd Rp]
  · isplitl [Hrow]; · iapply (Entails.of_eq (run_chunk (xRow m c))); iexact Hrow
    isplitl [Hd]; · iapply ho; iexact Hd
    iapply (arrived m c); iexact Rp
  isplitr [Ho]
  · isplitl [Sb Sc]; · isplitl [Sb] <;> iassumption
    isplitl [Sld]; · iexact Sld
    isplitl [Sst]; · iexact Sst
    isplitl [Sys]; · iexact Sys
    isplitl [Syr]; · iexact Syr
    isplitl [Sxs] <;> iassumption
  iexact Ho

/-- A device learns its own number. -/
theorem WP_device (c : Dev nD) {α : Type} (k : Dev nD → Prog (TpuEff nD τ sig (Elt F) Λ₀ .tc) α) (Q : α → sProp 𝕄) :
    WP c (Prog.lift .deviceId >>= k) Q = WP c (k c) Q := by
  simp only [Prog.lift, Prog.bind_op, Prog.bind_ret, wp_deviceId]

/-- The whole body. -/
theorem wp_body (c : Dev nD) (Q : PUnit → sProp 𝕄) :
    iprop(ctx m K Ks ∗ Bufs c ∗ Rows m c ∗ Ghost c ∗ Claims c ∗ (∃ W : Waits sig ℕ, owes (c : Thread nD τ) (O₀ c) W))
      ⊢ iprop((End m c -∗ Q ⟨⟩) -∗ WP c body Q) := by
  unfold body
  rw [WP_device, WP_bind]
  iintro ⟨#Hctx, H⟩ Hk
  iapply (wp_enter m K Ks c _) $$ [H]
  · isplitr; · iexact Hctx
    iexact H
  iintro ⟨HB, H⟩
  iapply wp_fupd
  iapply (wp_rest m K Ks c _) $$ [H]
  · isplitr; · iexact Hctx
    iexact H
  iintro H
  imod (leave m K Ks c) $$ [HB H] with H
  · isplitr; · iexact Hctx
    isplitl [HB] <;> iassumption
  imodintro
  iapply Hk; iexact H

end Cert.KernelIdeal.Proof

end
-- ==== Proof.Regions.lean ====
/-
  The arrays by regions: a slotted buffer as its slots, an array in HBM as its chunks, and the result's value.
-/
module

public import proofs.«01_k».proof.Proof.Whole

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-- Elements owned at known contents are owned at some. -/
theorem some_at {ℓ : Loc nD τ sig} {I : Finset (Idx ℓ)} {q : PosShare TreeShare} (f : Buf (Elt F) ℓ) :
    (ℓ ↦[I]{q} f : sProp 𝕄) ⊢ (iprop(∃ f, ℓ ↦[I]{q} f) : sProp 𝕄) := by
  iintro H; iexists f; iexact H

/-- A view's elements owned at known contents are owned at some. -/
theorem some'_of (c : Dev nD) {sp : Space} {sh : Shape} {e : EltTy} (M : Memref sig .tc sp sh e) (q : PosShare TreeShare)
    (f : Buf (Elt F) (M.view.loc (c : Thread nD τ))) : (M.view.loc (c : Thread nD τ) ↦[M.view.set]{q} f : sProp 𝕄) ⊢ some' c M q := some_at f

/-! ## The slots of a slotted buffer -/

section SlotRegions
variable {e : EltTy} (M : Memref sig .tc .vmem S6x256x1024 e) (c : Dev nD)

/-- Two slots have no element in common. -/
theorem slots_disjoint (s s' : Fin 6) (h : s ≠ s') : Disjoint (slotR s).set (slotR s').set := by
  refine Rect.unit_disjoint 0 ?_
  have : s.val ≠ s'.val := fun e => h (Fin.ext e)
  show s.val + 1 ≤ s'.val ∨ s'.val + 1 ≤ s.val
  omega

/-- The slots fill the buffer. -/
theorem slots_cover : (Finset.univ : Finset (Fin 6)).biUnion (fun s => (slotR s).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  have h0 := (i 0).isLt; have h1 := (i 1).isLt; have h2 := (i 2).isLt
  match a with
  | 0 => exact ⟨le_refl _, Nat.lt_succ_self _⟩
  | 1 => exact ⟨Nat.zero_le _, by show _ < 0 + 256; rw [Nat.zero_add]; exact h1⟩
  | 2 => exact ⟨Nat.zero_le _, by show _ < 0 + 1024; rw [Nat.zero_add]; exact h2⟩

/-- A buffer is its slots, all at its own contents. -/
theorem slots_eq (q : PosShare TreeShare) (g : M.view.ty.Contents (Elt F)) :
    (M.view.loc (c : Thread nD τ) ↦[M.view.set]{q} g : sProp 𝕄)
      = bigSep Finset.univ fun s : Fin 6 => M.view.loc (c : Thread nD τ) ↦[(M.view.slice (slotR s)).set]{q} g := by
  rw [pointsTo_rects (c : Thread nD τ) M q slotR (fun _ _ => rfl) slots_disjoint slots_cover g]
  exact bigSep_congr fun s _ => owns_slice_read (c : Thread nD τ) M q (slotR s) (fun _ => rfl) g

end SlotRegions

/-- A slot at some contents, over the buffer's own elements. -/
theorem slot_some {e : EltTy} (M : Memref sig .tc .vmem S6x256x1024 e) (c : Dev nD) (s : Fin 6) :
    (some' c (slotM M s) fullShare : sProp 𝕄) = iprop(∃ f, M.view.loc (c : Thread nD τ) ↦[(M.view.slice (slotR s)).set]{fullShare} f) := by
  unfold some'
  rw [slot_set M s]

/-- A buffer owned whole at some contents gives its slots, each at some contents. -/
theorem slots_split {e : EltTy} (M : Memref sig .tc .vmem S6x256x1024 e) (c : Dev nD) :
    iprop(∃ f, M.view.loc (c : Thread nD τ) ↦[M.view.set]{fullShare} f) ⊢ (bigSep Finset.univ fun s => some' c (slotM M s) fullShare : sProp 𝕄) := by
  iintro ⟨%f, H⟩
  have h : (M.view.loc (c : Thread nD τ) ↦[M.view.set]{fullShare} f : sProp 𝕄) ⊢ bigSep Finset.univ fun s => some' c (slotM M s) fullShare := by
    rw [slots_eq M c fullShare f]
    refine bigSep_mono fun s _ => ?_
    rw [slot_some M c s]
    exact some_at f
  iapply h; iexact H

/-- The slots, each at some contents, give the buffer back at some contents. -/
theorem slots_join {e : EltTy} (M : Memref sig .tc .vmem S6x256x1024 e) (c : Dev nD) :
    (bigSep Finset.univ fun s => some' c (slotM M s) fullShare : sProp 𝕄) ⊢ iprop(∃ f, M.view.loc (c : Thread nD τ) ↦[M.view.set]{fullShare} f) := by
  have g₀ : Buf (Elt F) (M.view.loc (c : Thread nD τ)) := fun _ => Classical.choice inferInstance
  haveI : Nonempty (Buf (Elt F) (M.view.loc (c : Thread nD τ))) := ⟨g₀⟩
  rw [bigSep_congr fun s _ => slot_some M c s]
  refine (bigSep_exists_pi Finset.univ _).trans ?_
  show iprop(∃ fs : Fin 6 → Buf (Elt F) (M.view.loc (c : Thread nD τ)), bigSep Finset.univ fun s => M.view.loc (c : Thread nD τ) ↦[(M.view.slice (slotR s)).set]{fullShare} fs s)
    ⊢ (iprop(∃ f, M.view.loc (c : Thread nD τ) ↦[M.view.set]{fullShare} f) : sProp 𝕄)
  iintro ⟨%fs, H⟩
  have hset : M.view.set = (Finset.univ : Finset (Fin 6)).biUnion fun s => (M.view.slice (slotR s)).set := by
    ext i; constructor
    · intro hi
      obtain ⟨x, -, rfl⟩ := Finset.mem_map.mp hi
      obtain ⟨s, -, hs⟩ := Finset.mem_biUnion.mp (slots_cover ▸ Finset.mem_univ x)
      obtain ⟨j, rfl⟩ := (slotR s).exists_idx_of_mem hs
      exact Finset.mem_biUnion.mpr ⟨s, Finset.mem_univ _, Finset.mem_map.mpr ⟨j, Finset.mem_univ _, rfl⟩⟩
    · intro hi
      obtain ⟨s, -, hs⟩ := Finset.mem_biUnion.mp hi
      obtain ⟨j, -, rfl⟩ := Finset.mem_map.mp hs
      exact Finset.mem_map.mpr ⟨_, Finset.mem_univ _, rfl⟩
  have hd : ∀ s ∈ (Finset.univ : Finset (Fin 6)), ∀ s' ∈ (Finset.univ : Finset (Fin 6)), s ≠ s' → Disjoint (M.view.slice (slotR s)).set (M.view.slice (slotR s')).set :=
    fun s _ s' _ h => by rw [View.set_slice, View.set_slice]; exact (Finset.disjoint_map _).mpr (slots_disjoint s s' h)
  have h : (bigSep Finset.univ fun s => M.view.loc (c : Thread nD τ) ↦[(M.view.slice (slotR s)).set]{fullShare} fs s : sProp 𝕄) ⊢ iprop(∃ f, M.view.loc (c : Thread nD τ) ↦[M.view.set]{fullShare} f) := by
    refine BI.Entails.trans (pointsTo_biUnion_join Finset.univ _ fs g₀ hd) ?_
    rw [← hset]
    show (iprop(∃ g, ⌜∀ s ∈ (Finset.univ : Finset (Fin 6)), ∀ i ∈ (M.view.slice (slotR s)).set, g i = fs s i⌝ ∗ M.view.loc (c : Thread nD τ) ↦[M.view.set]{fullShare} g) : sProp 𝕄)
      ⊢ (iprop(∃ f, M.view.loc (c : Thread nD τ) ↦[M.view.set]{fullShare} f) : sProp 𝕄)
    iintro ⟨%g, -, H⟩
    iexists g
    iexact H
  iapply h; iexact H

/-! ## The rows of a whole array -/

/-- The two devices whose halves make up the array: the device itself and its partner along `x`. -/
def side (c : Dev nD) (b : Bool) : Dev nD := if b then c else xp c

/-- The first row of chunk `i` of device `d`. -/
theorem row_off (d : Dev nD) (i : Fin 64) : k0_off1 d (BitVec.ofNat 32 (256 * i.val)) = ![16384 * (d.val / 8) + 256 * i.val, 0] := k0_off1_eq d i

/-- An element lies in chunk `i` of device `d` when its row does. -/
theorem mem_row (d : Dev nD) (i : Fin 64) (j : S32768x1024.Idx) :
    j ∈ (rowR d i).set ↔ 16384 * (d.val / 8) + 256 * i.val ≤ (j 0).val ∧ (j 0).val < 16384 * (d.val / 8) + 256 * i.val + 256 := by
  have h1 := (j 1).isLt
  rw [Rect.mem_set_unit, row_off]
  constructor
  · intro h; exact h 0
  · intro h a
    match a with
    | 0 => exact h
    | 1 => exact ⟨Nat.zero_le _, by show _ < 0 + 1024; rw [Nat.zero_add]; exact h1⟩

/-- The row of an element of a chunk. -/
theorem row_emb (d : Dev nD) (i : Fin 64) (j : S256x1024.Idx) : ((rowR d i).emb j 0).val = 16384 * (d.val / 8) + 256 * i.val + (j 0).val := by
  rw [Rect.emb_apply]
  show k0_off1 d (BitVec.ofNat 32 (256 * i.val)) 0 + 1 * (j 0).val = _
  rw [row_off, Nat.one_mul]; rfl

/-- The halves of a device and of its partner along `x`. -/
theorem half_xp (c : Dev nD) : c.val / 8 + (xp c).val / 8 = 1 := by revert c; decide

/-- Different chunks have no element in common. -/
theorem rows_disjoint (c : Dev nD) (t t' : Bool × Fin 64) (h : t ≠ t') :
    Disjoint (rowR (side c t.1) t.2).set (rowR (side c t'.1) t'.2).set := by
  refine Finset.disjoint_left.mpr fun j hj hj' => ?_
  rw [mem_row] at hj hj'
  obtain ⟨b, i⟩ := t
  obtain ⟨b', i'⟩ := t'
  have hx : c.val / 8 + k0_dev2 c / 8 = 1 := half_xp c
  have hi := i.isLt
  have hi' := i'.isLt
  have hne : b = b' → i.val ≠ i'.val := fun e1 e2 => h (Prod.ext e1 (Fin.ext e2))
  unfold side at hj hj'
  cases b <;> cases b' <;> simp only [if_true, if_false, Bool.false_eq_true, true_implies, forall_const, xp] at hj hj' hne <;> omega

/-- The chunks of a device and of its partner along `x` fill the array. -/
theorem rows_cover (c : Dev nD) : (Finset.univ : Finset (Bool × Fin 64)).biUnion (fun t => (rowR (side c t.1) t.2).set) = Finset.univ := by
  refine Finset.eq_univ_iff_forall.mpr fun j => ?_
  have h0 : (j 0).val < 32768 := (j 0).isLt
  have hx := half_xp c
  have hc : c.val < 16 := c.isLt
  refine Finset.mem_biUnion.mpr ⟨(decide ((j 0).val / 16384 = c.val / 8), ⟨(j 0).val % 16384 / 256, by omega⟩), Finset.mem_univ _, ?_⟩
  rw [mem_row]
  unfold side
  show 16384 * ((if decide ((j 0).val / 16384 = c.val / 8) = true then c else xp c).val / 8) + 256 * ((j 0).val % 16384 / 256) ≤ (j 0).val
    ∧ (j 0).val < 16384 * ((if decide ((j 0).val / 16384 = c.val / 8) = true then c else xp c).val / 8) + 256 * ((j 0).val % 16384 / 256) + 256
  by_cases h : (j 0).val / 16384 = c.val / 8
  · rw [if_pos (decide_eq_true h)]; omega
  · rw [if_neg (by rw [decide_eq_true_eq]; exact h)]; omega

/-- A claim per chunk of the array is one per chunk of the device's half and one per chunk of the other half. -/
theorem rows_bigSep (Φ : Bool × Fin 64 → sProp 𝕄) :
    bigSep Finset.univ Φ = iprop(bigSep Finset.univ (fun i => Φ (true, i)) ∗ bigSep Finset.univ (fun i => Φ (false, i))) := by
  rw [bigSep_univ_prod, bigSep_univ_eq_bigSepL [true, false] (by decide) (by decide)]
  rfl

section RowRegions
variable {e : EltTy} (M : Memref sig .tc .hbm S32768x1024 e) (c : Dev nD)

/-- A whole array is its two halves' chunks, all at its own contents. -/
theorem rows_eq (q : PosShare TreeShare) (g : M.view.ty.Contents (Elt F)) :
    (M.view.loc (c : Thread nD τ) ↦[M.view.set]{q} g : sProp 𝕄)
      = iprop((bigSep Finset.univ fun i => (rowM M c i).view.loc (c : Thread nD τ) ↦[(rowM M c i).view.set]{q} g)
          ∗ bigSep Finset.univ fun i => (rowM M (xp c) i).view.loc (c : Thread nD τ) ↦[(rowM M (xp c) i).view.set]{q} g) := by
  rw [pointsTo_rects (c : Thread nD τ) M q (fun t : Bool × Fin 64 => rowR (side c t.1) t.2) (fun _ _ => rfl) (rows_disjoint c) (rows_cover c) g,
    bigSep_congr fun t _ => owns_slice_read (c : Thread nD τ) M q (rowR (side c t.1) t.2) (fun _ => rfl) g, rows_bigSep]
  rfl

/-- A whole array gives its two halves' chunks, each at some contents. -/
theorem rows_split (g : M.view.ty.Contents (Elt F)) :
    (M.view.loc (c : Thread nD τ) ↦[M.view.set]{fullShare} g : sProp 𝕄)
      ⊢ iprop((bigSep Finset.univ fun i => some' c (rowM M c i) fullShare) ∗ bigSep Finset.univ fun i => some' c (rowM M (xp c) i) fullShare) := by
  rw [rows_eq M c fullShare g]
  exact BI.sep_mono (bigSep_mono fun i _ => some'_of c (rowM M c i) fullShare g) (bigSep_mono fun i _ => some'_of c (rowM M (xp c) i) fullShare g)

/-- The two halves' chunks, each at its part of `X`, give the whole array at `X`. -/
theorem rows_join (q : PosShare TreeShare) (X : Vec F S32768x1024 e) :
    iprop((bigSep Finset.univ fun i => owns (c : Thread nD τ) (rowM M c i) q (fun j => X ((rowR c i).emb j)))
        ∗ bigSep Finset.univ fun i => owns (c : Thread nD τ) (rowM M (xp c) i) q (fun j => X ((rowR (xp c) i).emb j)))
      ⊢ (owns (c : Thread nD τ) M q X : sProp 𝕄) := by
  refine (Entails.of_eq ?_).trans (owns_of_rects (c : Thread nD τ) M q (fun t : Bool × Fin 64 => rowR (side c t.1) t.2) (fun _ _ => rfl) (rows_disjoint c) (rows_cover c) X)
  rw [rows_bigSep]
  rfl

end RowRegions

/-! ## The result -/

/-- The sum of an array and of a rounded one, rounded. -/
def sumW (X Y : Vec F S32768x1024 .f32) : Vec F S32768x1024 .bf16 := truncf .bf16 (addf X (extf .f32 (truncf .bf16 Y)))

/-- The device whose chunk an element of the result of device `c` comes from. -/
def src (c : Dev nD) (j : S32768x1024.Idx) : Dev nD := side c (decide ((j 0).val / 16384 = c.val / 8))

/-- The result of device `c`. -/
def OUT (c : Dev nD) : Vec F S32768x1024 .bf16 := fun j =>
  sumW (m ((src c j : Thread nD τ).loc main_arg0)) (m ((yp (src c j) : Thread nD τ).loc main_arg0)) j

/-- The half of a device's partner along `y` is its own. -/
theorem half_yp (c : Dev nD) : (yp c).val / 8 = c.val / 8 := by revert c; decide

/-- A chunk of device `yp c` lies where the same chunk of device `c` does. -/
theorem row_yp (c : Dev nD) (i : Fin 64) (j : S256x1024.Idx) : (rowR (yp c) i).emb j = (rowR c i).emb j := by
  funext a
  refine Fin.ext ?_
  rw [Rect.emb_apply, Rect.emb_apply]
  show k0_off1 (yp c) (BitVec.ofNat 32 (256 * i.val)) a + 1 * (j a).val = k0_off1 c (BitVec.ofNat 32 (256 * i.val)) a + 1 * (j a).val
  rw [row_off, row_off, half_yp]

/-- A device's chunk of sums is the result at that chunk. -/
theorem SB_eq (c d : Dev nD) (i : Fin 64) (h : d = c ∨ d = xp c) : SB m d i = fun j => OUT m c ((rowR d i).emb j) := by
  funext j
  have hs : src c ((rowR d i).emb j) = d := by
    have hx := half_xp c
    have hi := i.isLt
    have hj : (j 0).val < 256 := (j 0).isLt
    unfold src side
    rw [row_emb]
    rcases h with rfl | rfl
    · rw [if_pos (decide_eq_true (by omega))]
    · rw [if_neg (by rw [decide_eq_true_eq]; omega)]
  unfold OUT
  rw [hs]
  have e (X Y : Vec F S32768x1024 .f32) :
      sumC (fun e => X ((rowR d i).emb e)) (roundC fun e => Y ((rowR (yp d) i).emb e)) j = sumW X Y ((rowR d i).emb j) := by
    rw [← row_yp]
    show sumW (fun _ => X ((rowR d i).emb j)) _ _ = _
    rw [row_yp]
    rfl
  exact e _ _

end Cert.KernelIdeal.Proof

end
-- ==== Proof.Fund.lean ====
/-
  The start: the ghost state that the launch deals, the invariants, and the claims.
-/
module

public import proofs.«01_k».proof.Proof.Regions

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## The cells and their tokens at the start -/

/-- All cells of all devices. -/
def cellsAll : Finset (GSem nD τ sig) :=
  Finset.univ.map ⟨fun ck : Dev nD × Kind => cell ck.1 ck.2, fun _ _ h => Prod.ext (cell_inj h).1 (cell_inj h).2⟩

/-- A token's cell, round and duty tell the token. -/
theorem tokOf_inj {c c' : Dev nD} {x x' : Tok} (h : tokOf c x = tokOf c' x') : c = c' ∧ x = x' := by
  have hk : ∀ {k k' : Kind} {r r' d d' : ℕ}, ((cell c k, r, d) : GSem nD τ sig × ℕ × ℕ) = (cell c' k', r', d') → c = c' ∧ k = k' ∧ r = r' ∧ d = d' :=
    fun e => ⟨(cell_inj (congrArg Prod.fst e)).1, (cell_inj (congrArg Prod.fst e)).2, congrArg (fun x => x.2.1) e, congrArg (fun x => x.2.2) e⟩
  have hs : ∀ {a a' : Arr} {i i' : Fin 64}, ch a i.val = ch a' i'.val → a = a' ∧ i.val % 6 = i'.val % 6 := fun e => by
    have e := Sum.inr.inj e
    exact ⟨congrArg Prod.fst e, congrArg (fun p => p.2.val) e⟩
  rcases x with d | ⟨_ | a, i⟩ <;> rcases x' with d' | ⟨_ | a', i'⟩ <;> (try cases a) <;> (try cases a') <;> (obtain ⟨hc, hk, hr, hd⟩ := hk h) <;>
    refine ⟨hc, ?_⟩ <;> first
    | exact congrArg Sum.inl (Fin.ext hd)
    | exact congrArg (fun i => Sum.inr (_, i)) (Fin.ext hd)
    | (obtain ⟨ha, hm⟩ := hs hk
       first
       | exact absurd ha (by decide)
       | exact congrArg (fun i => Sum.inr (_, i)) (Fin.ext (by omega)))
    | cases hk

/-- All tokens of all devices. -/
def toksAll : Finset (GSem nD τ sig × ℕ × ℕ) :=
  Finset.univ.map ⟨fun cx : Dev nD × Tok => tokOf cx.1 cx.2, fun _ _ h => Prod.ext (tokOf_inj h).1 (tokOf_inj h).2⟩

/-- The ghost state at the start: the launch's own, the schedule's and the landing slots'. -/
def u₀ : UU :=
  (initOf (Pipeline.cells cfgs cellOf_inj) (Pipeline.launchToks cfgs cellOf_inj),
    initOf cellsAll toksAll, Release.initSlots (Finset.univ : Finset (Dev nD × Fin 6)) 11)

/-! ## What each device is dealt -/

/-- The landing slots' invariants, under some names. -/
def slotCtx : sProp 𝕄 :=
  iprop(∃ Ks : Dev nD × Fin 6 → ℕ, bigSep Finset.univ fun ks : Dev nD × Fin 6 => Release.slotInv ES (Ks ks) ks (slotRes (F := F) ks))

instance slotCtx_persistent : BI.Persistent (slotCtx (F := F)) := by unfold slotCtx; infer_instance

/-- A device's part of the landing slots: its own slots' counts and the tokens of its writes. -/
def SlotGhost (c : Dev nD) : sProp 𝕄 :=
  iprop(bigSep Finset.univ (fun s : Fin 6 => Release.readerAt ES (c, s) 0) ∗ run 0 64 (fun j => Release.writeTok ES (yp c, sl j) (j / 6 + 1)))

/-- What the launch deals device `c`: its cells' records, its positions, that its cells are at round 0, the tokens of its
    cells' duties, and its part of the landing slots. -/
def G (c : Dev nD) : sProp 𝕄 :=
  iprop((bigSep Finset.univ fun k : Kind => roundState ER (Rd m) (cell c k) 0)
    ∗ (bigSep Finset.univ fun k : Kind => atPos ER (cell c k) 0 ∅ 0)
    ∗ (bigSep Finset.univ fun k : Kind => reached ER (cell c k) 0)
    ∗ (bigSep Finset.univ fun x : Tok => tok c x) ∗ slotCtx (F := F) ∗ SlotGhost c)

/-- The write of a chunk, as a slot and a count. -/
def writeOf : Dev nD × Fin 64 ↪ (Dev nD × Fin 6) × ℕ :=
  ⟨fun ci => ((yp ci.1, sl ci.2.val), ci.2.val / 6), fun a b h => by
    have h1 : yp a.1 = yp b.1 := congrArg (fun x => x.1.1) h
    have h2 : a.2.val % 6 = b.2.val % 6 := congrArg (fun x : (Dev nD × Fin 6) × ℕ => x.1.2.val) h
    have h3 : a.2.val / 6 = b.2.val / 6 := congrArg (fun x : (Dev nD × Fin 6) × ℕ => x.2) h
    exact Prod.ext (by rw [← yp_yp a.1, h1, yp_yp]) (Fin.ext (by omega))⟩

/-- The tokens of all writes of all slots give each device those of its own writes. -/
theorem writes_deal :
    bigSep ((Finset.univ : Finset (Dev nD × Fin 6)) ×ˢ Finset.range 11) (fun x => (Release.writeTok ES x.1 (x.2 + 1) : sProp 𝕄))
      ⊢ bigSep Finset.univ fun c : Dev nD => run 0 64 (fun j => Release.writeTok ES (yp c, sl j) (j / 6 + 1)) := by
  have hsub : (Finset.univ : Finset (Dev nD × Fin 64)).map writeOf ⊆ (Finset.univ : Finset (Dev nD × Fin 6)) ×ˢ Finset.range 11 := by
    intro x hx
    obtain ⟨ci, -, rfl⟩ := Finset.mem_map.mp hx
    have := ci.2.isLt
    refine Finset.mem_product.mpr ⟨Finset.mem_univ _, Finset.mem_range.mpr ?_⟩
    show ci.2.val / 6 < 11
    omega
  refine BI.Entails.trans (bigSep_subset hsub) ?_
  rw [bigSep_map, bigSep_univ_prod]
  exact bigSep_mono fun c _ => Entails.of_eq <| run_chunks (fun j => (Release.writeTok ES (yp c, sl j) (j / 6 + 1) : sProp 𝕄))

/-- The slots' ghost state, dealt. -/
theorem fund_slots :
    BI.own (ES (Release.initSlots (Finset.univ : Finset (Dev nD × Fin 6)) 11))
      ⊢ (|={Set.univ}=> bigSep Finset.univ fun c : Dev nD => iprop(slotCtx (F := F) ∗ SlotGhost c) : sProp 𝕄) := by
  have hr : bigSep (Finset.univ : Finset (Dev nD × Fin 6)) (fun k => (Release.readerAt ES k 0 : sProp 𝕄))
      ⊢ bigSep Finset.univ fun c : Dev nD => bigSep Finset.univ fun s : Fin 6 => Release.readerAt ES (c, s) 0 := Entails.of_eq (bigSep_univ_prod _)
  have hall : iprop(slotCtx (F := F) ∗ bigSep Finset.univ fun c : Dev nD => (SlotGhost c : sProp 𝕄)) ⊢ bigSep Finset.univ fun c : Dev nD => iprop(slotCtx (F := F) ∗ SlotGhost c) := by
    rw [bigSep_sep']
    exact sep_mono_left (BI.bigSep_of_persistent _ _)
  iintro H
  imod (Release.slots_init ES (Finset.univ : Finset (Dev nD × Fin 6)) 11 (slotRes (F := F))) $$ H with ⟨%Ks, -, Hi, Hr, Hw⟩
  imodintro
  iapply hall
  isplitl [Hi]
  · unfold slotCtx; iexists Ks; iexact Hi
  unfold SlotGhost
  rw [bigSep_sep']
  isplitl [Hr]; · iapply hr; iexact Hr
  iapply (writes_deal (F := F)); iexact Hw

/-- The ghost state at the start, dealt. -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  have hX (Φ : GSem nD τ sig → sProp 𝕄) : bigSep cellsAll Φ ⊢ bigSep Finset.univ fun c : Dev nD => bigSep Finset.univ fun k : Kind => Φ (cell c k) := by
    unfold cellsAll; rw [bigSep_map, bigSep_univ_prod]; exact BI.Entails.refl _
  have hT : bigSep toksAll (fun x => (dutyTok ER x.1 x.2.1 x.2.2 : sProp 𝕄)) ⊢ bigSep Finset.univ fun c : Dev nD => bigSep Finset.univ fun x : Tok => tok c x := by
    unfold toksAll; rw [bigSep_map, bigSep_univ_prod]; exact BI.Entails.refl _
  unfold u₀
  iintro Hu
  ihave H := (ownU_pair _ _) $$ Hu
  icases H with ⟨HP, HB⟩
  ihave H := (own_pair_emb embR _ _) $$ HB
  icases H with ⟨HR, HS⟩
  imod (Rounds.fund ER (Rd m) cellsAll toksAll) $$ HR with ⟨Hst, Hr, Hat, Htok⟩
  imod (fund_slots (F := F)) $$ HS with Hs
  imodintro
  isplitl [HP]; · iexact HP
  unfold G
  simp only [bigSep_sep']
  isplitl [Hst]; · iapply (hX fun g => roundState ER (Rd m) g 0); iexact Hst
  isplitl [Hat]; · iapply (hX fun g => atPos ER g 0 ∅ 0); iexact Hat
  isplitl [Hr]; · iapply (hX fun g => reached ER g 0); iexact Hr
  isplitl [Htok]; · iapply hT; iexact Htok
  iexact Hs

/-! ## The invariants -/

/-- The semaphores of the kernel's own: the credits' and the arrays'. -/
abbrev Own : Type := Unit ⊕ (Arr × Fin 6)

/-- The semaphore itself. -/
def osem : Own → SemLoc sig
  | .inl _ => semOf (.inl false)
  | .inr p => semOf (.inr p)

/-- The kernel's own semaphores and the barrier's are all the kinds. -/
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : Kind => semVal (cell c k) 0 : sProp 𝕄) := by
  have e1 : (Pipeline.ownSems0 (Ix := ℕ) (Name := ℕ) (U := UU) (Lvl := ℕ) (Val := Elt F) (τ := τ) osem c : sProp 𝕄)
      = iprop(semVal (cell c (.inl false)) 0 ∗ bigSep Finset.univ fun p : Arr × Fin 6 => semVal (cell c (.inr p)) 0) := by
    unfold Pipeline.ownSems0
    rw [bigSep_univ_sum, bigSep_univ_eq_bigSepL [()] (by decide) (by decide), bigSepL_singleton]
    rfl
  have e2 : (unscopedSems0 c : sProp 𝕄) = semVal (cell c (.inl true)) 0 := by
    unfold unscopedSems0; rw [bigSep_eq_bigSepL_of_eq [SemLoc.reg barS] (by decide) (by decide), bigSepL_singleton]; rfl
  have e3 : (bigSep Finset.univ fun k : Kind => semVal (cell c k) 0 : sProp 𝕄)
      = iprop((semVal (cell c (.inl true)) 0 ∗ semVal (cell c (.inl false)) 0) ∗ bigSep Finset.univ fun p : Arr × Fin 6 => semVal (cell c (.inr p)) 0) := by
    rw [bigSep_univ_sum, bigSep_univ_eq_bigSepL [true, false] (by decide) (by decide), bigSepL_cons_cons, bigSepL_singleton]
    rfl
  rw [e1, e2, e3]
  refine BI.Entails.antisymm (show _ ⊢ (_ : sProp 𝕄) from ?_) (show _ ⊢ (_ : sProp 𝕄) from ?_)
  · iintro ⟨⟨Hc, Ha⟩, Hb⟩
    isplitl [Hb Hc]
    · isplitl [Hb]; · iexact Hb
      iexact Hc
    iexact Ha
  · iintro ⟨⟨Hb, Hc⟩, Ha⟩
    isplitl [Hc Ha]
    · isplitl [Hc]; · iexact Hc
      iexact Ha
    iexact Hb

/-- A duty is paid by the partner along `y`, by the one along `x`, or by the device itself. -/
theorem payer_cases (x : Tok) : payer x = yp ∨ payer x = xp ∨ payer x = id :=
  match x with
  | .inl d => if h : d.val = 0 then .inl (funext fun _ => if_pos h) else .inr (.inl (funext fun _ => if_neg h))
  | .inr (none, _) => .inl rfl
  | .inr (some .yr, _) => .inl rfl
  | .inr (some .xr, _) => .inr (.inl rfl)
  | .inr (some .ld, _) => .inr (.inr rfl)
  | .inr (some .st, _) => .inr (.inr rfl)
  | .inr (some .ys, _) => .inr (.inr rfl)
  | .inr (some .xs, _) => .inr (.inr rfl)

/-- Each device's tokens, given to the devices that pay with them. -/
theorem toks_around : (bigSep Finset.univ fun c : Dev nD => bigSep Finset.univ fun x : Tok => (tok c x : sProp 𝕄)) ⊢ bigSep Finset.univ fun c : Dev nD => payToks c := by
  have hp (x : Tok) : Function.Involutive (payer x) := by
    rcases payer_cases x with h | h | h <;> rw [h]
    · exact yp_yp
    · exact xp_xp
    · exact fun _ => rfl
  unfold payToks
  rw [bigSep_univ_comm, bigSep_univ_comm (fun (c : Dev nD) (x : Tok) => (tok (payer x c) x : sProp 𝕄))]
  refine bigSep_mono fun x _ => Entails.of_eq <| bigSep_univ_equiv (Function.Involutive.toPerm (payer x) (hp x)) (fun c : Dev nD => (tok c x : sProp 𝕄))

/-- What a device's body starts from, of ghost state: all invariants, under some names, and its own part. -/
def G' (c : Dev nD) : sProp 𝕄 :=
  iprop((∃ K : Dev nD × Kind → ℕ, bigSep Finset.univ fun ck : Dev nD × Kind => cellInv ER (Rd m) (K ck) (cell ck.1 ck.2))
    ∗ slotCtx (F := F) ∗ (bigSep Finset.univ fun ck : Dev nD × Kind => reached ER (cell ck.1 ck.2) 0) ∗ Ghost c)

/-- The invariants of one device's cells. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (Rd m) κ (cell c k)))
          ∗ (bigSep Finset.univ fun k : Kind => reached ER (cell c k) 0)
          ∗ (bigSep Finset.univ fun k : Kind => atPos ER (cell c k) 0 ∅ 0)
          ∗ (bigSep Finset.univ fun x : Tok => tok c x) ∗ slotCtx (F := F) ∗ SlotGhost c) := by
  have ha : iprop((bigSep Finset.univ fun k : Kind => semVal (cell c k) 0) ∗ bigSep Finset.univ fun k : Kind => roundState ER (Rd m) (cell c k) 0)
      ⊢ (|={Set.univ}=> bigSep Finset.univ fun k : Kind => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G
  iintro ⟨Hos, Hus, Hst, Hat, Hr, Htok, Hs⟩
  ihave Hv := (Entails.of_eq (sems0_eq (F := F) c)) $$ [Hos Hus]
  · isplitl [Hos] <;> iassumption
  imod ha $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hs

/-- All devices' invariants known to each. -/
theorem regroup :
    (bigSep Finset.univ fun c : Dev nD => iprop((bigSep Finset.univ fun k : Kind => iprop(∃ κ : ℕ, cellInv ER (Rd m) κ (cell c k)))
          ∗ (bigSep Finset.univ fun k : Kind => reached ER (cell c k) 0)
          ∗ (bigSep Finset.univ fun k : Kind => atPos ER (cell c k) 0 ∅ 0)
          ∗ (bigSep Finset.univ fun x : Tok => tok c x) ∗ slotCtx (F := F) ∗ SlotGhost c) : sProp 𝕄)
      ⊢ bigSep Finset.univ (G' m) := by
  have hK := BI.bigSep_exists_pi Finset.univ (fun (ck : Dev nD × Kind) (κ : ℕ) => (cellInv ER (Rd m) κ (cell ck.1 ck.2) : sProp 𝕄))
  have hI := Entails.of_eq (bigSep_univ_prod (fun ck : Dev nD × Kind => (iprop(∃ κ : ℕ, cellInv ER (Rd m) κ (cell ck.1 ck.2)) : sProp 𝕄))).symm
  have hR := Entails.of_eq (bigSep_univ_prod (fun ck : Dev nD × Kind => (reached ER (cell ck.1 ck.2) 0 : sProp 𝕄))).symm
  have hsp : iprop(((∃ K : Dev nD × Kind → ℕ, bigSep Finset.univ fun ck : Dev nD × Kind => cellInv ER (Rd m) (K ck) (cell ck.1 ck.2))
        ∗ bigSep Finset.univ fun ck : Dev nD × Kind => reached ER (cell ck.1 ck.2) 0)
      ∗ bigSep Finset.univ fun c : Dev nD => iprop((bigSep Finset.univ fun k : Kind => atPos ER (cell c k) 0 ∅ 0) ∗ payToks c ∗ slotCtx (F := F) ∗ SlotGhost c))
      ⊢ bigSep Finset.univ (G' m) := by
    refine (sep_mono_left (BI.bigSep_of_persistent (Finset.univ : Finset (Dev nD)) _)).trans ?_
    rw [← bigSep_sep']
    refine bigSep_mono fun c _ => ?_
    show iprop((_ ∗ _) ∗ _ ∗ _ ∗ _ ∗ _) ⊢ (_ : sProp 𝕄)
    unfold G' Ghost SlotGhost
    iintro ⟨⟨HK, HR⟩, Hat, Hp, Hs, Hsr, Hsw⟩
    isplitl [HK]; · iexact HK
    isplitl [Hs]; · iexact Hs
    isplitl [HR]; · iexact HR
    isplitl [Hat]; · iexact Hat
    isplitl [Hp]; · iexact Hp
    isplitl [Hsr]; · iexact Hsr
    iexact Hsw
  simp only [bigSep_sep'] at hsp ⊢
  iintro ⟨HI, HR, Hat, Htok, Hs⟩
  iapply hsp
  isplitl [HI HR]
  · isplitl [HI]
    · iapply hK; iapply hI; iexact HI
    iapply hR; iexact HR
  isplitl [Hat]; · iexact Hat
  isplitl [Htok]; · iapply (toks_around (F := F)); iexact Htok
  iexact Hs

/-- All devices' semaphores and ghost state give each device what its body starts from. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The claims -/

/-- What all devices owe together gives each device its claims. -/
theorem claims (c : Dev nD) : (Pipeline.launchCred O₀ c : sProp 𝕄) ⊢ Claims c := by
  have hb : iprop(cred (tallyAt (cell c (.inl true)) 0 1) ∗ cred (tallyAt (cell c (.inl true)) 0 1)) ⊢ (cred (tallyAt (cell c (.inl true)) 0 2) : sProp 𝕄) := by
    rw [show (2 : ℕ) = 1 + 1 from rfl, ← tallyAt_add]
    exact (cred_add _ _).2
  have hx (k : Kind) (n : ℕ) (ι : ℕ) := Pipeline.launchCred_tallyAt (τ := τ) (Name := ℕ) (U := UU) (Lvl := ℕ) (Val := Elt F) (semOf k) xp xp xp_xp xp_xp ι n c
  have hy (k : Kind) (n : ℕ) (ι : ℕ) := Pipeline.launchCred_tallyAt (τ := τ) (Name := ℕ) (U := UU) (Lvl := ℕ) (Val := Elt F) (semOf k) yp yp yp_yp yp_yp ι n c
  have e : (Pipeline.launchCred O₀ c : sProp 𝕄)
      = iprop((((run 0 64 (fun j => Pipeline.launchCred (fun d => tallyAt (cell (xp d) (ch .xr j)) j NB) c)
          ∗ run 0 58 (fun j => Pipeline.launchCred (fun d => tallyAt (cell (yp d) (.inl false)) j 1) c))
          ∗ run 0 64 fun j => Pipeline.launchCred (fun d => tallyAt (cell (yp d) (ch .yr j)) j NB) c)
        ∗ Pipeline.launchCred (fun d => tallyAt (cell (xp d) (.inl true)) 0 1) c) ∗ Pipeline.launchCred (fun d => tallyAt (cell (yp d) (.inl true)) 0 1) c) := by
    unfold run
    rw [← Pipeline.launchCred_sum, ← Pipeline.launchCred_sum, ← Pipeline.launchCred_sum, ← Pipeline.launchCred_add, ← Pipeline.launchCred_add,
      ← Pipeline.launchCred_add, ← Pipeline.launchCred_add]
    rfl
  rw [e]
  have hC := run_mono (a := 0) (b := 58) fun j _ _ => hy (.inl false) 1 j
  have hY := run_mono (a := 0) (b := 64) fun j _ _ => hy (ch .yr j) NB j
  have hX := run_mono (a := 0) (b := 64) fun j _ _ => hx (ch .xr j) NB j
  unfold Claims
  iintro ⟨⟨⟨⟨HX, HC⟩, HY⟩, H1⟩, H2⟩
  isplitl [H1 H2]
  · iapply hb
    isplitl [H1]; · iapply (hx (.inl true) 1 0); iexact H1
    iapply (hy (.inl true) 1 0); iexact H2
  isplitl [HC]; · iapply hC; iexact HC
  isplitl [HY]; · iapply hY; iexact HY
  iapply hX; iexact HX

end Cert.KernelIdeal.Proof

end
-- ==== Proof.Launched.lean ====
/-
  The launch: what each device enters and leaves the kernel with, and the run of the whole mesh.
-/
module

public import proofs.«01_k».proof.Proof.Fund
public import Idealize.ShloMosaic.Lib.Pipeline.CollectiveSegs

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## What the region begins and ends with -/

/-- What a device enters with, beyond its scratch arrays: its ghost state, its claims, the levels, and the rows of its
    argument that it reads and of its result. -/
def Start (c : Dev nD) : sProp 𝕄 :=
  iprop(G' m c ∗ Claims c ∗ levAts L lv ∗ Rows m c)

/-- What it leaves with, beyond its scratch arrays: the rows that it read, unchanged, its result, and its counters at zero. -/
def Finish (c : Dev nD) : sProp 𝕄 :=
  iprop(bigSep Finset.univ (xRow m c) ∗ owns (c : Thread nD τ) oM fullShare (OUT m c) ∗ bigSep Finset.univ (fun k : Kind => semVal (cell c k) 0))

/-- The rows of its argument that it does not read. -/
def Unread (c : Dev nD) : sProp 𝕄 :=
  bigSep Finset.univ fun i : Fin 64 => (rowM xM (xp c) i).view.loc (c : Thread nD τ) ↦[(rowM xM (xp c) i).view.set]{fullShare} m ((c : Thread nD τ).loc main_arg0)

/-- The argument's rows: those that a device reads and the others. -/
theorem arg_rows (c : Dev nD) :
    (((c : Thread nD τ).loc main_arg0 ↦{fullShare} m ((c : Thread nD τ).loc main_arg0) : sProp 𝕄)) = iprop(bigSep Finset.univ (xRow m c) ∗ Unread m c) := by
  have h := rows_eq xM c fullShare (m ((c : Thread nD τ).loc main_arg0))
  have hs : xM.view.set = (Finset.univ : Finset (Idx ((c : Thread nD τ).loc main_arg0))) := View.set_whole _
  rw [hs] at h
  exact h

/-- The result's rows, at any contents. -/
theorem res_rows (c : Dev nD) (g : Buf (Elt F) ((c : Thread nD τ).loc main_v1)) :
    ((c : Thread nD τ).loc main_v1 ↦{fullShare} g : sProp 𝕄)
      ⊢ iprop((bigSep Finset.univ fun i => some' c (rowM oM c i) fullShare) ∗ bigSep Finset.univ fun i => some' c (rowM oM (xp c) i) fullShare) := by
  have h := rows_split oM c g
  have hs : oM.view.set = (Finset.univ : Finset (Idx ((c : Thread nD τ).loc main_v1))) := View.set_whole _
  rw [hs] at h
  exact h

/-- The scratch arrays are cut into their slots, -/
theorem scratch_split (c : Dev nD) : (Pipeline.scopedRest cfg0.spec c : sProp 𝕄) ⊢ Bufs c := by
  rw [scopedRest0_eq]
  unfold Bufs
  have h0 := slots_split (F := F) locM c
  have h1 := slots_split (F := F) ysM c
  have h2 := slots_split (F := F) yrM c
  have h3 := slots_split (F := F) xsM c
  rw [show locM.view.set = (Finset.univ : Finset (Idx ((c : Thread nD τ).loc cc0_scratch0))) from View.set_whole _] at h0
  rw [show ysM.view.set = (Finset.univ : Finset (Idx ((c : Thread nD τ).loc cc0_scratch1))) from View.set_whole _] at h1
  rw [show yrM.view.set = (Finset.univ : Finset (Idx ((c : Thread nD τ).loc cc0_scratch2))) from View.set_whole _] at h2
  rw [show xsM.view.set = (Finset.univ : Finset (Idx ((c : Thread nD τ).loc cc0_scratch3))) from View.set_whole _] at h3
  exact BI.sep_mono h0 (BI.sep_mono h1 (BI.sep_mono h2 h3))

/-- and joined again from them. -/
theorem scratch_join (c : Dev nD) : Bufs c ⊢ (Pipeline.scopedRest cfg0.spec c : sProp 𝕄) := by
  rw [scopedRest0_eq]
  unfold Bufs
  have h0 := slots_join (F := F) locM c
  have h1 := slots_join (F := F) ysM c
  have h2 := slots_join (F := F) yrM c
  have h3 := slots_join (F := F) xsM c
  rw [show locM.view.set = (Finset.univ : Finset (Idx ((c : Thread nD τ).loc cc0_scratch0))) from View.set_whole _] at h0
  rw [show ysM.view.set = (Finset.univ : Finset (Idx ((c : Thread nD τ).loc cc0_scratch1))) from View.set_whole _] at h1
  rw [show yrM.view.set = (Finset.univ : Finset (Idx ((c : Thread nD τ).loc cc0_scratch2))) from View.set_whole _] at h2
  rw [show xsM.view.set = (Finset.univ : Finset (Idx ((c : Thread nD τ).loc cc0_scratch3))) from View.set_whole _] at h3
  exact BI.sep_mono h0 (BI.sep_mono h1 (BI.sep_mono h2 h3))

/-- The region's data: no windows; between its two points, what a device enters and leaves with and its scratch. -/
def dats (_ : Fin 1) (c : Dev nD) : Pipeline.Dat τ (Elt F) ℕ ℕ UU ℕ cfg0 c where
  A w := w.elim0
  after w _ := w.elim0
  Φ t := match t with
    | ⟨0, _⟩ => iprop(Start m c ∗ Bufs c)
    | ⟨_ + 1, _⟩ => iprop(Finish m c ∗ Bufs c)
  q _ := fullShare
  owed t := match t with
    | ⟨0, _⟩ => O₀ c
    | ⟨_ + 1, _⟩ => 0

/-- The body, from what a device enters with to what it leaves with. -/
theorem sound_body (c : Dev nD) :
    iprop((Start m c ∗ Bufs c) ∗ (∃ W : Waits sig ℕ, owes (c : Thread nD τ) (O₀ c) W))
      ⊢ (WP c body (fun _ => iprop((Finish m c ∗ Bufs c) ∗ (∃ W : Waits sig ℕ, owes (c : Thread nD τ) 0 W))) : sProp 𝕄) := by
  have hr : iprop(bigSep Finset.univ (fun i : Fin 64 => owns (c : Thread nD τ) (rowM oM c i) fullShare (SB m c i))
      ∗ bigSep Finset.univ (fun i : Fin 64 => owns (c : Thread nD τ) (rowM oM (xp c) i) fullShare (SB m (xp c) i)))
      ⊢ (owns (c : Thread nD τ) oM fullShare (OUT m c) : sProp 𝕄) := by
    refine (Entails.of_eq ?_).trans (rows_join oM c fullShare (OUT m c))
    rw [bigSep_congr fun i _ => congrArg (owns (c : Thread nD τ) (rowM oM c i) fullShare) (SB_eq m c c i (Or.inl rfl)),
      bigSep_congr fun i _ => congrArg (owns (c : Thread nD τ) (rowM oM (xp c) i) fullShare) (SB_eq m c (xp c) i (Or.inr rfl))]
    rfl
  unfold Start G' slotCtx
  iintro ⟨⟨⟨⟨⟨%K, HI⟩, ⟨%Ks, HS⟩, HR, HG⟩, HC, HL, Hrows⟩, HB⟩, Ho⟩
  iapply (wp_body m K Ks c _) $$ [HI HS HR HG HC HL Hrows HB Ho]
  · unfold ctx
    isplitl [HI HS HL HR]
    · isplitl [HI]; · iexact HI
      isplitl [HS]; · iexact HS
      isplitl [HL] <;> iassumption
    isplitl [HB]; · iexact HB
    isplitl [Hrows]; · iexact Hrows
    isplitl [HG]; · iexact HG
    isplitl [HC] <;> iassumption
  unfold End Finish
  iintro ⟨HB, ⟨Hx, Ho1, Ho2⟩, Hs, HW⟩
  ihave Hout := hr $$ [Ho1 Ho2]
  · isplitl [Ho1] <;> iassumption
  isplitr [HW]
  · isplitr [HB]
    · isplitl [Hx]; · iexact Hx
      isplitl [Hout] <;> iassumption
    iexact HB
  iexact HW

set_option maxHeartbeats 4000000 in
set_option maxRecDepth 65536 in
/-- The library's body obligation, on device `c`. -/
theorem body_obligation (c : Dev nD) : Pipeline.BodyObligation (dats (F := F) m 0 c) (defs₀ (F := F)) 𝒱₀ (0 : ℕ) Set.univ := fun t => by
  rw [fin_N0 t]
  have he : ∀ Φ : Fin cfg0.W → sProp 𝕄, bigSep Finset.univ Φ = iprop(emp) := fun Φ => by
    rw [show (Finset.univ : Finset (Fin cfg0.W)) = ∅ from rfl]; exact bigSep_empty
  have hd : defs₀ (F := F) .tc cfg0.body (cfg0.bodyArgs t0_0 (cfg0.slots t0_0)) = body := Eq.trans (by rfl) (bodyAt0_eq t0_0)
  rw [he, he, hd]
  rw [show (dats m 0 c).Φ t0_0.castSucc = iprop(Start m c ∗ Bufs c) from rfl, show (dats m 0 c).Φ t0_0.succ = iprop(Finish m c ∗ Bufs c) from rfl]
  unfold Pipeline.Dat.owesAt Pipeline.owesWithin
  rw [show (dats m 0 c).owed t0_0.castSucc = O₀ c from rfl, show (dats m 0 c).owed t0_0.succ = 0 from rfl]
  refine BI.Entails.trans ?_ ((sound_body m c).trans ((wp frame (wpE (defs₀ (F := F)) 𝒱₀ (c : Thread nD τ) none) Set.univ body).mono fun _ => ?_))
  · show iprop((_ ∗ _) ∗ _ ∗ _) ⊢ (_ : sProp 𝕄)
    iintro ⟨HS, ⟨%W, -, Ho⟩, -⟩
    isplitl [HS]; · iexact HS
    iexists W; iexact Ho
  · show iprop((_ ∗ _) ∗ _) ⊢ (_ : sProp 𝕄)
    iintro ⟨HF, ⟨%W', Ho⟩⟩
    isplitl [HF]; · iexact HF
    isplitl [Ho]
    · iexists W'; isplitr; · ipureintro; exact fun _ _ => Or.inl trivial
      iexact Ho
    iempintro

/-! ## The launch -/

/-- The kernel's own semaphores are told apart, and are all that the region has. -/
theorem ownSemFacts : Pipeline.OwnSemFacts cfg0.spec osem := by decide

/-- What the launch gives a device is what it enters with, and the rows of its argument that it does not read. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(Start m c ∗ Unread m c) : sProp 𝕄) := by
  rw [Pipeline.unscopedRestP_none, unscopedRest0_eq, arg_rows]
  iintro ⟨⟨⟨Hx, Hu⟩, Hv⟩, Hlev, Hcr, -, HG⟩
  ihave Hc := (claims (F := F) c) $$ Hcr
  ihave Hr := (res_rows (F := F) c _) $$ Hv
  icases Hr with ⟨H1, H2⟩
  imodintro
  unfold Start Rows
  isplitr [Hu]
  · isplitl [HG]; · iexact HG
    isplitl [Hc]; · iexact Hc
    isplitl [Hlev]; · iexact Hlev
    isplitl [Hx]; · iexact Hx
    isplitl [H1] <;> iassumption
  · iexact Hu

/-- With its scratch arrays, it is the body's precondition. -/
theorem region_enter (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start m c ∗ Bufs c) from rfl]
  iintro ⟨Hs, -, Hr⟩
  isplitl [Hs]; · iexact Hs
  iapply (scratch_split (F := F) c); iexact Hr

/-- What the body ends with gives back the scratch arrays and the kernel's own counters. -/
theorem region_leave (c : Dev nD) :
    (dats m 0 c).Φ (Fin.last cfg0.N)
      ⊢ iprop((unscopedSems0 c ∗ bigSep Finset.univ (xRow m c) ∗ owns (c : Thread nD τ) oM fullShare (OUT m c)) ∗ Pipeline.ownSems0 osem c ∗ Pipeline.scopedRest cfg0.spec c) := by
  rw [show (dats m 0 c).Φ (Fin.last cfg0.N) = iprop(Finish m c ∗ Bufs c) from rfl]
  unfold Finish
  rw [← sems0_eq]
  iintro ⟨⟨Hx, Ho, Hs, Hu⟩, HB⟩
  isplitl [Hx Ho Hu]
  · isplitl [Hu]; · iexact Hu
    isplitl [Hx] <;> iassumption
  isplitl [Hs]; · iexact Hs
  iapply (scratch_join (F := F) c); iexact HB

/-- A device's memory and its counter of the barrier at the end. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = OUT m c

/-- What a device leaves with, and the rows that it did not read, tell its memory. -/
theorem read_end (c : Dev nD) (s' : Phys nD τ sig (Elt F)) :
    iprop((unscopedSems0 c ∗ bigSep Finset.univ (xRow m c) ∗ owns (c : Thread nD τ) oM fullShare (OUT m c)) ∗ Unread m c ∗ SI s')
      ⊢ (|={Set.univ}=> iprop(⌜Ends m c s'.mem⌝ ∗ SI s') : sProp 𝕄) := by
  have hx := arg_rows m c
  rw [show owns (c : Thread nD τ) oM fullShare (OUT m c) = ((c : Thread nD τ).loc main_v1 ↦{fullShare} OUT m c : sProp 𝕄) from owns_whole _ _ _ _]
  iintro ⟨⟨Hs, Hx, Ho⟩, Hu, HSI⟩
  ihave Ha := (Entails.of_eq hx.symm) $$ [Hx Hu]
  · isplitl [Hx] <;> iassumption
  icombine HSI Ha gives %ha
  icombine HSI Ho gives %ho
  imod (Pipeline.unscopedSems0_read (X := unscopedSems0 c) (c := c) fupd_intro s') $$ [Hs HSI] with ⟨%hs, HSI⟩
  · isplitl [Hs] <;> iassumption
  imodintro
  isplitr
  · ipureintro; exact ⟨hs, Buf.eq_of_forall_mem_univ ha, Buf.eq_of_forall_mem_univ ho⟩
  iexact HSI

/-- The region has no window, so that it waits for none. -/
theorem waits (c : Dev nD) : (levAts L lv : sProp 𝕄) ⊢ Pipeline.cellsWaits cfgs (dats m) (0 : ℕ) 0 c :=
  Pipeline.cellsWaits_intro cfgs (dats m) (0 : ℕ) 0 c fun w s t => w.elim0

/-! ## The run -/

set_option maxRecDepth 65536 in
/-- At the mesh of sixteen devices, for any float values, from any memory with counters at zero: every weakly fair
    execution of @main terminates, and at every final state each device's argument is unchanged, its result is `OUT`, and
    every semaphore counter is at zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = OUT m c) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund_all m) (hglob := glob m)
    (hA := fun _ w => w.elim0) (hpf := fun _ k => k.elim0)
    (X := Start m) (Y := fun c => iprop(unscopedSems0 c ∗ bigSep Finset.univ (xRow m c) ∗ owns (c : Thread nD τ) oM fullShare (OUT m c))) (Z := Unread m)
    (hX := start_intro m ρ) (hin := region_enter m) (hout := region_leave m)
    (QY := Ends m) (hY := read_end m)
    (hQ := fun _ h hs => ⟨fun c => (h c).2.2.2, sem_eq_zero hs fun c => (h c).2.2.1⟩)

end Cert.KernelIdeal.Proof

end
-- ==== Proof.Value.lean ====
/-
  The value: over the extended reals, the result of every device is the sum of the two halves of the whole argument.
-/
module

public import proofs.«01_k».proof.Proof.Launched
public import proofs.«01_k».proof.Proof.Gen.ReferenceIdeal.Run
public import Idealize.ShloMosaic.Lib.Layout
public import Idealize.ShloMosaic.PureOps.Ideal.Laws
public import Idealize.ShloMosaic.Lib.Pipeline.Value

@[expose] public section

set_option maxRecDepth 8000

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)
variable (K : Dev nD × Kind → ℕ) (Ks : Dev nD × Fin 6 → ℕ)

/-! ## The result over the extended reals -/

/-- The place, in the whole argument, of an element of its half `k`. -/
def at2 (k : Fin 2) (j : S32768x1024.Idx) : Cert.ReferenceIdeal.S65536x1024.Idx := fun a =>
  match a with
  | ⟨0, _⟩ => ⟨k.val * 32768 + (j 0).val, by
      have h := (j 0).isLt
      have hk := k.isLt
      change (j 0).val < 32768 at h
      change k.val * 32768 + (j 0).val < 65536
      omega⟩
  | ⟨1, _⟩ => ⟨(j 1).val, (j 1).isLt⟩

/-- A device's coordinate along `y`. -/
def cy (c : Dev nD) : Fin 2 := ⟨c.val / 4 % 2, Nat.mod_lt _ (by decide)⟩

/-- A device and its partner along `y` are at the two coordinates. -/
theorem cy_yp (c : Dev nD) : cy (yp c) = 1 - cy c := by revert c; decide

/-- A device's block is the half of the whole argument at its coordinate along `y`. -/
theorem block_at (c : Dev nD) (w : Cert.ReferenceIdeal.S65536x1024.Idx → EReal) (j : S32768x1024.Idx) :
    Layout.blockN ⟨2, ![32768, 1024]⟩ ⟨2, ![65536, 1024]⟩ (Layout.meshBlock [2, 2, 4] ![[1], []] c) w (by decide) j = w (at2 (cy c) j) := by
  rw [Layout.blockN_apply]
  refine congrArg w (funext fun a => Fin.ext ?_)
  rw [Layout.TilesN.idx_val]
  match a with
  | ⟨0, _⟩ =>
    show (c.val / 4 % 2 * 1 + 0) * 32768 + (j 0).val = c.val / 4 % 2 * 32768 + (j 0).val
    omega
  | ⟨1, _⟩ =>
    show 0 * 1024 + (j 1).val = (j 1).val
    omega

/-- The reference's result at an element is the sum of the two halves there. -/
theorem ref_at (w : Cert.ReferenceIdeal.S65536x1024.Idx → EReal) (h₁ : Cert.ReferenceIdeal.S65536x1024.ShapeCasts Cert.ReferenceIdeal.S2x32768x1024)
    (h₂ : Cert.ReferenceIdeal.S2x32768x1024.ReducesTo [0] S32768x1024) (h₃ : 0 < Cert.ReferenceIdeal.S_.numel) (h₄ : FTy.bf16.bits < FTy.f32.bits) (j : S32768x1024.Idx) :
    truncf (F := Ideal) .bf16 (Host.reduceAdd (F := Ideal) (φ := .f32) (shapeCast _ w h₁) (constant (F := Ideal) Cert.ReferenceIdeal.S_ .f32 0x00000000#32) h₂ h₃) h₄ j
      = w (at2 0 j) + w (at2 1 j) := by
  have hr : Cert.ReferenceIdeal.S2x32768x1024.Reduces [0] S32768x1024 := by decide
  have hk : ∀ k : Fin 2, shapeCast Cert.ReferenceIdeal.S2x32768x1024 w h₁ (hr.lift j k) = w (at2 k j) := fun k => by
    refine shapeCast_apply w h₁ _ _ ?_
    rw [Shape.rowMajor_val_two, Shape.rowMajor_val_three]
    show (k.val * 32768 + (j 0).val) * 1024 + (j 1).val = (k.val * 32768 + (j 0).val) * 1024 + (j 1).val
    rfl
  show Ideal.hostReduceAdd h₂ (shapeCast _ w h₁) (Ideal.ofBits .f32 0x00000000#32) j = _
  rw [Ideal.hostReduceAdd_single h₂ hr, Ideal.ofBits_zero_f32, zero_add]
  refine (Fin.sum_univ_two (fun k : Fin 2 => shapeCast Cert.ReferenceIdeal.S2x32768x1024 w h₁ (hr.lift j k))).trans ?_
  rw [hk, hk]

/-- The kernel's result at an element, from arguments that are the blocks of a whole one, is the sum of the two halves there. -/
theorem out_at (m : (ℓ : Loc nD τ sig) → Buf (Elt Ideal) ℓ) (w : Cert.ReferenceIdeal.S65536x1024.Idx → EReal)
    (hm : ∀ c : Dev nD, m ((c : Thread nD τ).loc main_arg0) = Layout.blockN ⟨2, ![32768, 1024]⟩ ⟨2, ![65536, 1024]⟩ (Layout.meshBlock [2, 2, 4] ![[1], []] c) w)
    (c : Dev nD) (j : S32768x1024.Idx) : OUT m c j = w (at2 0 j) + w (at2 1 j) := by
  have h : ∀ d : Dev nD, m ((d : Thread nD τ).loc main_arg0) j = w (at2 (cy d) j) := fun d => (congrFun (hm d) j).trans (block_at d w j)
  have hs : OUT m c j = HAdd.hAdd (α := EReal) (β := EReal) (m ((src c j : Thread nD τ).loc main_arg0) j) (m ((yp (src c j) : Thread nD τ).loc main_arg0) j) := rfl
  rw [hs]
  refine (congrArg₂ (HAdd.hAdd (α := EReal) (β := EReal)) (h _) (h _)).trans ?_
  rw [cy_yp]
  generalize cy (src c j) = k
  match k with
  | ⟨0, _⟩ => rfl
  | ⟨1, _⟩ => exact add_comm (G := EReal) _ _

/-- So it is the reference's. -/
theorem out_ref (m : (ℓ : Loc nD τ sig) → Buf (Elt Ideal) ℓ) (w : Cert.ReferenceIdeal.S65536x1024.Idx → EReal)
    (hm : ∀ c : Dev nD, m ((c : Thread nD τ).loc main_arg0) = Layout.blockN ⟨2, ![32768, 1024]⟩ ⟨2, ![65536, 1024]⟩ (Layout.meshBlock [2, 2, 4] ![[1], []] c) w)
    (h₁ : Cert.ReferenceIdeal.S65536x1024.ShapeCasts Cert.ReferenceIdeal.S2x32768x1024)
    (h₂ : Cert.ReferenceIdeal.S2x32768x1024.ReducesTo [0] S32768x1024) (h₃ : 0 < Cert.ReferenceIdeal.S_.numel) (h₄ : FTy.bf16.bits < FTy.f32.bits) (c : Dev nD) :
    OUT m c = truncf (F := Ideal) .bf16 (Host.reduceAdd (F := Ideal) (φ := .f32) (shapeCast _ w h₁) (constant (F := Ideal) Cert.ReferenceIdeal.S_ .f32 0x00000000#32) h₂ h₃) h₄ :=
  funext fun j => (out_at m w hm c j).trans (ref_at w h₁ h₂ h₃ h₄ j).symm

end Cert.KernelIdeal.Proof

end
-- ==== Proof.lean ====
/-
  The claims. The kernel's run is proved once, in Proof/Launched.lean, over any float values: it terminates, leaves the
  argument unchanged, ends with each device's result at `OUT` and with every counter at zero. Each frame is that run with the
  values dropped; the idealized kernel's text is the kernel's own. Proof/Value.lean says that over the extended reals `OUT` is
  the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel runs, and leaves its argument unchanged and every counter at zero. -/
theorem frame_kernelIdeal : Cert.quiescent_KernelIdeal := fun m ρ _ =>
  (θ_run Cert.KernelIdeal.defs _ _).mono (fun _ h => ⟨fun c => (h.1 c).1, h.2⟩) (Cert.KernelIdeal.Proof.run_main (F := Ideal) m ρ)

/-- So does the kernel, whose text is the same. -/
theorem frame_kernel : Cert.quiescent_Kernel := fun m ρ _ =>
  (θ_run Cert.KernelIdeal.defs _ _).mono (fun _ h => ⟨fun c => (h.1 c).1, h.2⟩) (Cert.KernelIdeal.Proof.run_main (F := Bits) m ρ)

/-- The reference runs, and leaves its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device of the kernel ends with the reference's result. -/
theorem algebraic : Cert.algebraic_KernelIdeal_ReferenceIdeal := fun m ρ m' ρ' _ hm =>
  ⟨_, (θ_run Cert.KernelIdeal.defs _ _).mono (fun _ h c => ⟨(h.1 c).2.trans (Cert.KernelIdeal.Proof.out_ref m _ hm _ _ _ _ c), (h.1 c).1⟩)
      (Cert.KernelIdeal.Proof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
